-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 1024]⟩ ⟨2, ![2048, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![1024, 4096]⟩ ⟨2, ![2048, 4096]⟩ (Layout.meshBlock [2, 2, 2] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 4096]⟩ ⟨2, ![1024, 4096]⟩ (Layout.meshBlock [2, 2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x1024 : Shape := ⟨2, ![1024, 1024]⟩
abbrev S1024x4096 : Shape := ⟨2, ![1024, 4096]⟩
abbrev S512x4096 : Shape := ⟨2, ![512, 4096]⟩
abbrev S512x1024 : Shape := ⟨2, ![512, 1024]⟩
abbrev S8 : Shape := ⟨1, ![8]⟩
abbrev S_ : Shape := ⟨0, ![]⟩
abbrev S1024x128 : Shape := ⟨2, ![1024, 128]⟩
abbrev S1 : Shape := ⟨1, ![1]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S512x4096, .f32⟩
  | .local _ .vmem, ⟨0, _⟩ => ⟨S1024x1024, .f32⟩
  | .local _ .vmem, ⟨1, _⟩ => ⟨S1024x4096, .f32⟩
  | .local _ .vmem, ⟨2, _⟩ => ⟨S512x4096, .f32⟩
  | .local _ .vmem, ⟨3, _⟩ => ⟨S1024x1024, .f32⟩
  | .local _ .vmem, ⟨4, _⟩ => ⟨S1024x1024, .f32⟩
  | .local _ .vmem, ⟨5, _⟩ => ⟨S512x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v27 : BitVec 32 := Scalar.muli v9 c4_i32_16
  let v28 : BitVec 32 := Scalar.addi c0_i32 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v29 : BitVec 32 := Scalar.muli v5 c2_i32_17
  let v30 : BitVec 32 := Scalar.addi v28 v29
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v31 : BitVec 32 := Scalar.muli v8 c1_i32_18
  let v32 : BitVec 32 := Scalar.addi v30 v31
  v32.toNat
def k0_dev2 (d0 : Dev nD) : Nat :=
  let c0_i32_21 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_20 : BitVec 32 := 4#32
  let v33 : BitVec 32 := Scalar.muli v2 c4_i32_20
  let v34 : BitVec 32 := Scalar.addi c0_i32_21 v33
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_22 : BitVec 32 := 2#32
  let v35 : BitVec 32 := Scalar.muli v10 c2_i32_22
  let v36 : BitVec 32 := Scalar.addi v34 v35
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_23 : BitVec 32 := 1#32
  let v37 : BitVec 32 := Scalar.muli v8 c1_i32_23
  let v38 : BitVec 32 := Scalar.addi v36 v37
  v38.toNat
def k0_dev3 (d0 : Dev nD) : Nat :=
  let c0_i32_26 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_25 : BitVec 32 := 4#32
  let v39 : BitVec 32 := Scalar.muli v2 c4_i32_25
  let v40 : BitVec 32 := Scalar.addi c0_i32_26 v39
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_27 : BitVec 32 := 2#32
  let v41 : BitVec 32 := Scalar.muli v5 c2_i32_27
  let v42 : BitVec 32 := Scalar.addi v40 v41
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_28 : BitVec 32 := 1#32
  let v43 : BitVec 32 := Scalar.muli v11 c1_i32_28
  let v44 : BitVec 32 := Scalar.addi v42 v43
  v44.toNat
def k0_off1 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c0_i32_48 : BitVec 32 := 0#32
  ![v25.toNat, 0]
def k0_dev4 (d0 : Dev nD) : Nat :=
  let c0_i32_43 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_42 : BitVec 32 := 4#32
  let v63 : BitVec 32 := Scalar.muli v9 c4_i32_42
  let v64 : BitVec 32 := Scalar.addi c0_i32_43 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_44 : BitVec 32 := 2#32
  let v65 : BitVec 32 := Scalar.muli v5 c2_i32_44
  let v66 : BitVec 32 := Scalar.addi v64 v65
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_45 : BitVec 32 := 1#32
  let v67 : BitVec 32 := Scalar.muli v8 c1_i32_45
  let v68 : BitVec 32 := Scalar.addi v66 v67
  v68.toNat
def k0_off2 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c128_i32_64 : BitVec 32 := 128#32
  ![v25.toNat, 128]
def k0_dev5 (d0 : Dev nD) : Nat :=
  let c0_i32_60 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_59 : BitVec 32 := 4#32
  let v87 : BitVec 32 := Scalar.muli v9 c4_i32_59
  let v88 : BitVec 32 := Scalar.addi c0_i32_60 v87
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_61 : BitVec 32 := 2#32
  let v89 : BitVec 32 := Scalar.muli v5 c2_i32_61
  let v90 : BitVec 32 := Scalar.addi v88 v89
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_62 : BitVec 32 := 1#32
  let v91 : BitVec 32 := Scalar.muli v8 c1_i32_62
  let v92 : BitVec 32 := Scalar.addi v90 v91
  v92.toNat
def k0_off3 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c256_i32_80 : BitVec 32 := 256#32
  ![v25.toNat, 256]
def k0_dev6 (d0 : Dev nD) : Nat :=
  let c0_i32_76 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_75 : BitVec 32 := 4#32
  let v111 : BitVec 32 := Scalar.muli v9 c4_i32_75
  let v112 : BitVec 32 := Scalar.addi c0_i32_76 v111
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_77 : BitVec 32 := 2#32
  let v113 : BitVec 32 := Scalar.muli v5 c2_i32_77
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_78 : BitVec 32 := 1#32
  let v115 : BitVec 32 := Scalar.muli v8 c1_i32_78
  let v116 : BitVec 32 := Scalar.addi v114 v115
  v116.toNat
def k0_off4 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c384_i32_96 : BitVec 32 := 384#32
  ![v25.toNat, 384]
def k0_dev7 (d0 : Dev nD) : Nat :=
  let c0_i32_92 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_91 : BitVec 32 := 4#32
  let v135 : BitVec 32 := Scalar.muli v9 c4_i32_91
  let v136 : BitVec 32 := Scalar.addi c0_i32_92 v135
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_93 : BitVec 32 := 2#32
  let v137 : BitVec 32 := Scalar.muli v5 c2_i32_93
  let v138 : BitVec 32 := Scalar.addi v136 v137
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_94 : BitVec 32 := 1#32
  let v139 : BitVec 32 := Scalar.muli v8 c1_i32_94
  let v140 : BitVec 32 := Scalar.addi v138 v139
  v140.toNat
def k0_off5 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c512_i32_113 : BitVec 32 := 512#32
  ![v25.toNat, 512]
def k0_dev8 (d0 : Dev nD) : Nat :=
  let c0_i32_108 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_107 : BitVec 32 := 4#32
  let v159 : BitVec 32 := Scalar.muli v9 c4_i32_107
  let v160 : BitVec 32 := Scalar.addi c0_i32_108 v159
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v161 : BitVec 32 := Scalar.muli v5 c2_i32_109
  let v162 : BitVec 32 := Scalar.addi v160 v161
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_110 : BitVec 32 := 1#32
  let v163 : BitVec 32 := Scalar.muli v8 c1_i32_110
  let v164 : BitVec 32 := Scalar.addi v162 v163
  v164.toNat
def k0_off6 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c640_i32_128 : BitVec 32 := 640#32
  ![v25.toNat, 640]
def k0_dev9 (d0 : Dev nD) : Nat :=
  let c0_i32_124 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_123 : BitVec 32 := 4#32
  let v183 : BitVec 32 := Scalar.muli v9 c4_i32_123
  let v184 : BitVec 32 := Scalar.addi c0_i32_124 v183
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_125 : BitVec 32 := 2#32
  let v185 : BitVec 32 := Scalar.muli v5 c2_i32_125
  let v186 : BitVec 32 := Scalar.addi v184 v185
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_126 : BitVec 32 := 1#32
  let v187 : BitVec 32 := Scalar.muli v8 c1_i32_126
  let v188 : BitVec 32 := Scalar.addi v186 v187
  v188.toNat
def k0_off7 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c768_i32_143 : BitVec 32 := 768#32
  ![v25.toNat, 768]
def k0_dev10 (d0 : Dev nD) : Nat :=
  let c0_i32_139 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_138 : BitVec 32 := 4#32
  let v207 : BitVec 32 := Scalar.muli v9 c4_i32_138
  let v208 : BitVec 32 := Scalar.addi c0_i32_139 v207
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_140 : BitVec 32 := 2#32
  let v209 : BitVec 32 := Scalar.muli v5 c2_i32_140
  let v210 : BitVec 32 := Scalar.addi v208 v209
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_141 : BitVec 32 := 1#32
  let v211 : BitVec 32 := Scalar.muli v8 c1_i32_141
  let v212 : BitVec 32 := Scalar.addi v210 v211
  v212.toNat
def k0_off8 (d0 : Dev nD) : Fin 2 → Nat :=
  let c1_i32_14 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.subi c1_i32_14 v2
  let c512_i32 : BitVec 32 := 512#32
  let v25 : BitVec 32 := Scalar.muli v24 c512_i32
  let c896_i32_158 : BitVec 32 := 896#32
  ![v25.toNat, 896]
def k0_dev11 (d0 : Dev nD) : Nat :=
  let c0_i32_154 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_153 : BitVec 32 := 4#32
  let v231 : BitVec 32 := Scalar.muli v9 c4_i32_153
  let v232 : BitVec 32 := Scalar.addi c0_i32_154 v231
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_155 : BitVec 32 := 2#32
  let v233 : BitVec 32 := Scalar.muli v5 c2_i32_155
  let v234 : BitVec 32 := Scalar.addi v232 v233
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_156 : BitVec 32 := 1#32
  let v235 : BitVec 32 := Scalar.muli v8 c1_i32_156
  let v236 : BitVec 32 := Scalar.addi v234 v235
  v236.toNat
def k0_off9 (d0 : Dev nD) (c0_i32_194 : BitVec 32) : Fin 2 → Nat :=
  let c0_i32_201 : BitVec 32 := 0#32
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_193 : BitVec 32 := 1024#32
  let v295 : BitVec 32 := Scalar.muli v13 c1024_i32_193
  let v296 : BitVec 32 := Scalar.addi v295 c0_i32_194
  ![0, v296.toNat]
def k0_dev12 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v297 : BitVec 32 := Scalar.muli v2 c4_i32_197
  let v298 : BitVec 32 := Scalar.addi c0_i32_198 v297
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_199 : BitVec 32 := 2#32
  let v299 : BitVec 32 := Scalar.muli v10 c2_i32_199
  let v300 : BitVec 32 := Scalar.addi v298 v299
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v301 : BitVec 32 := Scalar.muli v8 c1_i32_200
  let v302 : BitVec 32 := Scalar.addi v300 v301
  v302.toNat
def k0_dev13 (d0 : Dev nD) : Nat :=
  let c0_i32_210 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_209 : BitVec 32 := 4#32
  let v313 : BitVec 32 := Scalar.muli v2 c4_i32_209
  let v314 : BitVec 32 := Scalar.addi c0_i32_210 v313
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_211 : BitVec 32 := 2#32
  let v315 : BitVec 32 := Scalar.muli v5 c2_i32_211
  let v316 : BitVec 32 := Scalar.addi v314 v315
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_212 : BitVec 32 := 1#32
  let v317 : BitVec 32 := Scalar.muli v11 c1_i32_212
  let v318 : BitVec 32 := Scalar.addi v316 v317
  v318.toNat
def k0_dev14 (d0 : Dev nD) : Nat :=
  let c0_i32_255 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_254 : BitVec 32 := 4#32
  let v379 : BitVec 32 := Scalar.muli v2 c4_i32_254
  let v380 : BitVec 32 := Scalar.addi c0_i32_255 v379
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_256 : BitVec 32 := 2#32
  let v381 : BitVec 32 := Scalar.muli v10 c2_i32_256
  let v382 : BitVec 32 := Scalar.addi v380 v381
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_257 : BitVec 32 := 1#32
  let v383 : BitVec 32 := Scalar.muli v8 c1_i32_257
  let v384 : BitVec 32 := Scalar.addi v382 v383
  v384.toNat
def k0_dev15 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v395 : BitVec 32 := Scalar.muli v2 c4_i32_266
  let v396 : BitVec 32 := Scalar.addi c0_i32_267 v395
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_268 : BitVec 32 := 2#32
  let v397 : BitVec 32 := Scalar.muli v5 c2_i32_268
  let v398 : BitVec 32 := Scalar.addi v396 v397
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_269 : BitVec 32 := 1#32
  let v399 : BitVec 32 := Scalar.muli v11 c1_i32_269
  let v400 : BitVec 32 := Scalar.addi v398 v399
  v400.toNat
def k0_dev16 (d0 : Dev nD) : Nat :=
  let c0_i32_312 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_311 : BitVec 32 := 4#32
  let v461 : BitVec 32 := Scalar.muli v2 c4_i32_311
  let v462 : BitVec 32 := Scalar.addi c0_i32_312 v461
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_313 : BitVec 32 := 2#32
  let v463 : BitVec 32 := Scalar.muli v10 c2_i32_313
  let v464 : BitVec 32 := Scalar.addi v462 v463
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_314 : BitVec 32 := 1#32
  let v465 : BitVec 32 := Scalar.muli v8 c1_i32_314
  let v466 : BitVec 32 := Scalar.addi v464 v465
  v466.toNat
def k0_dev17 (d0 : Dev nD) : Nat :=
  let c0_i32_324 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_323 : BitVec 32 := 4#32
  let v477 : BitVec 32 := Scalar.muli v2 c4_i32_323
  let v478 : BitVec 32 := Scalar.addi c0_i32_324 v477
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_325 : BitVec 32 := 2#32
  let v479 : BitVec 32 := Scalar.muli v5 c2_i32_325
  let v480 : BitVec 32 := Scalar.addi v478 v479
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_326 : BitVec 32 := 1#32
  let v481 : BitVec 32 := Scalar.muli v11 c1_i32_326
  let v482 : BitVec 32 := Scalar.addi v480 v481
  v482.toNat
def k0_dev18 (d0 : Dev nD) : Nat :=
  let c0_i32_369 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_368 : BitVec 32 := 4#32
  let v543 : BitVec 32 := Scalar.muli v2 c4_i32_368
  let v544 : BitVec 32 := Scalar.addi c0_i32_369 v543
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_370 : BitVec 32 := 2#32
  let v545 : BitVec 32 := Scalar.muli v10 c2_i32_370
  let v546 : BitVec 32 := Scalar.addi v544 v545
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_371 : BitVec 32 := 1#32
  let v547 : BitVec 32 := Scalar.muli v8 c1_i32_371
  let v548 : BitVec 32 := Scalar.addi v546 v547
  v548.toNat
def k0_dev19 (d0 : Dev nD) : Nat :=
  let c0_i32_381 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_380 : BitVec 32 := 4#32
  let v559 : BitVec 32 := Scalar.muli v2 c4_i32_380
  let v560 : BitVec 32 := Scalar.addi c0_i32_381 v559
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_382 : BitVec 32 := 2#32
  let v561 : BitVec 32 := Scalar.muli v5 c2_i32_382
  let v562 : BitVec 32 := Scalar.addi v560 v561
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_383 : BitVec 32 := 1#32
  let v563 : BitVec 32 := Scalar.muli v11 c1_i32_383
  let v564 : BitVec 32 := Scalar.addi v562 v563
  v564.toNat
def k0_dev20 (d0 : Dev nD) : Nat :=
  let c0_i32_426 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_425 : BitVec 32 := 4#32
  let v625 : BitVec 32 := Scalar.muli v2 c4_i32_425
  let v626 : BitVec 32 := Scalar.addi c0_i32_426 v625
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_427 : BitVec 32 := 2#32
  let v627 : BitVec 32 := Scalar.muli v10 c2_i32_427
  let v628 : BitVec 32 := Scalar.addi v626 v627
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_428 : BitVec 32 := 1#32
  let v629 : BitVec 32 := Scalar.muli v8 c1_i32_428
  let v630 : BitVec 32 := Scalar.addi v628 v629
  v630.toNat
def k0_dev21 (d0 : Dev nD) : Nat :=
  let c0_i32_438 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_437 : BitVec 32 := 4#32
  let v641 : BitVec 32 := Scalar.muli v2 c4_i32_437
  let v642 : BitVec 32 := Scalar.addi c0_i32_438 v641
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_439 : BitVec 32 := 2#32
  let v643 : BitVec 32 := Scalar.muli v5 c2_i32_439
  let v644 : BitVec 32 := Scalar.addi v642 v643
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_440 : BitVec 32 := 1#32
  let v645 : BitVec 32 := Scalar.muli v11 c1_i32_440
  let v646 : BitVec 32 := Scalar.addi v644 v645
  v646.toNat
def k0_dev22 (d0 : Dev nD) : Nat :=
  let c0_i32_483 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_482 : BitVec 32 := 4#32
  let v707 : BitVec 32 := Scalar.muli v2 c4_i32_482
  let v708 : BitVec 32 := Scalar.addi c0_i32_483 v707
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_484 : BitVec 32 := 2#32
  let v709 : BitVec 32 := Scalar.muli v10 c2_i32_484
  let v710 : BitVec 32 := Scalar.addi v708 v709
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_485 : BitVec 32 := 1#32
  let v711 : BitVec 32 := Scalar.muli v8 c1_i32_485
  let v712 : BitVec 32 := Scalar.addi v710 v711
  v712.toNat
def k0_dev23 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v723 : BitVec 32 := Scalar.muli v2 c4_i32_494
  let v724 : BitVec 32 := Scalar.addi c0_i32_495 v723
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v725 : BitVec 32 := Scalar.muli v5 c2_i32_496
  let v726 : BitVec 32 := Scalar.addi v724 v725
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_497 : BitVec 32 := 1#32
  let v727 : BitVec 32 := Scalar.muli v11 c1_i32_497
  let v728 : BitVec 32 := Scalar.addi v726 v727
  v728.toNat
def k0_dev24 (d0 : Dev nD) : Nat :=
  let c0_i32_540 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_539 : BitVec 32 := 4#32
  let v789 : BitVec 32 := Scalar.muli v2 c4_i32_539
  let v790 : BitVec 32 := Scalar.addi c0_i32_540 v789
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_541 : BitVec 32 := 2#32
  let v791 : BitVec 32 := Scalar.muli v10 c2_i32_541
  let v792 : BitVec 32 := Scalar.addi v790 v791
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_542 : BitVec 32 := 1#32
  let v793 : BitVec 32 := Scalar.muli v8 c1_i32_542
  let v794 : BitVec 32 := Scalar.addi v792 v793
  v794.toNat
def k0_dev25 (d0 : Dev nD) : Nat :=
  let c0_i32_552 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_551 : BitVec 32 := 4#32
  let v805 : BitVec 32 := Scalar.muli v2 c4_i32_551
  let v806 : BitVec 32 := Scalar.addi c0_i32_552 v805
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_553 : BitVec 32 := 2#32
  let v807 : BitVec 32 := Scalar.muli v5 c2_i32_553
  let v808 : BitVec 32 := Scalar.addi v806 v807
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_554 : BitVec 32 := 1#32
  let v809 : BitVec 32 := Scalar.muli v11 c1_i32_554
  let v810 : BitVec 32 := Scalar.addi v808 v809
  v810.toNat
def k0_dev26 (d0 : Dev nD) : Nat :=
  let c0_i32_597 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_596 : BitVec 32 := 4#32
  let v871 : BitVec 32 := Scalar.muli v2 c4_i32_596
  let v872 : BitVec 32 := Scalar.addi c0_i32_597 v871
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_598 : BitVec 32 := 2#32
  let v873 : BitVec 32 := Scalar.muli v10 c2_i32_598
  let v874 : BitVec 32 := Scalar.addi v872 v873
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_599 : BitVec 32 := 1#32
  let v875 : BitVec 32 := Scalar.muli v8 c1_i32_599
  let v876 : BitVec 32 := Scalar.addi v874 v875
  v876.toNat
def k0_dev27 (d0 : Dev nD) : Nat :=
  let c0_i32_609 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_608 : BitVec 32 := 4#32
  let v887 : BitVec 32 := Scalar.muli v2 c4_i32_608
  let v888 : BitVec 32 := Scalar.addi c0_i32_609 v887
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_610 : BitVec 32 := 2#32
  let v889 : BitVec 32 := Scalar.muli v5 c2_i32_610
  let v890 : BitVec 32 := Scalar.addi v888 v889
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_611 : BitVec 32 := 1#32
  let v891 : BitVec 32 := Scalar.muli v11 c1_i32_611
  let v892 : BitVec 32 := Scalar.addi v890 v891
  v892.toNat
def k0_off10 (d0 : Dev nD) (c0_i32_617 : BitVec 32) : Fin 2 → Nat :=
  let c0_i32_624 : BitVec 32 := 0#32
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_616 : BitVec 32 := 1024#32
  let v901 : BitVec 32 := Scalar.muli v19 c1024_i32_616
  let v902 : BitVec 32 := Scalar.addi v901 c0_i32_617
  ![0, v902.toNat]
def k0_dev28 (d0 : Dev nD) : Nat :=
  let c0_i32_633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_632 : BitVec 32 := 4#32
  let v917 : BitVec 32 := Scalar.muli v2 c4_i32_632
  let v918 : BitVec 32 := Scalar.addi c0_i32_633 v917
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_634 : BitVec 32 := 2#32
  let v919 : BitVec 32 := Scalar.muli v10 c2_i32_634
  let v920 : BitVec 32 := Scalar.addi v918 v919
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_635 : BitVec 32 := 1#32
  let v921 : BitVec 32 := Scalar.muli v8 c1_i32_635
  let v922 : BitVec 32 := Scalar.addi v920 v921
  v922.toNat
def k0_off11 (d0 : Dev nD) (c128_i32_641 : BitVec 32) : Fin 2 → Nat :=
  let c0_i32_648 : BitVec 32 := 0#32
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_640 : BitVec 32 := 1024#32
  let v931 : BitVec 32 := Scalar.muli v16 c1024_i32_640
  let v932 : BitVec 32 := Scalar.addi v931 c128_i32_641
  ![0, v932.toNat]
def k0_dev29 (d0 : Dev nD) : Nat :=
  let c0_i32_657 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_656 : BitVec 32 := 4#32
  let v947 : BitVec 32 := Scalar.muli v2 c4_i32_656
  let v948 : BitVec 32 := Scalar.addi c0_i32_657 v947
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_658 : BitVec 32 := 2#32
  let v949 : BitVec 32 := Scalar.muli v5 c2_i32_658
  let v950 : BitVec 32 := Scalar.addi v948 v949
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_659 : BitVec 32 := 1#32
  let v951 : BitVec 32 := Scalar.muli v11 c1_i32_659
  let v952 : BitVec 32 := Scalar.addi v950 v951
  v952.toNat
def k0_dev30 (d0 : Dev nD) : Nat :=
  let c0_i32_681 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_680 : BitVec 32 := 4#32
  let v977 : BitVec 32 := Scalar.muli v2 c4_i32_680
  let v978 : BitVec 32 := Scalar.addi c0_i32_681 v977
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_682 : BitVec 32 := 2#32
  let v979 : BitVec 32 := Scalar.muli v10 c2_i32_682
  let v980 : BitVec 32 := Scalar.addi v978 v979
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_683 : BitVec 32 := 1#32
  let v981 : BitVec 32 := Scalar.muli v8 c1_i32_683
  let v982 : BitVec 32 := Scalar.addi v980 v981
  v982.toNat
def k0_dev31 (d0 : Dev nD) : Nat :=
  let c0_i32_705 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_704 : BitVec 32 := 4#32
  let v1007 : BitVec 32 := Scalar.muli v2 c4_i32_704
  let v1008 : BitVec 32 := Scalar.addi c0_i32_705 v1007
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_706 : BitVec 32 := 2#32
  let v1009 : BitVec 32 := Scalar.muli v5 c2_i32_706
  let v1010 : BitVec 32 := Scalar.addi v1008 v1009
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_707 : BitVec 32 := 1#32
  let v1011 : BitVec 32 := Scalar.muli v11 c1_i32_707
  let v1012 : BitVec 32 := Scalar.addi v1010 v1011
  v1012.toNat
def k0_dev32 (d0 : Dev nD) : Nat :=
  let c0_i32_729 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_728 : BitVec 32 := 4#32
  let v1037 : BitVec 32 := Scalar.muli v2 c4_i32_728
  let v1038 : BitVec 32 := Scalar.addi c0_i32_729 v1037
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_730 : BitVec 32 := 2#32
  let v1039 : BitVec 32 := Scalar.muli v10 c2_i32_730
  let v1040 : BitVec 32 := Scalar.addi v1038 v1039
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_731 : BitVec 32 := 1#32
  let v1041 : BitVec 32 := Scalar.muli v8 c1_i32_731
  let v1042 : BitVec 32 := Scalar.addi v1040 v1041
  v1042.toNat
def k0_dev33 (d0 : Dev nD) : Nat :=
  let c0_i32_753 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_752 : BitVec 32 := 4#32
  let v1067 : BitVec 32 := Scalar.muli v2 c4_i32_752
  let v1068 : BitVec 32 := Scalar.addi c0_i32_753 v1067
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_754 : BitVec 32 := 2#32
  let v1069 : BitVec 32 := Scalar.muli v5 c2_i32_754
  let v1070 : BitVec 32 := Scalar.addi v1068 v1069
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_755 : BitVec 32 := 1#32
  let v1071 : BitVec 32 := Scalar.muli v11 c1_i32_755
  let v1072 : BitVec 32 := Scalar.addi v1070 v1071
  v1072.toNat
def k0_dev34 (d0 : Dev nD) : Nat :=
  let c0_i32_777 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_776 : BitVec 32 := 4#32
  let v1097 : BitVec 32 := Scalar.muli v2 c4_i32_776
  let v1098 : BitVec 32 := Scalar.addi c0_i32_777 v1097
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_778 : BitVec 32 := 2#32
  let v1099 : BitVec 32 := Scalar.muli v10 c2_i32_778
  let v1100 : BitVec 32 := Scalar.addi v1098 v1099
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_779 : BitVec 32 := 1#32
  let v1101 : BitVec 32 := Scalar.muli v8 c1_i32_779
  let v1102 : BitVec 32 := Scalar.addi v1100 v1101
  v1102.toNat
def k0_dev35 (d0 : Dev nD) : Nat :=
  let c0_i32_801 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_800 : BitVec 32 := 4#32
  let v1127 : BitVec 32 := Scalar.muli v2 c4_i32_800
  let v1128 : BitVec 32 := Scalar.addi c0_i32_801 v1127
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_802 : BitVec 32 := 2#32
  let v1129 : BitVec 32 := Scalar.muli v5 c2_i32_802
  let v1130 : BitVec 32 := Scalar.addi v1128 v1129
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_803 : BitVec 32 := 1#32
  let v1131 : BitVec 32 := Scalar.muli v11 c1_i32_803
  let v1132 : BitVec 32 := Scalar.addi v1130 v1131
  v1132.toNat
def k0_off12 (d0 : Dev nD) (c0_i32_821 : BitVec 32) : Fin 2 → Nat :=
  let c0_i32_828 : BitVec 32 := 0#32
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_820 : BitVec 32 := 1024#32
  let v1155 : BitVec 32 := Scalar.muli v23 c1024_i32_820
  let v1156 : BitVec 32 := Scalar.addi v1155 c0_i32_821
  ![0, v1156.toNat]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Place.lean ====
/-
# Where everything sits: devices, chunks of the buffers, and what the chunks finally hold

The mesh is 2 by 2 by 2. Device `c` has the coordinates `x = c / 4` and, of the four devices with the same `x`, the number
`c % 4`. A *slot* is a block of 1024 columns of the output, one per device with the same `x`; a *chunk* is 128 columns of a slot.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Devices -/

/-- The neighbour of `c` along the first mesh axis. -/
def xn (c : Dev nD) : Dev nD := ⟨(c.val + 4) % 8, Nat.mod_lt _ (by decide)⟩
/-- The neighbour of `c` along the second mesh axis. -/
def yn (c : Dev nD) : Dev nD := ⟨4 * (c.val / 4) + (c.val % 4 + 2) % 4, by have := c.isLt; simp only [nD] at *; omega⟩
/-- The neighbour of `c` along the third mesh axis. -/
def zn (c : Dev nD) : Dev nD := ⟨2 * (c.val / 2) + (c.val + 1) % 2, by have := c.isLt; simp only [nD] at *; omega⟩

/-- The coordinate of `c` along the first mesh axis. -/
def xb (c : Dev nD) : ℕ := c.val / 4
/-- The slot of `c`: its number among the devices with its first coordinate. -/
def qn (c : Dev nD) : ℕ := c.val % 4
/-- The slots of the other three devices with the first coordinate of `c`. -/
def qy (c : Dev nD) : ℕ := qn (yn c)
def qz (c : Dev nD) : ℕ := qn (zn c)
def qd (c : Dev nD) : ℕ := qn (yn (zn c))

theorem xn_xn (c : Dev nD) : xn (xn c) = c := by revert c; decide
theorem yn_yn (c : Dev nD) : yn (yn c) = c := by revert c; decide
theorem zn_zn (c : Dev nD) : zn (zn c) = c := by revert c; decide
theorem zn_yn (c : Dev nD) : zn (yn c) = yn (zn c) := by revert c; decide
theorem xb_yn (c : Dev nD) : xb (yn c) = xb c := by revert c; decide
theorem xb_zn (c : Dev nD) : xb (zn c) = xb c := by revert c; decide
theorem xb_xn (c : Dev nD) : xb (xn c) = 1 - xb c := by revert c; decide
theorem qn_xn (c : Dev nD) : qn (xn c) = qn c := by revert c; decide
theorem qy_yn (c : Dev nD) : qy (yn c) = qn c := by revert c; decide
theorem qz_zn (c : Dev nD) : qz (zn c) = qn c := by revert c; decide
theorem qz_yn (c : Dev nD) : qz (yn c) = qd c := by revert c; decide
theorem qy_zn (c : Dev nD) : qy (zn c) = qd c := by revert c; decide
theorem qd_yn (c : Dev nD) : qd (yn c) = qz c := by revert c; decide
theorem qd_zn (c : Dev nD) : qd (zn c) = qy c := by revert c; decide
theorem xb_lt (c : Dev nD) : xb c < 2 := by revert c; decide
theorem qn_lt (c : Dev nD) : qn c < 4 := Nat.mod_lt _ (by decide)
theorem qy_lt (c : Dev nD) : qy c < 4 := qn_lt _
theorem qz_lt (c : Dev nD) : qz c < 4 := qn_lt _
theorem qd_lt (c : Dev nD) : qd c < 4 := qn_lt _

/-- The relay of chunk `s` goes along the second axis for an even chunk, along the third for an odd one: its target, and
    the slot it carries. -/
def rl (c : Dev nD) (s : ℕ) : Dev nD := if s % 2 = 0 then yn c else zn c
def rq (c : Dev nD) (s : ℕ) : ℕ := if s % 2 = 0 then qz c else qy c
theorem rl_rl (c : Dev nD) (s : ℕ) : rl (rl c s) s = c := by
  unfold rl; split
  · exact yn_yn c
  · exact zn_zn c
theorem rq_rl (c : Dev nD) (s : ℕ) : qd (rl c s) = rq c s := by
  unfold rl rq; split
  · exact qd_yn c
  · exact qd_zn c
theorem xb_rl (c : Dev nD) (s : ℕ) : xb (rl c s) = xb c := by
  unfold rl; split
  · exact xb_yn c
  · exact xb_zn c
theorem rq_lt (c : Dev nD) (s : ℕ) : rq c s < 4 := by unfold rq; split <;> exact qn_lt _

/-! ## Indices and boxes of a buffer of rank two -/

/-- The index (a, b), each coordinate taken modulo the extent. -/
def ix (n0 n1 : ℕ) [NeZero n0] [NeZero n1] (a b : ℕ) : (⟨2, ![n0, n1]⟩ : Shape).Idx :=
  Shape.pair (d := ![n0, n1]) (Fin.ofNat n0 a) (Fin.ofNat n1 b)

theorem ix_eq {n0 n1 : ℕ} [NeZero n0] [NeZero n1] {a b : ℕ} (i : (⟨2, ![n0, n1]⟩ : Shape).Idx)
    (h0 : (i 0).val = a) (h1 : (i 1).val = b) : ix n0 n1 a b = i := by
  funext k
  refine Fin.cases ?_ (fun k => ?_) k
  · refine Fin.ext ?_
    show a % n0 = (i 0).val
    rw [← h0]; exact Nat.mod_eq_of_lt (i 0).isLt
  · have hk : k = 0 := Subsingleton.elim _ _
    subst hk
    refine Fin.ext ?_
    show b % n1 = (i 1).val
    rw [← h1]; exact Nat.mod_eq_of_lt (i 1).isLt

theorem ix_0 {n0 n1 : ℕ} [NeZero n0] [NeZero n1] {a b : ℕ} (h : a < n0) : ((ix n0 n1 a b) 0).val = a := Nat.mod_eq_of_lt h
theorem ix_1 {n0 n1 : ℕ} [NeZero n0] [NeZero n1] {a b : ℕ} (h : b < n1) : ((ix n0 n1 a b) 1).val = b := Nat.mod_eq_of_lt h

/-- The elements of rows [a0, a0 + l0) and columns [a1, a1 + l1). -/
def box {d : Fin 2 → ℕ} (a0 l0 a1 l1 : ℕ) : Finset (⟨2, d⟩ : Shape).Idx :=
  Finset.univ.filter fun i => (a0 ≤ (i 0).val ∧ (i 0).val < a0 + l0) ∧ (a1 ≤ (i 1).val ∧ (i 1).val < a1 + l1)

theorem mem_box {d : Fin 2 → ℕ} {a0 l0 a1 l1 : ℕ} {i : (⟨2, d⟩ : Shape).Idx} :
    i ∈ box a0 l0 a1 l1 ↔ (a0 ≤ (i 0).val ∧ (i 0).val < a0 + l0) ∧ (a1 ≤ (i 1).val ∧ (i 1).val < a1 + l1) := by
  simp only [box, Finset.mem_filter, Finset.mem_univ, true_and]

/-- A unit rectangle's elements are a box. -/
theorem unit_set {d : Fin 2 → ℕ} {l : Fin 2 → ℕ} {o : Fin 2 → ℕ} {inb} :
    (Rect.unit (s := ⟨2, d⟩) o l inb).set = box (o 0) (l 0) (o 1) (l 1) := by
  ext i
  rw [Rect.mem_set_unit, mem_box]
  exact Fin.forall_fin_two

theorem emb_0 {d : Fin 2 → ℕ} {l : Fin 2 → ℕ} {o : Fin 2 → ℕ} {inb} (j : (Rect.unit (s := ⟨2, d⟩) o l inb).shape.Idx) :
    (((Rect.unit (s := ⟨2, d⟩) o l inb).emb j) 0).val = o 0 + (j 0).val := by
  show o 0 + 1 * (j 0).val = _; rw [Nat.one_mul]
theorem emb_1 {d : Fin 2 → ℕ} {l : Fin 2 → ℕ} {o : Fin 2 → ℕ} {inb} (j : (Rect.unit (s := ⟨2, d⟩) o l inb).shape.Idx) :
    (((Rect.unit (s := ⟨2, d⟩) o l inb).emb j) 1).val = o 1 + (j 1).val := by
  show o 1 + 1 * (j 1).val = _; rw [Nat.one_mul]

/-- Where a unit rectangle's index sits in the buffer. -/
theorem emb_ix {n0 n1 : ℕ} [NeZero n0] [NeZero n1] {l : Fin 2 → ℕ} {o : Fin 2 → ℕ} {inb}
    (j : (Rect.unit (s := ⟨2, ![n0, n1]⟩) o l inb).shape.Idx) :
    (Rect.unit (s := ⟨2, ![n0, n1]⟩) o l inb).emb j = ix n0 n1 (o 0 + (j 0).val) (o 1 + (j 1).val) :=
  (ix_eq _ (emb_0 j) (emb_1 j)).symm

/-- A write through a rectangle of a view agrees on the rectangle with any contents that hold the payload there. -/
theorem write_agree {Val : EltTy → Type} {κ : Kind} {sp : Space} {s : Shape} {e : EltTy} (v : View sig κ sp s e) (r : Rect s)
    (f : v.ty.Contents Val) (w : r.shape.Idx → Val e) (g : v.ty.Contents Val) (h : ∀ j, w j = v.read Val g (r.emb j)) :
    ∀ i ∈ (v.slice r).set, (v.slice r).write Val f w Finset.univ i = g i := by
  intro i hi
  obtain ⟨j, -, rfl⟩ := Finset.mem_map.mp hi
  rw [View.write_emb_of_mem _ _ (Finset.mem_univ j), h j, View.read_apply, cast_cast]
  rfl

/-! ## The memrefs the body names -/

abbrev xM : Memref sig .tc .vmem S1024x1024 .f32 := Memref.whole cc0_stg0_0
abbrev dM : Memref sig .tc .vmem S1024x4096 .f32 := Memref.whole cc0_stg1_0
abbrev oM : Memref sig .tc .vmem S512x4096 .f32 := Memref.whole cc0_stg2_0
abbrev tM : Memref sig .tc .vmem S1024x1024 .f32 := Memref.whole cc0_scratch0
abbrev pM : Memref sig .tc .vmem S1024x1024 .f32 := Memref.whole cc0_scratch1
abbrev rM : Memref sig .tc .vmem S512x1024 .f32 := Memref.whole cc0_scratch2

abbrev xLoc (c : Dev nD) := (c : Thread nD τ).loc cc0_stg0_0
abbrev dLoc (c : Dev nD) := (c : Thread nD τ).loc cc0_stg1_0
abbrev oLoc (c : Dev nD) := (c : Thread nD τ).loc cc0_stg2_0
abbrev tLoc (c : Dev nD) := (c : Thread nD τ).loc cc0_scratch0
abbrev pLoc (c : Dev nD) := (c : Thread nD τ).loc cc0_scratch1
abbrev rLoc (c : Dev nD) := (c : Thread nD τ).loc cc0_scratch2

/-! ## What the buffers hold -/

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-- Device `c`'s blocks of the two inputs, as staged. -/
def xs (c : Dev nD) : (cc0_stg0_0 : Ref sig .tc).ty.Contents (Elt F) :=
  (win0_0.blk (0 : Fin 1)).view.read (Elt F) (m ((c : Thread nD τ).loc main_arg0))
def ds (c : Dev nD) : (cc0_stg1_0 : Ref sig .tc).ty.Contents (Elt F) :=
  (win0_1.blk (0 : Fin 1)).view.read (Elt F) (m ((c : Thread nD τ).loc main_arg1))

/-- The transpose the kernel keeps of device `c`'s block of `x`. -/
def xt (c : Dev nD) : (cc0_scratch0 : Ref sig .tc).ty.Contents (Elt F) := k0_pay1 (xs m c)

/-- 128 columns of device `c`'s block of `dy`, those of chunk `s` of slot `q`. -/
def dyc (c : Dev nD) (q s : ℕ) : Vec F S1024x128 .f32 :=
  fun j => ds m c (ix 1024 4096 (j 0).val (1024 * q + 128 * s + (j 1).val))

/-- Chunk `s` of device `c`'s partial product, for its own slot. -/
def prodc (c : Dev nD) (s : ℕ) : FVec F S1024x128 .f32 := k0_pay2 (xt m c) (dyc m c (qn c) s)

/-- The partial product of device `c`, all eight chunks. -/
def partB (c : Dev nD) : (cc0_scratch1 : Ref sig .tc).ty.Contents (Elt F) :=
  fun i => prodc m c ((i 1).val / 128) (ix 1024 128 (i 0).val ((i 1).val % 128))

/-- What arrives from the neighbour along the first axis: that device's rows of the half that is `c`'s. -/
def rxB (c : Dev nD) : (cc0_scratch2 : Ref sig .tc).ty.Contents (Elt F) :=
  fun i => partB m (xn c) (ix 1024 1024 (512 * xb c + (i 0).val) (i 1).val)

/-- Chunk `s` of the rows device `c` keeps of its own partial product, and of what arrives. -/
def ownc (c : Dev nD) (s : ℕ) : Vec F S512x128 .f32 :=
  fun j => partB m c (ix 1024 1024 (512 * xb c + (j 0).val) (128 * s + (j 1).val))
def rxc (c : Dev nD) (s : ℕ) : Vec F S512x128 .f32 :=
  fun j => rxB m c (ix 512 1024 (j 0).val (128 * s + (j 1).val))

/-- Chunk `s` of device `c`'s share of the output: the sum of the two. -/
def sumc (c : Dev nD) (s : ℕ) : FVec F S512x128 .f32 := k0_pay34 (ownc m c s) (rxc m c s)

/-- The device with first coordinate `x` and slot `q`. -/
def at4 (x q : ℕ) : Dev nD := ⟨(4 * x + q) % 8, Nat.mod_lt _ (by decide)⟩
theorem at4_self (c : Dev nD) : at4 (xb c) (qn c) = c := by revert c; decide

/-- The output of device `c`: in slot `q` the sums of the device with that slot. -/
def outB (c : Dev nD) : (cc0_stg2_0 : Ref sig .tc).ty.Contents (Elt F) :=
  fun i => sumc m (at4 (xb c) ((i 1).val / 1024)) ((i 1).val % 1024 / 128) (ix 512 128 (i 0).val ((i 1).val % 128))

/-- Devices with the same first coordinate compute the same output. -/
theorem outB_congr {c d : Dev nD} (h : xb c = xb d) : outB m c = outB m d := by unfold outB; rw [h]

theorem outB_chunk (c : Dev nD) (s : ℕ) (hs : s < 8) (a b : ℕ) (ha : a < 512) (hb : b < 128) :
    outB m c (ix 512 4096 a (1024 * qn c + 128 * s + b)) = sumc m c s (ix 512 128 a b) := by
  have hq := qn_lt c
  unfold outB
  rw [ix_0 ha, ix_1 (by omega)]
  rw [show (1024 * qn c + 128 * s + b) / 1024 = qn c by omega, show (1024 * qn c + 128 * s + b) % 1024 / 128 = s by omega,
    show (1024 * qn c + 128 * s + b) % 128 = b by omega, at4_self]

theorem partB_chunk (c : Dev nD) (s : ℕ) (hs : s < 8) (a b : ℕ) (ha : a < 1024) (hb : b < 128) :
    partB m c (ix 1024 1024 a (128 * s + b)) = prodc m c s (ix 1024 128 a b) := by
  unfold partB
  rw [ix_0 ha, ix_1 (by omega), show (128 * s + b) / 128 = s by omega, show (128 * s + b) % 128 = b by omega]

end Cert.KernelIdeal.Mesh

end
-- ==== Proof.Protocol.lean ====
/-
# The protocol: who hands what to whom, on which semaphore, and in which order waits are allowed

Every semaphore runs one round. A device's barrier cell has three duties, one for each neighbour: the neighbour's signal hands over
the parts of the neighbour's buffers that the device will write. A DMA cell has one duty, paid by the copy that completes on it: a
receive cell's hands over the landed chunk with its contents, a send cell's hands the source back.
-/
module

public import proofs.«01_k».proof.Proof.Place

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Pieces of the buffers -/

/-- Chunk `s` of device `c`'s partial product. -/
def Pc (c : Dev nD) (s : ℕ) (f : (cc0_scratch1 : Ref sig .tc).ty.Contents (Elt F)) : sProp 𝕄 :=
  pLoc c ↦[(box 0 1024 (128 * s) 128 : Finset S1024x1024.Idx)]{fullShare} f
/-- Half `h` of the rows of chunk `s` of device `c`'s partial product. -/
def Ph (c : Dev nD) (h s : ℕ) (f : (cc0_scratch1 : Ref sig .tc).ty.Contents (Elt F)) : sProp 𝕄 :=
  pLoc c ↦[(box (512 * h) 512 (128 * s) 128 : Finset S1024x1024.Idx)]{fullShare} f
/-- Chunk `s` of the buffer the first axis' copies land in. -/
def Rx (c : Dev nD) (s : ℕ) (f : (cc0_scratch2 : Ref sig .tc).ty.Contents (Elt F)) : sProp 𝕄 :=
  rLoc c ↦[(box 0 512 (128 * s) 128 : Finset S512x1024.Idx)]{fullShare} f
/-- Chunk `s` of slot `q` of device `c`'s output, at share `sh`. -/
def Ou (c : Dev nD) (q s : ℕ) (sh : PosShare TreeShare) (f : (cc0_stg2_0 : Ref sig .tc).ty.Contents (Elt F)) : sProp 𝕄 :=
  oLoc c ↦[(box 0 512 (1024 * q + 128 * s) 128 : Finset S512x4096.Idx)]{sh} f

/-- The same with contents nobody knows. -/
def PcE (c : Dev nD) (s : ℕ) : sProp 𝕄 := iprop(∃ f, Pc c s f)
def RxE (c : Dev nD) (s : ℕ) : sProp 𝕄 := iprop(∃ f, Rx c s f)
def OuE (c : Dev nD) (q s : ℕ) : sProp 𝕄 := iprop(∃ f, Ou c q s fullShare f)

omit [FloatOps F] in
instance Pc_storable (c : Dev nD) (s : ℕ) (f) : BI.Storable (upEmb : UEmb _ 𝕄) (Pc (F := F) c s f) := by unfold Pc; infer_instance
omit [FloatOps F] in
instance Ph_storable (c : Dev nD) (h s : ℕ) (f) : BI.Storable (upEmb : UEmb _ 𝕄) (Ph (F := F) c h s f) := by unfold Ph; infer_instance
omit [FloatOps F] in
instance Rx_storable (c : Dev nD) (s : ℕ) (f) : BI.Storable (upEmb : UEmb _ 𝕄) (Rx (F := F) c s f) := by unfold Rx; infer_instance
omit [FloatOps F] in
instance Ou_storable (c : Dev nD) (q s : ℕ) (sh : PosShare TreeShare) (f) : BI.Storable (upEmb : UEmb _ 𝕄) (Ou (F := F) c q s sh f) := by
  unfold Ou; infer_instance
omit [FloatOps F] in
instance RxE_storable (c : Dev nD) (s : ℕ) : BI.Storable (upEmb : UEmb _ 𝕄) (RxE (F := F) c s) := by unfold RxE; infer_instance
omit [FloatOps F] in
instance OuE_storable (c : Dev nD) (q s : ℕ) : BI.Storable (upEmb : UEmb _ 𝕄) (OuE (F := F) c q s) := by unfold OuE; infer_instance

/-! ## The cells -/

/-- The runtime's barrier semaphore, which no launch scopes. -/
abbrev barS : Sem sig := (SemArray.scalar (sig.barrier 0 rfl) : Sems sig S_).sem
/-- The DMA semaphore of kind `k` and chunk `s`: the kinds are send and receive of the first axis' copy, of the second's, of the
    third's, and of the relay. -/
def dsem (k s : ℕ) : DmaSem sig := ⟨3 + 8 * (k % 8) + s % 8, by have := Nat.mod_lt k (show 0 < 8 by decide); have := Nat.mod_lt s (show 0 < 8 by decide); show _ < 67; omega⟩

abbrev barCell (c : Dev nD) : GSem nD τ sig := ((c : Thread nD τ), .reg barS)
abbrev dcell (c : Dev nD) (k s : ℕ) : GSem nD τ sig := ((c : Thread nD τ), .dma (dsem k s))

/-- A device's cells: its barrier cell and its sixty-four DMA cells. -/
abbrev CI : Type := Unit ⊕ (Fin 8 × Fin 8)
abbrev osem : Fin 8 × Fin 8 → SemLoc sig := fun ks => .dma (dsem ks.1.val ks.2.val)
abbrev csem : CI → SemLoc sig := fun | .inl _ => .reg barS | .inr ks => osem ks
abbrev kcell (ck : Dev nD × CI) : GSem nD τ sig := ((ck.1 : Thread nD τ), csem ck.2)
/-- The name under which the DMA cell of kind `k` and chunk `s` is listed. -/
def kd (c : Dev nD) (k s : ℕ) : Dev nD × CI := (c, .inr (Fin.ofNat 8 k, Fin.ofNat 8 s))

theorem kcell_kd (c : Dev nD) (k s : ℕ) : kcell (kd c k s) = dcell c k s := by
  refine Prod.ext rfl (congrArg SemLoc.dma (Fin.ext ?_))
  show 3 + 8 * (k % 8 % 8) + s % 8 % 8 = 3 + 8 * (k % 8) + s % 8
  rw [Nat.mod_mod, Nat.mod_mod]

/-- What one copy credits: the bytes of a 512 by 128 block, counted as the machine counts them. -/
abbrev N : ℕ := (cc0_scratch2 : Ref sig .tc).dmaCredit S512x128 .f32
theorem N_pos : 0 < N := sig.dmaCredit_pos _ _ _ _ _ (by decide)
theorem N_out : (cc0_stg2_0 : Ref sig .tc).dmaCredit S512x128 .f32 = N := rfl

/-! ## The payloads -/

/-- What device `c`'s copies along the second and third axes, and its relay, land in. -/
def landY (c : Dev nD) (s : ℕ) : sProp 𝕄 := OuE (yn c) (qn c) s
def landZ (c : Dev nD) (s : ℕ) : sProp 𝕄 := OuE (zn c) (qn c) s
def landR (c : Dev nD) (s : ℕ) : sProp 𝕄 := OuE (rl c s) (rq c s) s

omit [FloatOps F] in
instance landY_storable (c : Dev nD) (s : ℕ) : BI.Storable (upEmb : UEmb _ 𝕄) (landY (F := F) c s) := by unfold landY; infer_instance
omit [FloatOps F] in
instance landZ_storable (c : Dev nD) (s : ℕ) : BI.Storable (upEmb : UEmb _ 𝕄) (landZ (F := F) c s) := by unfold landZ; infer_instance
omit [FloatOps F] in
instance landR_storable (c : Dev nD) (s : ℕ) : BI.Storable (upEmb : UEmb _ 𝕄) (landR (F := F) c s) := by unfold landR; infer_instance

/-- Of a relay's target: `a` for an even chunk; `b` for an odd one. -/
def par (s : ℕ) (a b : sProp 𝕄) : sProp 𝕄 := if s % 2 = 0 then a else b
omit [FloatOps F] in
instance par_storable (s : ℕ) (a b : sProp 𝕄) [BI.Storable (upEmb : UEmb _ 𝕄) a] [BI.Storable (upEmb : UEmb _ 𝕄) b] :
    BI.Storable (upEmb : UEmb _ 𝕄) (par (F := F) s a b) := by unfold par; split <;> infer_instance

/-- What each neighbour's signal hands device `c`. -/
def barPay (c : Dev nD) (d : Fin 3) : sProp 𝕄 :=
  if d = 0 then bigSep Finset.univ fun s : Fin 8 => RxE (xn c) s.val
  else if d = 1 then bigSep Finset.univ fun s : Fin 8 => iprop(landY c s.val ∗ par s.val (landR c s.val) iprop(emp))
  else bigSep Finset.univ fun s : Fin 8 => iprop(landZ c s.val ∗ par s.val iprop(emp) (landR c s.val))

/-- What the copy completing on device `c`'s DMA cell of kind `k` and chunk `s` hands over. -/
def dmaPay (c : Dev nD) (k s : ℕ) : sProp 𝕄 :=
  if k = 0 then Ph c (1 - xb c) s (partB m c)
  else if k = 1 then Rx c s (rxB m c)
  else if k = 2 then Ou c (qn c) s fullShare.left (outB m c)
  else if k = 3 then Ou c (qy c) s fullShare (outB m c)
  else if k = 4 then Ou c (qn c) s fullShare.right (outB m c)
  else if k = 5 then Ou c (qz c) s fullShare (outB m c)
  else if k = 6 then Ou c (rq c s) s fullShare (outB m c)
  else Ou c (qd c) s fullShare (outB m c)

omit [FloatOps F] in
instance barPay_storable (c : Dev nD) (d : Fin 3) : BI.Storable (upEmb : UEmb _ 𝕄) (barPay (F := F) c d) := by
  unfold barPay; (repeat' split) <;> infer_instance
instance dmaPay_storable (c : Dev nD) (k s : ℕ) : BI.Storable (upEmb : UEmb _ 𝕄) (dmaPay m c k s) := by
  unfold dmaPay; (repeat' split) <;> infer_instance

/-! ## The schedule -/

/-- One round: a barrier cell has three duties of one unit, a DMA cell of the kernel one duty of a block's credit. -/
def Rd : Rounds.Schedule (GSem nD τ sig) (Fin 3) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma _ => N
  payload g _ d := match g.2 with
    | .reg _ => barPay g.1.1 d
    | .dma q => dmaPay m g.1.1 ((q.val - 3) / 8) ((q.val - 3) % 8)
  amount_pos g _ _ _ := by
    rcases g with ⟨t, sm | sm⟩
    · exact Nat.one_pos
    · exact N_pos

instance Rd_payload_storable (g : GSem nD τ sig) (r : ℕ) (d : Fin 3) :
    BI.Storable (upEmb : UEmb _ 𝕄) ((Rd (F := F) m).payload g r d) := by
  rcases g with ⟨t, sm | sm⟩
  · show BI.Storable upEmb (barPay t.1 d); infer_instance
  · show BI.Storable upEmb (dmaPay m t.1 ((sm.val - 3) / 8) ((sm.val - 3) % 8)); infer_instance

section Tables
variable (c : Dev nD) (k s : ℕ)

theorem duties_bar : (Rd (F := F) m).duties (barCell c) 0 = Finset.univ := by
  show (if (0 : ℕ) = 0 ∧ (c.tc : Thread nD τ).2 = .tc then (Finset.univ : Finset (Fin 3)) else ∅) = _
  exact if_pos ⟨rfl, rfl⟩
theorem duties_dma : (Rd (F := F) m).duties (dcell c k s) 0 = {0} := by
  show (if (0 : ℕ) = 0 ∧ (c.tc : Thread nD τ).2 = .tc then (if 3 ≤ 3 + 8 * (k % 8) + s % 8 then ({0} : Finset (Fin 3)) else ∅) else ∅) = _
  rw [if_pos ⟨rfl, rfl⟩, if_pos (by omega)]
theorem duties_later (g : GSem nD τ sig) : ∀ r, 1 ≤ r → (Rd (F := F) m).duties g r = ∅ :=
  fun r hr => if_neg fun h => by omega
theorem amount_bar (d : Fin 3) : (Rd (F := F) m).amount (barCell c) 0 d = 1 := rfl
theorem amount_dma (d : Fin 3) : (Rd (F := F) m).amount (dcell c k s) 0 d = N := rfl
theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_dma : (Rd (F := F) m).expect (dcell c k s) 0 = N := by
  unfold Schedule.expect Schedule.amountOf
  rw [duties_dma, Finset.sum_singleton, amount_dma]
theorem payload_bar (d : Fin 3) : (Rd (F := F) m).payload (barCell c) 0 d = barPay c d := rfl
theorem payload_dma (hk : k < 8) (hs : s < 8) (d : Fin 3) : (Rd (F := F) m).payload (dcell c k s) 0 d = dmaPay m c k s := by
  show dmaPay m c ((3 + 8 * (k % 8) + s % 8 - 3) / 8) ((3 + 8 * (k % 8) + s % 8 - 3) % 8) = _
  rw [show (3 + 8 * (k % 8) + s % 8 - 3) / 8 = k by omega, show (3 + 8 * (k % 8) + s % 8 - 3) % 8 = s by omega]
/-- All of the barrier's round: the three hand-overs. -/
theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide)]
  rfl
/-- All of a DMA cell's round: its one hand-over. -/
theorem rest_dma (hk : k < 8) (hs : s < 8) :
    bigSep ((Rd (F := F) m).duties (dcell c k s) 0 \ ∅) (fun d => (Rd (F := F) m).payload (dcell c k s) 0 d) = dmaPay m c k s := by
  rw [Finset.sdiff_empty, duties_dma, bigSep_singleton, payload_dma m c k s hk hs]

end Tables

/-! ## What each device owes, and the levels -/

/-- The credit of one copy of chunk `s` along each axis, and of the relay. -/
def tX (c : Dev nD) (s : ℕ) : CellTallies nD τ sig Unit := tallyAt (dcell (xn c) 1 s) () N
def tY (c : Dev nD) (s : ℕ) : CellTallies nD τ sig Unit := tallyAt (dcell (yn c) 3 s) () N
def tZ (c : Dev nD) (s : ℕ) : CellTallies nD τ sig Unit := tallyAt (dcell (zn c) 5 s) () N
def tR (c : Dev nD) (s : ℕ) : CellTallies nD τ sig Unit := tallyAt (dcell (rl c s) 7 s) () N

/-- What is owed when the last `j` relays are still to come; -/
def oR (c : Dev nD) : ℕ → CellTallies nD τ sig Unit
  | 0 => 0
  | j + 1 => oR c j + tR c (7 - j)
/-- the last `j` pairs of copies along the second and third axes; -/
def oY (c : Dev nD) : ℕ → CellTallies nD τ sig Unit
  | 0 => oR c 8
  | j + 1 => (oY c j + tZ c (7 - j)) + tY c (7 - j)
/-- the last `j` copies along the first axis. -/
def oX (c : Dev nD) : ℕ → CellTallies nD τ sig Unit
  | 0 => oY c 8
  | j + 1 => oX c j + tX c (7 - j)
/-- At launch: all of it and a unit to each neighbour's barrier cell. -/
def O₀ (c : Dev nD) : CellTallies nD τ sig Unit :=
  ((oX c 8 + tallyAt (barCell (zn c)) () 1) + tallyAt (barCell (yn c)) () 1) + tallyAt (barCell (xn c)) () 1

def L (g : GSem nD τ sig) : Finset Unit := if g.1.2 = .tc then {()} else ∅
/-- Levels: staging and send cells 0, the barrier 1, the receive cells of the first axis 2, of the other two 3, of the relay 4. -/
def lv (g : GSem nD τ sig) (_ : Unit) : ℕ := match g.2 with
  | .reg _ => 1
  | .dma q => if q.val < 11 then 0 else if q.val < 19 then 2 else if q.val < 27 then 0 else if q.val < 35 then 3
    else if q.val < 43 then 0 else if q.val < 51 then 3 else if q.val < 59 then 0 else 4

theorem L_of_ne (g : GSem nD τ sig) (h : g.1.2 ≠ .tc) : L g = ∅ := if_neg h
theorem L_tc (c : Dev nD) (sm : SemLoc sig) : L ((c : Thread nD τ), sm) = {()} := if_pos rfl

theorem dsem_val (k s : ℕ) : (dsem k s).val = 3 + 8 * (k % 8) + s % 8 := rfl

/-- Everything owed in `O` lies above level `n`. -/
def Above (n : ℕ) (O : CellTallies nD τ sig Unit) : Prop := ∀ g u, 0 < O g u → g.1.2 = .tc ∧ n < lv g u

theorem Above.zero (n : ℕ) : Above n 0 := fun g u h => absurd h (Nat.lt_irrefl 0)
theorem Above.add {n : ℕ} {O O' : CellTallies nD τ sig Unit} (h : Above n O) (h' : Above n O') : Above n (O + O') := by
  intro g u hg
  rw [Pi.add_apply, Finsupp.add_apply] at hg
  rcases Nat.eq_zero_or_pos (O g u) with h0 | h0
  · exact h' g u (by omega)
  · exact h g u h0
theorem Above.tally {n : ℕ} {c : Dev nD} {sm : SemLoc sig} {k : ℕ} (h : n < lv ((c : Thread nD τ), sm) ()) :
    Above n (tallyAt ((c : Thread nD τ), sm) () k) := by
  intro g u hg
  obtain ⟨rfl, rfl⟩ := Pipeline.tallyAt_pos hg
  exact ⟨rfl, h⟩

theorem lv_dma (c : Dev nD) (k s n : ℕ) (h : (if 3 + 8 * (k % 8) + s % 8 < 11 then 0 else if 3 + 8 * (k % 8) + s % 8 < 19 then 2 else if 3 + 8 * (k % 8) + s % 8 < 27 then 0 else if 3 + 8 * (k % 8) + s % 8 < 35 then 3
    else if 3 + 8 * (k % 8) + s % 8 < 43 then 0 else if 3 + 8 * (k % 8) + s % 8 < 51 then 3 else if 3 + 8 * (k % 8) + s % 8 < 59 then 0 else 4) = n) : lv (dcell c k s) () = n := h
theorem lv_1 (c : Dev nD) (s : ℕ) : lv (dcell c 1 s) () = 2 := lv_dma c 1 s 2 (by (repeat' split) <;> omega)
theorem lv_3 (c : Dev nD) (s : ℕ) : lv (dcell c 3 s) () = 3 := lv_dma c 3 s 3 (by (repeat' split) <;> omega)
theorem lv_5 (c : Dev nD) (s : ℕ) : lv (dcell c 5 s) () = 3 := lv_dma c 5 s 3 (by (repeat' split) <;> omega)
theorem lv_7 (c : Dev nD) (s : ℕ) : lv (dcell c 7 s) () = 4 := lv_dma c 7 s 4 (by (repeat' split) <;> omega)

theorem above_oR (c : Dev nD) (j : ℕ) : Above 3 (oR c j) := by
  induction j with
  | zero => exact Above.zero 3
  | succ j ih => exact ih.add (Above.tally (by rw [lv_7]; decide))
theorem Above.mono {n n' : ℕ} (h : n' ≤ n) {O : CellTallies nD τ sig Unit} (hO : Above n O) : Above n' O :=
  fun g u hg => ⟨(hO g u hg).1, Nat.lt_of_le_of_lt h (hO g u hg).2⟩
theorem above_oY (c : Dev nD) (j : ℕ) : Above 2 (oY c j) := by
  induction j with
  | zero => exact (above_oR c 8).mono (by decide)
  | succ j ih => exact (ih.add (Above.tally (by rw [lv_5]; decide))).add (Above.tally (by rw [lv_3]; decide))
theorem above_oX (c : Dev nD) (j : ℕ) : Above 1 (oX c j) := by
  induction j with
  | zero => exact (above_oY c 8).mono (by decide)
  | succ j ih => exact ih.add (Above.tally (by rw [lv_1]; decide))
theorem above_O₀ (c : Dev nD) : Above 0 (O₀ c) :=
  ((((above_oX c 8).mono (by decide)).add (Above.tally Nat.one_pos)).add (Above.tally Nat.one_pos)).add (Above.tally Nat.one_pos)

omit [FloatOps F] in
/-- A wait on a cell is allowed while everything owed lies above it. -/
theorem mayWait_above (c : Dev nD) (sm : SemLoc sig) (n : ℕ) (hsm : lv ((c : Thread nD τ), sm) () ≤ n) (O : CellTallies nD τ sig Unit)
    (hO : Above n O) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-! ## What everybody knows -/

/-- The cells' invariants under the names `K`, that every cell has reached round 0, and the levels: facts that can be copied. -/
def records (K : Dev nD × CI → ℕ) : sProp 𝕄 :=
  iprop((bigSep Finset.univ fun ck => cellInv ER (Rd m) (K ck) (kcell ck)) ∗ (bigSep Finset.univ fun ck => reached ER (kcell ck) 0) ∗ levAts L lv)

instance records_persistent (K : Dev nD × CI → ℕ) : BI.Persistent (records m K) := by unfold records; infer_instance

variable (K : Dev nD × CI → ℕ)

theorem inv_at (ck : Dev nD × CI) : (records m K : sProp 𝕄) ⊢ cellInv ER (Rd m) (K ck) (kcell ck) := by
  unfold records
  iintro ⟨H, -⟩
  iapply (show (bigSep Finset.univ fun ck : Dev nD × CI => (cellInv ER (Rd m) (K ck) (kcell ck) : sProp 𝕄)) ⊢ cellInv ER (Rd m) (K ck) (kcell ck)
    from bigSep_elim (Finset.mem_univ ck)) $$ H
theorem reached_at (ck : Dev nD × CI) : (records m K : sProp 𝕄) ⊢ reached ER (kcell ck) 0 := by
  unfold records
  iintro ⟨-, H, -⟩
  iapply (show (bigSep Finset.univ fun ck : Dev nD × CI => (reached ER (kcell ck) 0 : sProp 𝕄)) ⊢ reached ER (kcell ck) 0
    from bigSep_elim (Finset.mem_univ ck)) $$ H
theorem inv_d (c : Dev nD) (k s : ℕ) : (records m K : sProp 𝕄) ⊢ cellInv ER (Rd m) (K (kd c k s)) (dcell c k s) := by
  rw [← kcell_kd]; exact inv_at m K _
theorem reached_d (c : Dev nD) (k s : ℕ) : (records m K : sProp 𝕄) ⊢ reached ER (dcell c k s) 0 := by
  rw [← kcell_kd]; exact reached_at m K _
theorem inv_b (c : Dev nD) : (records m K : sProp 𝕄) ⊢ cellInv ER (Rd m) (K (c, .inl ())) (barCell c) := inv_at m K (c, .inl ())
theorem reached_b (c : Dev nD) : (records m K : sProp 𝕄) ⊢ reached ER (barCell c) 0 := reached_at m K (c, .inl ())
theorem levels (K : Dev nD × CI → ℕ) : (records m K : sProp 𝕄) ⊢ levAts L lv := by
  unfold records
  iintro ⟨-, -, H⟩
  iexact H

end Cert.KernelIdeal.Mesh

end
-- ==== Proof.Steps.lean ====
/-
# The steps of the body

One lemma for each kind of step, stated once for every chunk: the product of a chunk, the copies along the three axes, the relay, the
sum of a chunk, and the waits. What a device holds is kept chunk by chunk in `St`, whose indices count how far each piece has come.
-/
module

public import proofs.«01_k».proof.Proof.Protocol

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Running a program on device `c`. -/
abbrev Run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ)

/-! ## What a device holds -/

/-- The staged block of `dy` and the transpose: what the products read. -/
def In (c : Dev nD) : sProp 𝕄 := iprop((dLoc c ↦{fullShare} ds m c) ∗ (tLoc c ↦{fullShare} xt m c))

/-- Chunk `s` of the partial product: unknown until the branch of the device's own slot ran (`a` branches are past), then known, and
    after the copy (`a = 5`) the half that stays. -/
def A (c : Dev nD) (s a : ℕ) : sProp 𝕄 :=
  if a = 5 then Ph c (xb c) s (partB m c) else if a ≤ qn c then PcE c s else Pc c s (partB m c)

/-- Chunk `s` of the device's own slot of the output: unknown until the branch of the device ran (`b` branches are past), then known;
    a half share after the first copy of it (`b = 9`), nothing after the second (`b = 10`). -/
def B (c : Dev nD) (s b : ℕ) : sProp 𝕄 :=
  if b = 10 then iprop(emp) else if b = 9 then Ou c (qn c) s fullShare.right (outB m c)
  else if b ≤ 2 * qn c + xb c then OuE c (qn c) s else Ou c (qn c) s fullShare (outB m c)

/-- A send cell: before the copy, in flight, and waited for with the source back. -/
def Sd (c : Dev nD) (k s i : ℕ) : sProp 𝕄 :=
  if i = 0 then iprop(atPos ER (dcell c k s) 0 ∅ 0 ∗ dutyTok ER (dcell c k s) 0 0)
  else if i = 1 then iprop(atPos ER (dcell c k s) 0 ∅ 0 ∗ cred (tallyAt (dcell c k s) () N))
  else iprop(atPos ER (dcell c k s) 1 ∅ 0 ∗ dmaPay m c k s)

/-- The device that device `c`'s copy with receive kind `k` goes to, and where the copy lands. -/
def tgt (c : Dev nD) (k s : ℕ) : Dev nD := if k = 1 then xn c else if k = 3 then yn c else if k = 5 then zn c else rl c s
def land (c : Dev nD) (k s : ℕ) : sProp 𝕄 :=
  if k = 1 then RxE (xn c) s else if k = 3 then landY c s else if k = 5 then landZ c s else landR c s

/-- A receive cell and the right to pay its counterpart: nothing happened, own copy under way, waited for with the block here, and the
    block passed on. -/
def Rv (c : Dev nD) (k s i : ℕ) : sProp 𝕄 :=
  if i = 0 then iprop(atPos ER (dcell c k s) 0 ∅ 0 ∗ cred (tallyAt (dcell c k s) () N) ∗ dutyTok ER (dcell (tgt c k s) k s) 0 0 ∗ land c k s)
  else if i = 1 then iprop(atPos ER (dcell c k s) 0 ∅ 0 ∗ cred (tallyAt (dcell c k s) () N))
  else if i = 2 then iprop(atPos ER (dcell c k s) 1 ∅ 0 ∗ dmaPay m c k s)
  else atPos ER (dcell c k s) 1 ∅ 0

/-- All of chunk `s`. -/
def St (c : Dev nD) (s a b i0 i1 i2 i3 i4 i5 i6 i7 : ℕ) : sProp 𝕄 :=
  iprop(A m c s a ∗ B m c s b ∗ Sd m c 0 s i0 ∗ Rv m c 1 s i1 ∗ Sd m c 2 s i2 ∗ Rv m c 3 s i3 ∗ Sd m c 4 s i4 ∗ Rv m c 5 s i5
    ∗ Sd m c 6 s i6 ∗ Rv m c 7 s i7)

/-! ## The product of a chunk -/

theorem zz : (![0, 0] : Fin 2 → ℕ) = fun _ => 0 := funext fun a => by fin_cases a <;> rfl

omit [FloatOps F] in
theorem box_mono {d : Fin 2 → ℕ} {a0 l0 a1 l1 b0 k0 b1 k1 : ℕ} (h0 : b0 ≤ a0) (h0' : a0 + l0 ≤ b0 + k0) (h1 : b1 ≤ a1) (h1' : a1 + l1 ≤ b1 + k1) :
    (box a0 l0 a1 l1 : Finset (⟨2, d⟩ : Shape).Idx) ⊆ box b0 k0 b1 k1 := by
  intro i hi
  rw [mem_box] at hi ⊢
  omega

theorem read_dy (c : Dev nD) (j s : ℕ) {o : Fin 2 → ℕ} (h : o = ![0, 1024 * j + 128 * s]) {i} :
    (dM : Memref sig .tc .vmem S1024x4096 .f32).view.readAt (Elt F) (Rect.unit (s := S1024x4096) o S1024x128.size i).toLoadRect (ds m c)
      = dyc m c j s := by
  subst h
  funext t
  show ds m c ((Rect.unit (s := S1024x4096) ![0, 1024 * j + 128 * s] S1024x128.size i).emb t) = _
  rw [emb_ix]
  unfold dyc
  show ds m c (ix 1024 4096 (0 + (t 0).val) (1024 * j + 128 * s + (t 1).val)) = _
  rw [Nat.zero_add]

theorem A_known (c : Dev nD) (s a : ℕ) (h5 : a ≠ 5) (h : qn c < a) : A m c s a = Pc c s (partB m c) := by
  unfold A; rw [if_neg h5, if_neg (by omega)]
theorem A_open (c : Dev nD) (s a : ℕ) (h5 : a ≠ 5) (h : a ≤ qn c) : A m c s a = PcE c s := by
  unfold A; rw [if_neg h5, if_pos h]
theorem A_skip (c : Dev nD) (s a : ℕ) (h4 : a < 4) (h : qn c ≠ a) : A m c s (a + 1) = A m c s a := by
  by_cases hq : a + 1 ≤ qn c
  · rw [A_open m c s _ (by omega) hq, A_open m c s _ (by omega) (by omega)]
  · rw [A_known m c s _ (by omega) (by omega), A_known m c s _ (by omega) (by omega)]
theorem B_known (c : Dev nD) (s b : ℕ) (h8 : b < 9) (h : 2 * qn c + xb c < b) : B m c s b = Ou c (qn c) s fullShare (outB m c) := by
  unfold B; rw [if_neg (by omega), if_neg (by omega), if_neg (by omega)]
theorem B_open (c : Dev nD) (s b : ℕ) (h8 : b < 9) (h : b ≤ 2 * qn c + xb c) : B m c s b = OuE c (qn c) s := by
  unfold B; rw [if_neg (by omega), if_neg (by omega), if_pos h]
theorem B_skip (c : Dev nD) (s b : ℕ) (h8 : b < 8) (h : 2 * qn c + xb c ≠ b) : B m c s (b + 1) = B m c s b := by
  by_cases hq : b + 1 ≤ 2 * qn c + xb c
  · rw [B_open m c s _ (by omega) hq, B_open m c s _ (by omega) (by omega)]
  · rw [B_known m c s _ (by omega) (by omega), B_known m c s _ (by omega) (by omega)]

theorem set_p {l o : Fin 2 → ℕ} {i} : ((pM : Memref sig .tc .vmem S1024x1024 .f32).access (Rect.unit (s := S1024x1024) o l i)).set
    = (box (o 0) (l 0) (o 1) (l 1) : Finset S1024x1024.Idx) := (View.set_slice_whole _ _).trans unit_set
theorem set_r {l o : Fin 2 → ℕ} {i} : ((rM : Memref sig .tc .vmem S512x1024 .f32).access (Rect.unit (s := S512x1024) o l i)).set
    = (box (o 0) (l 0) (o 1) (l 1) : Finset S512x1024.Idx) := (View.set_slice_whole _ _).trans unit_set
theorem set_o {l o : Fin 2 → ℕ} {i} : ((oM : Memref sig .tc .vmem S512x4096 .f32).access (Rect.unit (s := S512x4096) o l i)).set
    = (box (o 0) (l 0) (o 1) (l 1) : Finset S512x4096.Idx) := (View.set_slice_whole _ _).trans unit_set

theorem read_t (f : (cc0_scratch0 : Ref sig .tc).ty.Contents (Elt F)) :
    (tM : Memref sig .tc .vmem S1024x1024 .f32).view.readAt (Elt F) (Rect.unit (s := S1024x1024) ![0, 0] S1024x1024.size inb_S1024x1024_S1024x1024_0_0).toLoadRect f = f :=
  Memref.readAt_unit_zero (Elt F) cc0_scratch0 zz _ f

/-- Storing the product of chunk `s` makes the chunk what it shall be. -/
theorem p_agree (c : Dev nD) (s : ℕ) (hs : s < 8) {o : Fin 2 → ℕ} (h : o = ![0, 128 * s]) {i0}
    (f : (cc0_scratch1 : Ref sig .tc).ty.Contents (Elt F)) (w : Vec F S1024x128 .f32) (hw : w = prodc m c s) :
    ∀ i ∈ (box 0 1024 (128 * s) 128 : Finset S1024x1024.Idx),
      ((pM : Memref sig .tc .vmem S1024x1024 .f32).access (Rect.unit (s := S1024x1024) o S1024x128.size i0)).write (Elt F) f w Finset.univ i = partB m c i := by
  subst h hw
  intro i hi
  refine write_agree (pM : Memref sig .tc .vmem S1024x1024 .f32).view (Rect.unit (s := S1024x1024) ![0, 128 * s] S1024x128.size i0) f
    (prodc m c s) (partB m c) (fun t => ?_) i ((Finset.ext_iff.mp set_p i).mpr hi)
  show _ = partB m c _
  rw [emb_ix]
  show _ = partB m c (ix 1024 1024 (0 + (t 0).val) (128 * s + (t 1).val))
  rw [Nat.zero_add, partB_chunk m c s hs _ _ (t 0).isLt (t 1).isLt, ix_eq t rfl rfl]

/-- Storing the sum of chunk `s` makes the chunk what it shall be. -/
theorem o_agree (c : Dev nD) (s : ℕ) (hs : s < 8) {o : Fin 2 → ℕ} (h : o = ![0, 1024 * qn c + 128 * s]) {i0}
    (f : (cc0_stg2_0 : Ref sig .tc).ty.Contents (Elt F)) (w : Vec F S512x128 .f32) (hw : w = sumc m c s) :
    ∀ i ∈ (box 0 512 (1024 * qn c + 128 * s) 128 : Finset S512x4096.Idx),
      ((oM : Memref sig .tc .vmem S512x4096 .f32).access (Rect.unit (s := S512x4096) o S512x128.size i0)).write (Elt F) f w Finset.univ i = outB m c i := by
  subst h hw
  intro i hi
  refine write_agree (oM : Memref sig .tc .vmem S512x4096 .f32).view (Rect.unit (s := S512x4096) ![0, 1024 * qn c + 128 * s] S512x128.size i0) f
    (sumc m c s) (outB m c) (fun t => ?_) i ((Finset.ext_iff.mp set_o i).mpr hi)
  show _ = outB m c _
  rw [emb_ix]
  show _ = outB m c (ix 512 4096 (0 + (t 0).val) (1024 * qn c + 128 * s + (t 1).val))
  rw [Nat.zero_add, outB_chunk m c s hs _ _ (t 0).isLt (t 1).isLt, ix_eq t rfl rfl]

/-- What the sum reads of the device's own product, and of what arrived. -/
theorem read_own (c : Dev nD) (s : ℕ) {o : Fin 2 → ℕ} (h : o = ![512 * xb c, 128 * s]) {i0} :
    ((pM : Memref sig .tc .vmem S1024x1024 .f32).access (Rect.unit (s := S1024x1024) o S512x128.size i0)).read (Elt F) (partB m c) = ownc m c s := by
  subst h
  funext t
  show partB m c ((Rect.unit (s := S1024x1024) ![512 * xb c, 128 * s] S512x128.size i0).emb t) = _
  rw [emb_ix]; rfl
theorem read_rx (c : Dev nD) (s : ℕ) {o : Fin 2 → ℕ} (h : o = ![0, 128 * s]) {i0} :
    ((rM : Memref sig .tc .vmem S512x1024 .f32).access (Rect.unit (s := S512x1024) o S512x128.size i0)).read (Elt F) (rxB m c) = rxc m c s := by
  subst h
  funext t
  show rxB m c ((Rect.unit (s := S512x1024) ![0, 128 * s] S512x128.size i0).emb t) = _
  rw [emb_ix]
  show rxB m c (ix 512 1024 (0 + (t 0).val) (128 * s + (t 1).val)) = rxB m c (ix 512 1024 (t 0).val (128 * s + (t 1).val))
  rw [Nat.zero_add]

/-- The branch of slot `j` computing chunk `s` of the partial product: it runs on the devices with that slot. -/
theorem dot_when (c : Dev nD) (s j : ℕ) (hs : s < 8) (hj : j < 4) {b : BitVec 1} (hb : b = 1#1 ↔ qn c = j)
    {o1 o4 : Fin 2 → ℕ} (h1 : o1 = ![0, 1024 * j + 128 * s]) (h4 : o4 = ![0, 128 * s]) {i1 i4}
    {pay : Vec F S1024x1024 .f32 → Vec F S1024x128 .f32 → FVec F S1024x128 .f32} (hp : pay = k0_pay2)
    {b' i0 i1' i2 i3 i4' i5 i6 i7 : ℕ} {α : Type}
    {J : Prog (TpuEff nD τ sig (Elt F) Λ₀ .tc) α} {Q : α → sProp 𝕄} :
    iprop(In m c ∗ St m c s j b' i0 i1' i2 i3 i4' i5 i6 i7) ⊢ iprop(((In m c ∗ St m c s (j + 1) b' i0 i1' i2 i3 i4' i5 i6 i7) -∗ Run c J Q) -∗
      Run c (if h : b = 1#1 then .op (.load tM (Rect.unit (s := S1024x1024) ![0, 0] S1024x1024.size inb_S1024x1024_S1024x1024_0_0).toLoadRect (View.loadsAt_vmem h_S1024x1024))
        fun v1 => .op (.load dM (Rect.unit (s := S1024x4096) o1 S1024x128.size i1).toLoadRect (View.loadsAt_vmem h_S1024x128))
        fun v2 => .op (.load pM (Rect.unit (s := S1024x1024) o4 S1024x128.size i4).toLoadRect (View.loadsAt_vmem h_S1024x128))
        fun v3 => .op (.store pM (Rect.unit (s := S1024x1024) o4 S1024x128.size i4) (pay v1 v2) Finset.univ (View.stores_vmem_bits_univ h_S1024x128 rfl) (.inl rfl))
        fun _ => J
       else J) Q) := by
  unfold St
  by_cases hq : qn c = j
  · rw [dif_pos (hb.mpr hq), A_open m c s j (by omega) (by omega), A_known m c s (j + 1) (by omega) (by omega)]
    unfold In PcE Pc
    iintro ⟨⟨HD, HT⟩, ⟨%f, HP⟩, HR⟩ Hk
    have hset : ((pM : Memref sig .tc .vmem S1024x1024 .f32).access (Rect.unit (s := S1024x1024) o4 S1024x128.size i4)).set
        = (box 0 1024 (128 * s) 128 : Finset S1024x1024.Idx) := by
      subst h4; exact set_p
    iapply (wp_load 𝒱₀ (c : Thread nD τ) none Set.univ (m := tM) (S := Finset.univ) (f := xt m c) (Finset.subset_univ _)) $$ HT
    iintro HT
    iapply (wp_load 𝒱₀ (c : Thread nD τ) none Set.univ (m := dM) (S := Finset.univ) (f := ds m c) (Finset.subset_univ _)) $$ HD
    iintro HD
    iapply (wp_load_rect 𝒱₀ (c : Thread nD τ) none Set.univ (m := pM) hset.subset) $$ HP
    iintro HP
    iapply (wp_store 𝒱₀ (c : Thread nD τ) none Set.univ (m := pM) (by rw [View.setOn_univ]; exact hset.subset)) $$ HP
    iintro HP
    iapply Hk
    isplitl [HD HT]
    · isplitl [HD] <;> iassumption
    isplitr [HR]
    · iapply (Entails.of_eq (pointsTo_congr (p_agree m c s hs h4 f _ (by rw [read_t, read_dy m c j s h1, hp, ← hq]; rfl)))) $$ HP
    iexact HR
  · rw [dif_neg (fun h => hq (hb.mp h)), A_skip m c s j hj hq]
    iintro H Hk
    iapply Hk
    iexact H

/-! ## The sum of a chunk -/

/-- The branch of slot `j` and first coordinate `x` adding chunk `s`: it runs on the one device it is for. -/
theorem sum_when (c : Dev nD) (s j x k : ℕ) (hk : k = 2 * j + x) (hs : s < 8) (hj : j < 4) (hx : x < 2)
    {b : BitVec 1} (hb : b = 1#1 ↔ 2 * qn c + xb c = k)
    {o4 o5 o2 : Fin 2 → ℕ} (h4 : o4 = ![512 * x, 128 * s]) (h5 : o5 = ![0, 128 * s]) (h2 : o2 = ![0, 1024 * j + 128 * s]) {q4 q5 q2}
    {pay : Vec F S512x128 .f32 → Vec F S512x128 .f32 → FVec F S512x128 .f32} (hp : pay = k0_pay34)
    {i0 i2 i3 i4 i5 i6 i7 : ℕ} {α : Type}
    {J : Prog (TpuEff nD τ sig (Elt F) Λ₀ .tc) α} {Q : α → sProp 𝕄} :
    (St m c s 5 k i0 2 i2 i3 i4 i5 i6 i7 : sProp 𝕄) ⊢ iprop((St m c s 5 (k + 1) i0 2 i2 i3 i4 i5 i6 i7 -∗ Run c J Q) -∗
      Run c (if h : b = 1#1 then .op (.load pM (Rect.unit (s := S1024x1024) o4 S512x128.size q4).toLoadRect (View.loadsAt_vmem h_S512x128))
        fun v1 => .op (.load rM (Rect.unit (s := S512x1024) o5 S512x128.size q5).toLoadRect (View.loadsAt_vmem h_S512x128))
        fun v2 => .op (.load oM (Rect.unit (s := S512x4096) o2 S512x128.size q2).toLoadRect (View.loadsAt_vmem h_S512x128))
        fun v3 => .op (.store oM (Rect.unit (s := S512x4096) o2 S512x128.size q2) (pay v1 v2) Finset.univ (View.stores_vmem_bits_univ h_S512x128 rfl) (.inl rfl))
        fun _ => J
       else J) Q) := by
  unfold St
  by_cases hq : 2 * qn c + xb c = k
  · have hjq : qn c = j := by have := xb_lt c; omega
    have hxq : xb c = x := by omega
    rw [dif_pos (hb.mpr hq), B_open m c s k (by omega) (by omega), B_known m c s (k + 1) (by omega) (by omega)]
    have hA : A m c s 5 = Ph c (xb c) s (partB m c) := if_pos rfl
    have hR : Rv m c 1 s 2 = iprop(atPos ER (dcell c 1 s) 1 ∅ 0 ∗ Rx c s (rxB m c)) := rfl
    rw [hA, hR]
    unfold Ph Rx OuE Ou
    iintro ⟨HP, ⟨%f, HO⟩, H0, ⟨Hat, HX⟩, HR⟩ Hk
    have hs4 : ((pM : Memref sig .tc .vmem S1024x1024 .f32).access (Rect.unit (s := S1024x1024) o4 S512x128.size q4)).set
        = (box (512 * xb c) 512 (128 * s) 128 : Finset S1024x1024.Idx) := by
      subst h4; rw [hxq]; exact set_p
    have hs5 : ((rM : Memref sig .tc .vmem S512x1024 .f32).access (Rect.unit (s := S512x1024) o5 S512x128.size q5)).set
        = (box 0 512 (128 * s) 128 : Finset S512x1024.Idx) := by
      subst h5; exact set_r
    have hs2 : ((oM : Memref sig .tc .vmem S512x4096 .f32).access (Rect.unit (s := S512x4096) o2 S512x128.size q2)).set
        = (box 0 512 (1024 * qn c + 128 * s) 128 : Finset S512x4096.Idx) := by
      subst h2; rw [hjq]; exact set_o
    iapply (wp_load_rect 𝒱₀ (c : Thread nD τ) none Set.univ (m := pM) hs4.subset) $$ HP
    iintro HP
    iapply (wp_load_rect 𝒱₀ (c : Thread nD τ) none Set.univ (m := rM) hs5.subset) $$ HX
    iintro HX
    iapply (wp_load_rect 𝒱₀ (c : Thread nD τ) none Set.univ (m := oM) hs2.subset) $$ HO
    iintro HO
    iapply (wp_store 𝒱₀ (c : Thread nD τ) none Set.univ (m := oM) (by rw [View.setOn_univ]; exact hs2.subset)) $$ HO
    iintro HO
    iapply Hk
    isplitl [HP]; · iexact HP
    isplitl [HO]
    · iapply (Entails.of_eq (pointsTo_congr (o_agree m c s hs (h2.trans (by rw [hjq])) f _
        (by rw [read_own m c s (h4.trans (by rw [hxq])), read_rx m c s h5, hp]; rfl)))) $$ HO
    isplitl [H0]; · iexact H0
    isplitr [HR]
    · isplitl [Hat] <;> iassumption
    iexact HR
  · rw [dif_neg (fun h => hq (hb.mp h)), B_skip m c s k (by omega) hq]
    iintro H Hk
    iapply Hk
    iexact H

end Cert.KernelIdeal.Mesh

end
-- ==== Proof.Copies.lean ====
/-
# The copies and the waits

One lemma for each kind of copy and of wait, stated once for every chunk.
-/
module

public import proofs.«01_k».proof.Proof.Steps

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The semaphores as the body names them -/

theorem lt8 {s : ℕ} (h : s < 8) : s = 0 ∨ s = 1 ∨ s = 2 ∨ s = 3 ∨ s = 4 ∨ s = 5 ∨ s = 6 ∨ s = 7 := by omega

theorem sem0 (s : ℕ) (hs : s < 8) {i} :
    ((cc0_scratch3.slice (Rect.unit (s := S8) ![s] S1.size i)).squeeze S_ squeezes_S1_S_).sem = dsem 0 s := by
  rcases lt8 hs with rfl | rfl | rfl | rfl | rfl | rfl | rfl | rfl
  · exact (rfl : ((cc0_scratch3.slice (Rect.unit (s := S8) ![0] S1.size inb_S8_S1_0)).squeeze S_ squeezes_S1_S_).sem = dsem 0 0)
  · exact (rfl : ((cc0_scratch3.slice (Rect.unit (s := S8) ![1] S1.size inb_S8_S1_1)).squeeze S_ squeezes_S1_S_).sem = dsem 0 1)
  · exact (rfl : ((cc0_scratch3.slice (Rect.unit (s := S8) ![2] S1.size inb_S8_S1_2)).squeeze S_ squeezes_S1_S_).sem = dsem 0 2)
  · exact (rfl : ((cc0_scratch3.slice (Rect.unit (s := S8) ![3] S1.size inb_S8_S1_3)).squeeze S_ squeezes_S1_S_).sem = dsem 0 3)
  · exact (rfl : ((cc0_scratch3.slice (Rect.unit (s := S8) ![4] S1.size inb_S8_S1_4)).squeeze S_ squeezes_S1_S_).sem = dsem 0 4)
  · exact (rfl : ((cc0_scratch3.slice (Rect.unit (s := S8) ![5] S1.size inb_S8_S1_5)).squeeze S_ squeezes_S1_S_).sem = dsem 0 5)
  · exact (rfl : ((cc0_scratch3.slice (Rect.unit (s := S8) ![6] S1.size inb_S8_S1_6)).squeeze S_ squeezes_S1_S_).sem = dsem 0 6)
  · exact (rfl : ((cc0_scratch3.slice (Rect.unit (s := S8) ![7] S1.size inb_S8_S1_7)).squeeze S_ squeezes_S1_S_).sem = dsem 0 7)
theorem sem1 (s : ℕ) (hs : s < 8) {i} :
    ((cc0_scratch4.slice (Rect.unit (s := S8) ![s] S1.size i)).squeeze S_ squeezes_S1_S_).sem = dsem 1 s := by
  rcases lt8 hs with rfl | rfl | rfl | rfl | rfl | rfl | rfl | rfl
  · exact (rfl : ((cc0_scratch4.slice (Rect.unit (s := S8) ![0] S1.size inb_S8_S1_0)).squeeze S_ squeezes_S1_S_).sem = dsem 1 0)
  · exact (rfl : ((cc0_scratch4.slice (Rect.unit (s := S8) ![1] S1.size inb_S8_S1_1)).squeeze S_ squeezes_S1_S_).sem = dsem 1 1)
  · exact (rfl : ((cc0_scratch4.slice (Rect.unit (s := S8) ![2] S1.size inb_S8_S1_2)).squeeze S_ squeezes_S1_S_).sem = dsem 1 2)
  · exact (rfl : ((cc0_scratch4.slice (Rect.unit (s := S8) ![3] S1.size inb_S8_S1_3)).squeeze S_ squeezes_S1_S_).sem = dsem 1 3)
  · exact (rfl : ((cc0_scratch4.slice (Rect.unit (s := S8) ![4] S1.size inb_S8_S1_4)).squeeze S_ squeezes_S1_S_).sem = dsem 1 4)
  · exact (rfl : ((cc0_scratch4.slice (Rect.unit (s := S8) ![5] S1.size inb_S8_S1_5)).squeeze S_ squeezes_S1_S_).sem = dsem 1 5)
  · exact (rfl : ((cc0_scratch4.slice (Rect.unit (s := S8) ![6] S1.size inb_S8_S1_6)).squeeze S_ squeezes_S1_S_).sem = dsem 1 6)
  · exact (rfl : ((cc0_scratch4.slice (Rect.unit (s := S8) ![7] S1.size inb_S8_S1_7)).squeeze S_ squeezes_S1_S_).sem = dsem 1 7)
theorem sem2 (s : ℕ) (hs : s < 8) {i} :
    ((cc0_scratch5.slice (Rect.unit (s := S8) ![s] S1.size i)).squeeze S_ squeezes_S1_S_).sem = dsem 2 s := by
  rcases lt8 hs with rfl | rfl | rfl | rfl | rfl | rfl | rfl | rfl
  · exact (rfl : ((cc0_scratch5.slice (Rect.unit (s := S8) ![0] S1.size inb_S8_S1_0)).squeeze S_ squeezes_S1_S_).sem = dsem 2 0)
  · exact (rfl : ((cc0_scratch5.slice (Rect.unit (s := S8) ![1] S1.size inb_S8_S1_1)).squeeze S_ squeezes_S1_S_).sem = dsem 2 1)
  · exact (rfl : ((cc0_scratch5.slice (Rect.unit (s := S8) ![2] S1.size inb_S8_S1_2)).squeeze S_ squeezes_S1_S_).sem = dsem 2 2)
  · exact (rfl : ((cc0_scratch5.slice (Rect.unit (s := S8) ![3] S1.size inb_S8_S1_3)).squeeze S_ squeezes_S1_S_).sem = dsem 2 3)
  · exact (rfl : ((cc0_scratch5.slice (Rect.unit (s := S8) ![4] S1.size inb_S8_S1_4)).squeeze S_ squeezes_S1_S_).sem = dsem 2 4)
  · exact (rfl : ((cc0_scratch5.slice (Rect.unit (s := S8) ![5] S1.size inb_S8_S1_5)).squeeze S_ squeezes_S1_S_).sem = dsem 2 5)
  · exact (rfl : ((cc0_scratch5.slice (Rect.unit (s := S8) ![6] S1.size inb_S8_S1_6)).squeeze S_ squeezes_S1_S_).sem = dsem 2 6)
  · exact (rfl : ((cc0_scratch5.slice (Rect.unit (s := S8) ![7] S1.size inb_S8_S1_7)).squeeze S_ squeezes_S1_S_).sem = dsem 2 7)
theorem sem3 (s : ℕ) (hs : s < 8) {i} :
    ((cc0_scratch6.slice (Rect.unit (s := S8) ![s] S1.size i)).squeeze S_ squeezes_S1_S_).sem = dsem 3 s := by
  rcases lt8 hs with rfl | rfl | rfl | rfl | rfl | rfl | rfl | rfl
  · exact (rfl : ((cc0_scratch6.slice (Rect.unit (s := S8) ![0] S1.size inb_S8_S1_0)).squeeze S_ squeezes_S1_S_).sem = dsem 3 0)
  · exact (rfl : ((cc0_scratch6.slice (Rect.unit (s := S8) ![1] S1.size inb_S8_S1_1)).squeeze S_ squeezes_S1_S_).sem = dsem 3 1)
  · exact (rfl : ((cc0_scratch6.slice (Rect.unit (s := S8) ![2] S1.size inb_S8_S1_2)).squeeze S_ squeezes_S1_S_).sem = dsem 3 2)
  · exact (rfl : ((cc0_scratch6.slice (Rect.unit (s := S8) ![3] S1.size inb_S8_S1_3)).squeeze S_ squeezes_S1_S_).sem = dsem 3 3)
  · exact (rfl : ((cc0_scratch6.slice (Rect.unit (s := S8) ![4] S1.size inb_S8_S1_4)).squeeze S_ squeezes_S1_S_).sem = dsem 3 4)
  · exact (rfl : ((cc0_scratch6.slice (Rect.unit (s := S8) ![5] S1.size inb_S8_S1_5)).squeeze S_ squeezes_S1_S_).sem = dsem 3 5)
  · exact (rfl : ((cc0_scratch6.slice (Rect.unit (s := S8) ![6] S1.size inb_S8_S1_6)).squeeze S_ squeezes_S1_S_).sem = dsem 3 6)
  · exact (rfl : ((cc0_scratch6.slice (Rect.unit (s := S8) ![7] S1.size inb_S8_S1_7)).squeeze S_ squeezes_S1_S_).sem = dsem 3 7)
theorem sem4 (s : ℕ) (hs : s < 8) {i} :
    ((cc0_scratch7.slice (Rect.unit (s := S8) ![s] S1.size i)).squeeze S_ squeezes_S1_S_).sem = dsem 4 s := by
  rcases lt8 hs with rfl | rfl | rfl | rfl | rfl | rfl | rfl | rfl
  · exact (rfl : ((cc0_scratch7.slice (Rect.unit (s := S8) ![0] S1.size inb_S8_S1_0)).squeeze S_ squeezes_S1_S_).sem = dsem 4 0)
  · exact (rfl : ((cc0_scratch7.slice (Rect.unit (s := S8) ![1] S1.size inb_S8_S1_1)).squeeze S_ squeezes_S1_S_).sem = dsem 4 1)
  · exact (rfl : ((cc0_scratch7.slice (Rect.unit (s := S8) ![2] S1.size inb_S8_S1_2)).squeeze S_ squeezes_S1_S_).sem = dsem 4 2)
  · exact (rfl : ((cc0_scratch7.slice (Rect.unit (s := S8) ![3] S1.size inb_S8_S1_3)).squeeze S_ squeezes_S1_S_).sem = dsem 4 3)
  · exact (rfl : ((cc0_scratch7.slice (Rect.unit (s := S8) ![4] S1.size inb_S8_S1_4)).squeeze S_ squeezes_S1_S_).sem = dsem 4 4)
  · exact (rfl : ((cc0_scratch7.slice (Rect.unit (s := S8) ![5] S1.size inb_S8_S1_5)).squeeze S_ squeezes_S1_S_).sem = dsem 4 5)
  · exact (rfl : ((cc0_scratch7.slice (Rect.unit (s := S8) ![6] S1.size inb_S8_S1_6)).squeeze S_ squeezes_S1_S_).sem = dsem 4 6)
  · exact (rfl : ((cc0_scratch7.slice (Rect.unit (s := S8) ![7] S1.size inb_S8_S1_7)).squeeze S_ squeezes_S1_S_).sem = dsem 4 7)
theorem sem5 (s : ℕ) (hs : s < 8) {i} :
    ((cc0_scratch8.slice (Rect.unit (s := S8) ![s] S1.size i)).squeeze S_ squeezes_S1_S_).sem = dsem 5 s := by
  rcases lt8 hs with rfl | rfl | rfl | rfl | rfl | rfl | rfl | rfl
  · exact (rfl : ((cc0_scratch8.slice (Rect.unit (s := S8) ![0] S1.size inb_S8_S1_0)).squeeze S_ squeezes_S1_S_).sem = dsem 5 0)
  · exact (rfl : ((cc0_scratch8.slice (Rect.unit (s := S8) ![1] S1.size inb_S8_S1_1)).squeeze S_ squeezes_S1_S_).sem = dsem 5 1)
  · exact (rfl : ((cc0_scratch8.slice (Rect.unit (s := S8) ![2] S1.size inb_S8_S1_2)).squeeze S_ squeezes_S1_S_).sem = dsem 5 2)
  · exact (rfl : ((cc0_scratch8.slice (Rect.unit (s := S8) ![3] S1.size inb_S8_S1_3)).squeeze S_ squeezes_S1_S_).sem = dsem 5 3)
  · exact (rfl : ((cc0_scratch8.slice (Rect.unit (s := S8) ![4] S1.size inb_S8_S1_4)).squeeze S_ squeezes_S1_S_).sem = dsem 5 4)
  · exact (rfl : ((cc0_scratch8.slice (Rect.unit (s := S8) ![5] S1.size inb_S8_S1_5)).squeeze S_ squeezes_S1_S_).sem = dsem 5 5)
  · exact (rfl : ((cc0_scratch8.slice (Rect.unit (s := S8) ![6] S1.size inb_S8_S1_6)).squeeze S_ squeezes_S1_S_).sem = dsem 5 6)
  · exact (rfl : ((cc0_scratch8.slice (Rect.unit (s := S8) ![7] S1.size inb_S8_S1_7)).squeeze S_ squeezes_S1_S_).sem = dsem 5 7)
theorem sem6 (s : ℕ) (hs : s < 8) {i} :
    ((cc0_scratch9.slice (Rect.unit (s := S8) ![s] S1.size i)).squeeze S_ squeezes_S1_S_).sem = dsem 6 s := by
  rcases lt8 hs with rfl | rfl | rfl | rfl | rfl | rfl | rfl | rfl
  · exact (rfl : ((cc0_scratch9.slice (Rect.unit (s := S8) ![0] S1.size inb_S8_S1_0)).squeeze S_ squeezes_S1_S_).sem = dsem 6 0)
  · exact (rfl : ((cc0_scratch9.slice (Rect.unit (s := S8) ![1] S1.size inb_S8_S1_1)).squeeze S_ squeezes_S1_S_).sem = dsem 6 1)
  · exact (rfl : ((cc0_scratch9.slice (Rect.unit (s := S8) ![2] S1.size inb_S8_S1_2)).squeeze S_ squeezes_S1_S_).sem = dsem 6 2)
  · exact (rfl : ((cc0_scratch9.slice (Rect.unit (s := S8) ![3] S1.size inb_S8_S1_3)).squeeze S_ squeezes_S1_S_).sem = dsem 6 3)
  · exact (rfl : ((cc0_scratch9.slice (Rect.unit (s := S8) ![4] S1.size inb_S8_S1_4)).squeeze S_ squeezes_S1_S_).sem = dsem 6 4)
  · exact (rfl : ((cc0_scratch9.slice (Rect.unit (s := S8) ![5] S1.size inb_S8_S1_5)).squeeze S_ squeezes_S1_S_).sem = dsem 6 5)
  · exact (rfl : ((cc0_scratch9.slice (Rect.unit (s := S8) ![6] S1.size inb_S8_S1_6)).squeeze S_ squeezes_S1_S_).sem = dsem 6 6)
  · exact (rfl : ((cc0_scratch9.slice (Rect.unit (s := S8) ![7] S1.size inb_S8_S1_7)).squeeze S_ squeezes_S1_S_).sem = dsem 6 7)
theorem sem7 (s : ℕ) (hs : s < 8) {i} :
    ((cc0_scratch10.slice (Rect.unit (s := S8) ![s] S1.size i)).squeeze S_ squeezes_S1_S_).sem = dsem 7 s := by
  rcases lt8 hs with rfl | rfl | rfl | rfl | rfl | rfl | rfl | rfl
  · exact (rfl : ((cc0_scratch10.slice (Rect.unit (s := S8) ![0] S1.size inb_S8_S1_0)).squeeze S_ squeezes_S1_S_).sem = dsem 7 0)
  · exact (rfl : ((cc0_scratch10.slice (Rect.unit (s := S8) ![1] S1.size inb_S8_S1_1)).squeeze S_ squeezes_S1_S_).sem = dsem 7 1)
  · exact (rfl : ((cc0_scratch10.slice (Rect.unit (s := S8) ![2] S1.size inb_S8_S1_2)).squeeze S_ squeezes_S1_S_).sem = dsem 7 2)
  · exact (rfl : ((cc0_scratch10.slice (Rect.unit (s := S8) ![3] S1.size inb_S8_S1_3)).squeeze S_ squeezes_S1_S_).sem = dsem 7 3)
  · exact (rfl : ((cc0_scratch10.slice (Rect.unit (s := S8) ![4] S1.size inb_S8_S1_4)).squeeze S_ squeezes_S1_S_).sem = dsem 7 4)
  · exact (rfl : ((cc0_scratch10.slice (Rect.unit (s := S8) ![5] S1.size inb_S8_S1_5)).squeeze S_ squeezes_S1_S_).sem = dsem 7 5)
  · exact (rfl : ((cc0_scratch10.slice (Rect.unit (s := S8) ![6] S1.size inb_S8_S1_6)).squeeze S_ squeezes_S1_S_).sem = dsem 7 6)
  · exact (rfl : ((cc0_scratch10.slice (Rect.unit (s := S8) ![7] S1.size inb_S8_S1_7)).squeeze S_ squeezes_S1_S_).sem = dsem 7 7)

/-! ## A copy of a chunk of the output -/

/-- A copy of chunk `s` of slot `q` of the output to the same place on device `n`. -/
theorem out_send (c n : Dev nD) (q s ks kr : ℕ) (hxb : xb n = xb c) (sh : PosShare TreeShare)
    (hp1 : dmaPay m c ks s = Ou c q s sh (outB m c)) (hp2 : dmaPay m n kr s = Ou n q s fullShare (outB m n))
    (hs : s < 8) (hks : ks < 8) (hkr : kr < 8)
    {n' : Dev nD} (hn : n' = n) {a b : DmaSem sig} (ha : a = dsem ks s) (hb : b = dsem kr s)
    {o : Fin 2 → ℕ} (ho : o = ![0, 1024 * q + 128 * s]) {i0} (O : CellTallies nD τ sig Unit) {W : Waits sig Unit}
    {hsc : ((oM : Memref sig (Dev.tc n' : Thread nD τ).2.kind .vmem S512x4096 .f32).slice (Rect.unit (s := S512x4096) o S512x128.size i0) (fun _ => rfl)).view.ref.isScScratch = false}
    {hsrc hdst hsem} {α : Type} {Q : α → sProp 𝕄} {k : PUnit → Prog (TpuEff nD τ sig (Elt F) Λ₀ .tc) α} :
    iprop(records m K ∗ Ou c q s sh (outB m c) ∗ OuE n q s ∗ owes (c : Thread nD τ) (O + tallyAt (dcell n kr s) () N) W
        ∗ dutyTok ER (dcell c ks s) 0 0 ∗ dutyTok ER (dcell n kr s) 0 0)
      ⊢ iprop(((cred (tallyAt (dcell c ks s) () N) ∗ owes (c : Thread nD τ) O W) -∗ Run c (k ⟨⟩) Q)
        -∗ Run c (.op (.enqueueDma ((oM : Memref sig .tc .vmem S512x4096 .f32).slice (Rect.unit (s := S512x4096) o S512x128.size i0) (fun _ => rfl))
            (.remote (Dev.tc n' : Thread nD τ) ((oM : Memref sig .tc .vmem S512x4096 .f32).slice (Rect.unit (s := S512x4096) o S512x128.size i0) (fun _ => rfl)) (.dma a) hsc)
            (.dma b) hsrc hdst hsem) k) Q) := by
  subst hn ha hb ho
  unfold OuE
  iintro ⟨#HR, HS, ⟨%f, HD⟩, HO, Ht1, Ht2⟩
  have hset : ((oM : Memref sig .tc .vmem S512x4096 .f32).slice (Rect.unit (s := S512x4096) ![0, 1024 * q + 128 * s] S512x128.size i0) (fun _ => rfl)).view.set
      = (box 0 512 (1024 * q + 128 * s) 128 : Finset S512x4096.Idx) := set_o
  iapply (Rounds.wp_send_pointsTo 𝒱₀ ER (Rd m) (c : Thread nD τ) none (κ₁ := K (kd c ks s)) (κ₂ := K (kd n' kr s))
    (c' := (Dev.tc n' : Thread nD τ))
    (src := (oM : Memref sig .tc .vmem S512x4096 .f32).slice (Rect.unit (s := S512x4096) ![0, 1024 * q + 128 * s] S512x128.size i0) (fun _ => rfl))
    (dst := (oM : Memref sig .tc .vmem S512x4096 .f32).slice (Rect.unit (s := S512x4096) ![0, 1024 * q + 128 * s] S512x128.size i0) (fun _ => rfl))
    (r₁ := 0) (r₂ := 0) (d₁ := 0) (d₂ := 0) (q := sh) (fs := outB m c) (fd := f)
    (by rw [duties_dma]; exact Finset.mem_singleton_self _) (by rw [duties_dma]; exact Finset.mem_singleton_self _)
    () () N rfl (amount_dma m c ks s 0) (amount_dma m n' kr s 0) O rfl (W := W)
    (by rw [payload_dma m c ks s hks hs, hp1]; unfold Ou; rw [hset])
    (by
      rw [payload_dma m n' kr s hkr hs, hp2]; unfold Ou
      rw [hset, outB_congr m hxb]
      refine Entails.of_eq (pointsTo_congr fun i hi => ?_)
      exact write_agree (oM : Memref sig .tc .vmem S512x4096 .f32).view (Rect.unit (s := S512x4096) ![0, 1024 * q + 128 * s] S512x128.size i0) f
        _ (outB m c) (fun t => rfl) i ((Finset.ext_iff.mp set_o i).mpr hi))) $$ [HS HD HO Ht1 Ht2]
  unfold Ou
  rw [hset]
  isplitr; · iapply (inv_d m K c ks s); iexact HR
  isplitr; · iapply (inv_d m K n' kr s); iexact HR
  isplitl [HS]; · iexact HS
  isplitl [HD]; · iexact HD
  isplitl [HO]; · iexact HO
  isplitl [Ht1]; · iexact Ht1
  isplitr; · iapply (reached_d m K c ks s); iexact HR
  isplitl [Ht2]; · iexact Ht2
  iapply (reached_d m K n' kr s); iexact HR

/-! ## What is owed, with the waits done so far left open -/

/-- Device `c` owes `O`. -/
def Ow (c : Dev nD) (O : CellTallies nD τ sig Unit) : sProp 𝕄 := iprop(∃ W, owes (c : Thread nD τ) O W)

/-! ## The stages of a send and of a receive cell, spelt out -/

section Stages
variable (c : Dev nD) (k s : ℕ)
theorem Sd_0 : Sd m c k s 0 = iprop(atPos ER (dcell c k s) 0 ∅ 0 ∗ dutyTok ER (dcell c k s) 0 0) := rfl
theorem Sd_1 : Sd m c k s 1 = iprop(atPos ER (dcell c k s) 0 ∅ 0 ∗ cred (tallyAt (dcell c k s) () N)) := rfl
theorem Sd_2 : Sd m c k s 2 = iprop(atPos ER (dcell c k s) 1 ∅ 0 ∗ dmaPay m c k s) := rfl
theorem Rv_0 : Rv m c k s 0 = iprop(atPos ER (dcell c k s) 0 ∅ 0 ∗ cred (tallyAt (dcell c k s) () N) ∗ dutyTok ER (dcell (tgt c k s) k s) 0 0 ∗ land c k s) := rfl
theorem Rv_1 : Rv m c k s 1 = iprop(atPos ER (dcell c k s) 0 ∅ 0 ∗ cred (tallyAt (dcell c k s) () N)) := rfl
theorem Rv_2 : Rv m c k s 2 = iprop(atPos ER (dcell c k s) 1 ∅ 0 ∗ dmaPay m c k s) := rfl
theorem Rv_3 : Rv m c k s 3 = atPos ER (dcell c k s) 1 ∅ 0 := rfl
end Stages

/-! ## The copy of a chunk of the partial product -/

/-- A chunk of the partial product is the half that leaves and the half that stays. -/
theorem Pc_split (c : Dev nD) (s : ℕ) (f : (cc0_scratch1 : Ref sig .tc).ty.Contents (Elt F)) :
    (Pc c s f : sProp 𝕄) ⊢ iprop(Ph c (1 - xb c) s f ∗ Ph c (xb c) s f) := by
  unfold Pc Ph
  have hx := xb_lt c
  have hdis : Disjoint (box (512 * (1 - xb c)) 512 (128 * s) 128 : Finset S1024x1024.Idx) (box (512 * xb c) 512 (128 * s) 128) := by
    rw [Finset.disjoint_left]
    intro i hi hj
    rw [mem_box] at hi hj
    omega
  have hun : (box 0 1024 (128 * s) 128 : Finset S1024x1024.Idx) = box (512 * (1 - xb c)) 512 (128 * s) 128 ∪ box (512 * xb c) 512 (128 * s) 128 := by
    ext i
    rw [Finset.mem_union, mem_box, mem_box, mem_box]
    omega
  rw [hun]
  exact (pointsTo_union hdis).1

/-- The copy of the neighbour's half of chunk `s` of the partial product to the neighbour along the first axis. -/
theorem x_send (c : Dev nD) (s : ℕ) (hs : s < 8) {n' : Dev nD} (hn : n' = xn c) {a b : DmaSem sig} (ha : a = dsem 0 s) (hb : b = dsem 1 s)
    {o o' : Fin 2 → ℕ} (ho : o = ![512 * (1 - xb c), 128 * s]) (ho' : o' = ![0, 128 * s]) {i0 i1}
    (O O₁ : CellTallies nD τ sig Unit) (hO : O₁ = O + tX c s)
    {hsc : ((rM : Memref sig (Dev.tc n' : Thread nD τ).2.kind .vmem S512x1024 .f32).slice (Rect.unit (s := S512x1024) o' S512x128.size i1) (fun _ => rfl)).view.ref.isScScratch = false}
    {hsrc hdst hsem} {b' i2 i3 i4 i5 i6 i7 : ℕ} {α : Type} {Q : α → sProp 𝕄} {k : PUnit → Prog (TpuEff nD τ sig (Elt F) Λ₀ .tc) α} :
    iprop(records m K ∗ Ow c O₁ ∗ St m c s 4 b' 0 0 i2 i3 i4 i5 i6 i7)
      ⊢ iprop(((Ow c O ∗ St m c s 5 b' 1 1 i2 i3 i4 i5 i6 i7) -∗ Run c (k ⟨⟩) Q)
        -∗ Run c (.op (.enqueueDma ((pM : Memref sig .tc .vmem S1024x1024 .f32).slice (Rect.unit (s := S1024x1024) o S512x128.size i0) (fun _ => rfl))
            (.remote (Dev.tc n' : Thread nD τ) ((rM : Memref sig .tc .vmem S512x1024 .f32).slice (Rect.unit (s := S512x1024) o' S512x128.size i1) (fun _ => rfl)) (.dma a) hsc)
            (.dma b) hsrc hdst hsem) k) Q) := by
  subst hn ha hb ho ho' hO
  unfold St Ow
  rw [A_known m c s 4 (by decide) (qn_lt c), Sd_0, Rv_0, Sd_1, Rv_1]
  have ht : tgt c 1 s = xn c := rfl
  have hl : land (F := F) c 1 s = RxE (xn c) s := rfl
  rw [ht, hl]
  unfold RxE
  have hA5 : A m c s 5 = Ph c (xb c) s (partB m c) := rfl
  rw [hA5]
  iintro ⟨#HR, ⟨%W, HO⟩, HA, HB, ⟨Hp0, Ht0⟩, ⟨Hp1, Hc1, Ht1, ⟨%f, HD⟩⟩, HS⟩ HK
  ihave HA2 := (Pc_split c s (partB m c)) $$ HA
  icases HA2 with ⟨HA1, HA2⟩
  have hset : ((pM : Memref sig .tc .vmem S1024x1024 .f32).slice (Rect.unit (s := S1024x1024) ![512 * (1 - xb c), 128 * s] S512x128.size i0) (fun _ => rfl)).view.set
      = (box (512 * (1 - xb c)) 512 (128 * s) 128 : Finset S1024x1024.Idx) := set_p
  have hset' : ((rM : Memref sig .tc .vmem S512x1024 .f32).slice (Rect.unit (s := S512x1024) ![0, 128 * s] S512x128.size i1) (fun _ => rfl)).view.set
      = (box 0 512 (128 * s) 128 : Finset S512x1024.Idx) := set_r
  iapply (Rounds.wp_send_pointsTo 𝒱₀ ER (Rd m) (c : Thread nD τ) none (κ₁ := K (kd c 0 s)) (κ₂ := K (kd (xn c) 1 s))
    (c' := (Dev.tc (xn c) : Thread nD τ))
    (src := (pM : Memref sig .tc .vmem S1024x1024 .f32).slice (Rect.unit (s := S1024x1024) ![512 * (1 - xb c), 128 * s] S512x128.size i0) (fun _ => rfl))
    (dst := (rM : Memref sig .tc .vmem S512x1024 .f32).slice (Rect.unit (s := S512x1024) ![0, 128 * s] S512x128.size i1) (fun _ => rfl))
    (r₁ := 0) (r₂ := 0) (d₁ := 0) (d₂ := 0) (q := fullShare) (fs := partB m c) (fd := f)
    (by rw [duties_dma]; exact Finset.mem_singleton_self _) (by rw [duties_dma]; exact Finset.mem_singleton_self _)
    () () N rfl (amount_dma m c 0 s 0) (amount_dma m (xn c) 1 s 0) O rfl (W := W)
    (by rw [payload_dma m c 0 s (by decide) hs, hset]; exact Entails.refl _)
    (by
      rw [payload_dma m (xn c) 1 s (by decide) hs, hset']
      show _ ⊢ Rx (xn c) s (rxB m (xn c))
      unfold Rx
      refine Entails.of_eq (pointsTo_congr fun i hi => ?_)
      refine write_agree (rM : Memref sig .tc .vmem S512x1024 .f32).view (Rect.unit (s := S512x1024) ![0, 128 * s] S512x128.size i1) f
        _ (rxB m (xn c)) (fun t => ?_) i ((Finset.ext_iff.mp set_r i).mpr hi)
      show partB m c ((Rect.unit (s := S1024x1024) ![512 * (1 - xb c), 128 * s] S512x128.size i0).emb t)
        = rxB m (xn c) ((Rect.unit (s := S512x1024) ![0, 128 * s] S512x128.size i1).emb t)
      unfold rxB
      rw [emb_ix, emb_0, emb_1, xn_xn, xb_xn]
      show partB m c (ix 1024 1024 (512 * (1 - xb c) + (t 0).val) (128 * s + (t 1).val))
        = partB m c (ix 1024 1024 (512 * (1 - xb c) + (0 + (t 0).val)) (128 * s + (t 1).val))
      rw [Nat.zero_add])) $$ [HA1 HD HO Ht0 Ht1]
  · unfold Ph Rx tX
    rw [hset, hset']
    isplitr; · iapply (inv_d m K c 0 s); iexact HR
    isplitr; · iapply (inv_d m K (xn c) 1 s); iexact HR
    isplitl [HA1]; · iexact HA1
    isplitl [HD]; · iexact HD
    isplitl [HO]; · iexact HO
    isplitl [Ht0]; · iexact Ht0
    isplitr; · iapply (reached_d m K c 0 s); iexact HR
    isplitl [Ht1]; · iexact Ht1
    iapply (reached_d m K (xn c) 1 s); iexact HR
  iintro ⟨Hc0, HO⟩
  iapply HK
  iframe
  iexists W
  iexact HO

/-! ## The copies of a chunk of the output -/

/-- The copy of chunk `s` of the device's own slot to the neighbour along the second axis. -/
theorem y_send (c : Dev nD) (s : ℕ) (hs : s < 8) {n' : Dev nD} (hn : n' = yn c) {a b : DmaSem sig} (ha : a = dsem 2 s) (hb : b = dsem 3 s)
    {o : Fin 2 → ℕ} (ho : o = ![0, 1024 * qn c + 128 * s]) {i0} (O O₁ : CellTallies nD τ sig Unit) (hO : O₁ = O + tY c s)
    {hsc : ((oM : Memref sig (Dev.tc n' : Thread nD τ).2.kind .vmem S512x4096 .f32).slice (Rect.unit (s := S512x4096) o S512x128.size i0) (fun _ => rfl)).view.ref.isScScratch = false}
    {hsrc hdst hsem} {i0' i1 i4 i5 i6 i7 : ℕ} {α : Type} {Q : α → sProp 𝕄} {k : PUnit → Prog (TpuEff nD τ sig (Elt F) Λ₀ .tc) α} :
    iprop(records m K ∗ Ow c O₁ ∗ St m c s 5 8 i0' i1 0 0 i4 i5 i6 i7)
      ⊢ iprop(((Ow c O ∗ St m c s 5 9 i0' i1 1 1 i4 i5 i6 i7) -∗ Run c (k ⟨⟩) Q)
        -∗ Run c (.op (.enqueueDma ((oM : Memref sig .tc .vmem S512x4096 .f32).slice (Rect.unit (s := S512x4096) o S512x128.size i0) (fun _ => rfl))
            (.remote (Dev.tc n' : Thread nD τ) ((oM : Memref sig .tc .vmem S512x4096 .f32).slice (Rect.unit (s := S512x4096) o S512x128.size i0) (fun _ => rfl)) (.dma a) hsc)
            (.dma b) hsrc hdst hsem) k) Q) := by
  subst hO
  unfold St Ow
  have hq := qn_lt c
  have hx := xb_lt c
  rw [B_known m c s 8 (by decide) (by omega), Sd_0, Rv_0, Sd_1, Rv_1]
  have ht : tgt c 3 s = yn c := rfl
  have hl : land (F := F) c 3 s = OuE (yn c) (qn c) s := rfl
  have hB : B m c s 9 = Ou c (qn c) s fullShare.right (outB m c) := rfl
  rw [ht, hl, hB]
  iintro ⟨#HR, ⟨%W, HO⟩, HA, HB, H0, H1, ⟨Hp2, Ht2⟩, ⟨Hp3, Hc3, Ht3, HD⟩, HS⟩ HK
  ihave HB2 := (show (Ou c (qn c) s fullShare (outB m c) : sProp 𝕄) ⊢ iprop(Ou c (qn c) s fullShare.left (outB m c) ∗ Ou c (qn c) s fullShare.right (outB m c)) from
    (pointsTo_share (PosShare.mem_left_op_right fullShare)).1) $$ HB
  icases HB2 with ⟨HB1, HB2⟩
  iapply (out_send m K c (yn c) (qn c) s 2 3 (xb_yn c) fullShare.left rfl
    (show Ou (yn c) (qy (yn c)) s fullShare (outB m (yn c)) = _ by rw [qy_yn]) hs (by decide) (by decide) hn ha hb ho O (W := W)) $$ [HB1 HD HO Ht2 Ht3]
  · unfold tY
    iframe
    iexact HR
  iintro ⟨Hc2, HO⟩
  iapply HK
  iframe
  iexists W
  iexact HO

/-- The copy of chunk `s` of the device's own slot to the neighbour along the third axis. -/
theorem z_send (c : Dev nD) (s : ℕ) (hs : s < 8) {n' : Dev nD} (hn : n' = zn c) {a b : DmaSem sig} (ha : a = dsem 4 s) (hb : b = dsem 5 s)
    {o : Fin 2 → ℕ} (ho : o = ![0, 1024 * qn c + 128 * s]) {i0} (O O₁ : CellTallies nD τ sig Unit) (hO : O₁ = O + tZ c s)
    {hsc : ((oM : Memref sig (Dev.tc n' : Thread nD τ).2.kind .vmem S512x4096 .f32).slice (Rect.unit (s := S512x4096) o S512x128.size i0) (fun _ => rfl)).view.ref.isScScratch = false}
    {hsrc hdst hsem} {i0' i1 i2 i3 i6 i7 : ℕ} {α : Type} {Q : α → sProp 𝕄} {k : PUnit → Prog (TpuEff nD τ sig (Elt F) Λ₀ .tc) α} :
    iprop(records m K ∗ Ow c O₁ ∗ St m c s 5 9 i0' i1 i2 i3 0 0 i6 i7)
      ⊢ iprop(((Ow c O ∗ St m c s 5 10 i0' i1 i2 i3 1 1 i6 i7) -∗ Run c (k ⟨⟩) Q)
        -∗ Run c (.op (.enqueueDma ((oM : Memref sig .tc .vmem S512x4096 .f32).slice (Rect.unit (s := S512x4096) o S512x128.size i0) (fun _ => rfl))
            (.remote (Dev.tc n' : Thread nD τ) ((oM : Memref sig .tc .vmem S512x4096 .f32).slice (Rect.unit (s := S512x4096) o S512x128.size i0) (fun _ => rfl)) (.dma a) hsc)
            (.dma b) hsrc hdst hsem) k) Q) := by
  subst hO
  unfold St Ow
  rw [Sd_0, Rv_0, Sd_1, Rv_1]
  have ht : tgt c 5 s = zn c := rfl
  have hl : land (F := F) c 5 s = OuE (zn c) (qn c) s := rfl
  have hB : B m c s 9 = Ou c (qn c) s fullShare.right (outB m c) := rfl
  have hB' : B m c s 10 = iprop(emp) := rfl
  rw [ht, hl, hB, hB']
  iintro ⟨#HR, ⟨%W, HO⟩, HA, HB, H0, H1, H2, H3, ⟨Hp4, Ht4⟩, ⟨Hp5, Hc5, Ht5, HD⟩, HS⟩ HK
  iapply (out_send m K c (zn c) (qn c) s 4 5 (xb_zn c) fullShare.right rfl
    (show Ou (zn c) (qz (zn c)) s fullShare (outB m (zn c)) = _ by rw [qz_zn]) hs (by decide) (by decide) hn ha hb ho O (W := W)) $$ [HB HD HO Ht4 Ht5]
  · unfold tZ
    iframe
    iexact HR
  iintro ⟨Hc4, HO⟩
  iapply HK
  iframe
  iexists W
  iexact HO

/-- The relay of an even chunk: what came along the third axis goes on along the second. -/
theorem r_send_even (c : Dev nD) (s : ℕ) (hs : s < 8) (he : s % 2 = 0) {n' : Dev nD} (hn : n' = yn c) {a b : DmaSem sig} (ha : a = dsem 6 s) (hb : b = dsem 7 s)
    {o : Fin 2 → ℕ} (ho : o = ![0, 1024 * qz c + 128 * s]) {i0} (O O₁ : CellTallies nD τ sig Unit) (hO : O₁ = O + tR c s)
    {hsc : ((oM : Memref sig (Dev.tc n' : Thread nD τ).2.kind .vmem S512x4096 .f32).slice (Rect.unit (s := S512x4096) o S512x128.size i0) (fun _ => rfl)).view.ref.isScScratch = false}
    {hsrc hdst hsem} {a' b' i0' i1 i2 i3 i4 : ℕ} {α : Type} {Q : α → sProp 𝕄} {k : PUnit → Prog (TpuEff nD τ sig (Elt F) Λ₀ .tc) α} :
    iprop(records m K ∗ Ow c O₁ ∗ St m c s a' b' i0' i1 i2 i3 i4 2 0 0)
      ⊢ iprop(((Ow c O ∗ St m c s a' b' i0' i1 i2 i3 i4 3 1 1) -∗ Run c (k ⟨⟩) Q)
        -∗ Run c (.op (.enqueueDma ((oM : Memref sig .tc .vmem S512x4096 .f32).slice (Rect.unit (s := S512x4096) o S512x128.size i0) (fun _ => rfl))
            (.remote (Dev.tc n' : Thread nD τ) ((oM : Memref sig .tc .vmem S512x4096 .f32).slice (Rect.unit (s := S512x4096) o S512x128.size i0) (fun _ => rfl)) (.dma a) hsc)
            (.dma b) hsrc hdst hsem) k) Q) := by
  subst hO
  unfold St Ow
  rw [Rv_2, Sd_0, Rv_0 m c 7, Rv_3, Sd_1, Rv_1]
  have hrl : rl c s = yn c := if_pos he
  have hrq : rq c s = qz c := if_pos he
  have ht : tgt c 7 s = yn c := hrl
  have hl : land (F := F) c 7 s = OuE (yn c) (qz c) s := by show OuE (rl c s) (rq c s) s = _; rw [hrl, hrq]
  have hp : dmaPay m c 5 s = Ou c (qz c) s fullShare (outB m c) := rfl
  rw [ht, hl, hp]
  iintro ⟨#HR, ⟨%W, HO⟩, HA, HB, H0, H1, H2, H3, H4, ⟨Hp5, HS⟩, ⟨Hp6, Ht6⟩, Hp7, Hc7, Ht7, HD⟩ HK
  iapply (out_send m K c (yn c) (qz c) s 6 7 (xb_yn c) fullShare (show Ou c (rq c s) s fullShare (outB m c) = _ by rw [hrq])
    (show Ou (yn c) (qd (yn c)) s fullShare (outB m (yn c)) = _ by rw [qd_yn]) hs (by decide) (by decide) hn ha hb ho O (W := W)) $$ [HS HD HO Ht6 Ht7]
  · unfold tR
    rw [hrl]
    iframe
    iexact HR
  iintro ⟨Hc6, HO⟩
  iapply HK
  iframe
  iexists W
  iexact HO

/-- The relay of an odd chunk: what came along the second axis goes on along the third. -/
theorem r_send_odd (c : Dev nD) (s : ℕ) (hs : s < 8) (he : s % 2 = 1) {n' : Dev nD} (hn : n' = zn c) {a b : DmaSem sig} (ha : a = dsem 6 s) (hb : b = dsem 7 s)
    {o : Fin 2 → ℕ} (ho : o = ![0, 1024 * qy c + 128 * s]) {i0} (O O₁ : CellTallies nD τ sig Unit) (hO : O₁ = O + tR c s)
    {hsc : ((oM : Memref sig (Dev.tc n' : Thread nD τ).2.kind .vmem S512x4096 .f32).slice (Rect.unit (s := S512x4096) o S512x128.size i0) (fun _ => rfl)).view.ref.isScScratch = false}
    {hsrc hdst hsem} {a' b' i0' i1 i2 i4 i5 : ℕ} {α : Type} {Q : α → sProp 𝕄} {k : PUnit → Prog (TpuEff nD τ sig (Elt F) Λ₀ .tc) α} :
    iprop(records m K ∗ Ow c O₁ ∗ St m c s a' b' i0' i1 i2 2 i4 i5 0 0)
      ⊢ iprop(((Ow c O ∗ St m c s a' b' i0' i1 i2 3 i4 i5 1 1) -∗ Run c (k ⟨⟩) Q)
        -∗ Run c (.op (.enqueueDma ((oM : Memref sig .tc .vmem S512x4096 .f32).slice (Rect.unit (s := S512x4096) o S512x128.size i0) (fun _ => rfl))
            (.remote (Dev.tc n' : Thread nD τ) ((oM : Memref sig .tc .vmem S512x4096 .f32).slice (Rect.unit (s := S512x4096) o S512x128.size i0) (fun _ => rfl)) (.dma a) hsc)
            (.dma b) hsrc hdst hsem) k) Q) := by
  subst hO
  unfold St Ow
  rw [Rv_2, Sd_0, Rv_0 m c 7, Rv_3, Sd_1, Rv_1]
  have hrl : rl c s = zn c := if_neg (by omega)
  have hrq : rq c s = qy c := if_neg (by omega)
  have ht : tgt c 7 s = zn c := hrl
  have hl : land (F := F) c 7 s = OuE (zn c) (qy c) s := by show OuE (rl c s) (rq c s) s = _; rw [hrl, hrq]
  have hp : dmaPay m c 3 s = Ou c (qy c) s fullShare (outB m c) := rfl
  rw [ht, hl, hp]
  iintro ⟨#HR, ⟨%W, HO⟩, HA, HB, H0, H1, H2, ⟨Hp3, HS⟩, H4, H5, ⟨Hp6, Ht6⟩, Hp7, Hc7, Ht7, HD⟩ HK
  iapply (out_send m K c (zn c) (qy c) s 6 7 (xb_zn c) fullShare (show Ou c (rq c s) s fullShare (outB m c) = _ by rw [hrq])
    (show Ou (zn c) (qd (zn c)) s fullShare (outB m (zn c)) = _ by rw [qd_zn]) hs (by decide) (by decide) hn ha hb ho O (W := W)) $$ [HS HD HO Ht6 Ht7]
  · unfold tR
    rw [hrl]
    iframe
    iexact HR
  iintro ⟨Hc6, HO⟩
  iapply HK
  iframe
  iexists W
  iexact HO

end Cert.KernelIdeal.Mesh

end
-- ==== Proof.Waits.lean ====
/-
# The signals and the waits

One lemma for each, stated once for every cell, and what each wait does to a chunk.
-/
module

public import proofs.«01_k».proof.Proof.Copies

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The barrier -/

/-- A signal to a neighbour's barrier cell hands over what the duty says. -/
theorem signal_step (c n : Dev nD) (d : Fin 3) {n' : Dev nD} (hn : n' = n) (O O₁ : CellTallies nD τ sig Unit) (hO : O₁ = O + tallyAt (barCell n) () 1)
    {α : Type} {Q : α → sProp 𝕄} {k : PUnit → Prog (TpuEff nD τ sig (Elt F) Λ₀ .tc) α} {k' : ℕ} (hk' : k' = 1) :
    iprop(records m K ∗ Ow c O₁ ∗ dutyTok ER (barCell n) 0 d ∗ barPay n d)
      ⊢ iprop((Ow c O -∗ Run c (k ⟨⟩) Q) -∗ Run c (.op (.semSignal (n' : Thread nD τ) barS k') k) Q) := by
  subst hn hO hk'
  unfold Ow
  iintro ⟨#HR, ⟨%W, HO⟩, Ht, HP⟩ HK
  iapply (Rounds.wp_signal 𝒱₀ ER (Rd m) (c : Thread nD τ) none (dst := (n' : Thread nD τ)) (κ := K (n', .inl ())) (d := d)
    (by rw [duties_bar]; exact Finset.mem_univ _) (amount_bar m n' d) () O rfl (W := W)) $$ [HO Ht HP]
  · rw [payload_bar]
    isplitr; · iapply (inv_b m K n'); iexact HR
    isplitl [HO]; · iexact HO
    isplitl [Ht]; · iexact Ht
    isplitl [HP]; · iexact HP
    iapply (reached_b m K n'); iexact HR
  iintro HO
  iapply HK
  iexists W
  iexact HO

/-- The barrier wait: afterwards the device holds what it will write on its neighbours. -/
theorem barrier_wait (c : Dev nD) (O : CellTallies nD τ sig Unit) (hO : Above 1 O)
    {α : Type} {Q : α → sProp 𝕄} {k : PUnit → Prog (TpuEff nD τ sig (Elt F) Λ₀ .tc) α} {k' : ℕ} (hk' : k' = 3) :
    iprop(records m K ∗ Ow c O ∗ atPos ER (barCell c) 0 ∅ 0 ∗ cred (tallyAt (barCell c) () 3))
      ⊢ iprop(((Ow c O ∗ atPos ER (barCell c) 1 ∅ 0 ∗ barPay c 0 ∗ barPay c 1 ∗ barPay c 2) -∗ Run c (k ⟨⟩) Q) -∗ Run c (.op (.semWait barS k') k) Q) := by
  subst hk'
  unfold Ow
  iintro ⟨#HR, ⟨%W, HO⟩, Hp, Hc⟩ HK
  iapply (Rounds.wp_wait_rest_token 𝒱₀ ER (Rd m) (c : Thread nD τ) none (κ := K (c, .inl ())) (wpE_semWait_eq 𝒱₀ (c : Thread nD τ) none Set.univ) (Set.mem_univ _) ()
    (O := O) (W := W) (R := 0) (m := 0) (T := ∅) (by rw [expect_bar])) $$ [HO Hp Hc]
  · isplitr; · iapply (inv_b m K c); iexact HR
    isplitl [Hc]; · iexact Hc
    isplitl [HO]; · iexact HO
    isplitr [Hp]
    · iapply (mayWait_above c (.reg barS) 1 (Nat.le_refl 1) O hO)
      iapply (levels m K); iexact HR
    iexact Hp
  rw [rest_bar]
  iintro ⟨HO, Hp, -, HP⟩
  iapply HK
  isplitl [HO]
  · iexists _; iexact HO
  isplitl [Hp]
  · iexact Hp
  iexact HP

/-! ## The waits on DMA cells -/

/-- The send cells lie at level 0. -/
theorem lv_send (c : Dev nD) (k s : ℕ) (hk : k = 0 ∨ k = 2 ∨ k = 4 ∨ k = 6) : lv (dcell c k s) () = 0 := by
  rcases hk with rfl | rfl | rfl | rfl <;> exact lv_dma c _ s 0 (by (repeat' split) <;> omega)

/-- A wait for a cell's one copy: afterwards the device holds what the copy hands over. -/
theorem cell_wait (c : Dev nD) (k₀ s n : ℕ) (hk : k₀ < 8) (hs : s < 8) (hl : lv (dcell c k₀ s) () ≤ n) (O : CellTallies nD τ sig Unit) (hO : Above n O)
    {a : DmaSem sig} (ha : a = dsem k₀ s) {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N)
    {α : Type} {Q : α → sProp 𝕄} {k : PUnit → Prog (TpuEff nD τ sig (Elt F) Λ₀ .tc) α} :
    iprop(records m K ∗ Ow c O ∗ atPos ER (dcell c k₀ s) 0 ∅ 0 ∗ cred (tallyAt (dcell c k₀ s) () N))
      ⊢ iprop(((Ow c O ∗ atPos ER (dcell c k₀ s) 1 ∅ 0 ∗ dmaPay m c k₀ s) -∗ Run c (k ⟨⟩) Q)
        -∗ Run c (.op (.waitDma2 a src dst hsrc hdst) k) Q) := by
  subst ha
  unfold Ow
  iintro ⟨#HR, ⟨%W, HO⟩, Hp, Hc⟩ HK
  iapply (Rounds.wp_wait_rest_token 𝒱₀ ER (Rd m) (c : Thread nD τ) none (κ := K (kd c k₀ s)) (wpE_waitDma2_eq 𝒱₀ (c : Thread nD τ) none Set.univ) (Set.mem_univ _) ()
    (O := O) (W := W) (R := 0) (m := 0) (T := ∅) (by rw [expect_dma, hN, Nat.zero_add])) $$ [HO Hp Hc]
  · rw [hN]
    isplitr; · iapply (inv_d m K c k₀ s); iexact HR
    isplitl [Hc]; · iexact Hc
    isplitl [HO]; · iexact HO
    isplitr [Hp]
    · iapply (mayWait_above c (.dma (dsem k₀ s)) n hl O hO)
      iapply (levels m K); iexact HR
    iexact Hp
  rw [rest_dma m c k₀ s hk hs]
  iintro ⟨HO, Hp, -, HP⟩
  iapply HK
  isplitl [HO]
  · iexists _; iexact HO
  isplitl [Hp]
  · iexact Hp
  iexact HP

/-- After this wait the copy along the first axis has left. -/
theorem wait_0 (c : Dev nD) (s n : ℕ) (hs : s < 8) (O : CellTallies nD τ sig Unit) (hO : Above n O)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i1 i2 i3 i4 i5 i6 i7 : ℕ}
    {α : Type} {Q : α → sProp 𝕄} {k : PUnit → Prog (TpuEff nD τ sig (Elt F) Λ₀ .tc) α}
    (ha : a = dsem 0 s) :
    iprop(records m K ∗ Ow c O ∗ St m c s a' b' 1 i1 i2 i3 i4 i5 i6 i7)
      ⊢ iprop(((Ow c O ∗ St m c s a' b' 2 i1 i2 i3 i4 i5 i6 i7) -∗ Run c (k ⟨⟩) Q) -∗ Run c (.op (.waitDma2 a src dst hsrc hdst) k) Q) := by
  unfold St
  rw [Sd_1 m c 0 s, Sd_2 m c 0 s]
  iintro ⟨#HR, HO, HA, HB, ⟨Hp, Hc⟩, H1, H2, H3, H4, H5, H6, H7⟩ HK
  iapply (cell_wait m K c 0 s n (by decide) hs (Nat.le_trans (Nat.le_of_eq (lv_send c 0 s (by decide))) (Nat.zero_le _)) O hO ha hN) $$ [HO Hp Hc]
  · iframe
    iexact HR
  iintro ⟨HO, Hp, HP⟩
  iapply HK
  iframe

/-- After this wait the neighbour's half has arrived. -/
theorem wait_1 (c : Dev nD) (s n : ℕ) (hs : s < 8) (O : CellTallies nD τ sig Unit) (hO : Above n O) (hl : 2 ≤ n)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i2 i3 i4 i5 i6 i7 : ℕ}
    {α : Type} {Q : α → sProp 𝕄} {k : PUnit → Prog (TpuEff nD τ sig (Elt F) Λ₀ .tc) α}
    (ha : a = dsem 1 s) :
    iprop(records m K ∗ Ow c O ∗ St m c s a' b' i0 1 i2 i3 i4 i5 i6 i7)
      ⊢ iprop(((Ow c O ∗ St m c s a' b' i0 2 i2 i3 i4 i5 i6 i7) -∗ Run c (k ⟨⟩) Q) -∗ Run c (.op (.waitDma2 a src dst hsrc hdst) k) Q) := by
  unfold St
  rw [Rv_1 m c 1 s, Rv_2 m c 1 s]
  iintro ⟨#HR, HO, HA, HB, H0, ⟨Hp, Hc⟩, H2, H3, H4, H5, H6, H7⟩ HK
  iapply (cell_wait m K c 1 s n (by decide) hs (by rw [lv_1]; exact hl) O hO ha hN) $$ [HO Hp Hc]
  · iframe
    iexact HR
  iintro ⟨HO, Hp, HP⟩
  iapply HK
  iframe

/-- After this wait the copy along the second axis has left. -/
theorem wait_2 (c : Dev nD) (s n : ℕ) (hs : s < 8) (O : CellTallies nD τ sig Unit) (hO : Above n O)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i1 i3 i4 i5 i6 i7 : ℕ}
    {α : Type} {Q : α → sProp 𝕄} {k : PUnit → Prog (TpuEff nD τ sig (Elt F) Λ₀ .tc) α}
    (ha : a = dsem 2 s) :
    iprop(records m K ∗ Ow c O ∗ St m c s a' b' i0 i1 1 i3 i4 i5 i6 i7)
      ⊢ iprop(((Ow c O ∗ St m c s a' b' i0 i1 2 i3 i4 i5 i6 i7) -∗ Run c (k ⟨⟩) Q) -∗ Run c (.op (.waitDma2 a src dst hsrc hdst) k) Q) := by
  unfold St
  rw [Sd_1 m c 2 s, Sd_2 m c 2 s]
  iintro ⟨#HR, HO, HA, HB, H0, H1, ⟨Hp, Hc⟩, H3, H4, H5, H6, H7⟩ HK
  iapply (cell_wait m K c 2 s n (by decide) hs (Nat.le_trans (Nat.le_of_eq (lv_send c 2 s (by decide))) (Nat.zero_le _)) O hO ha hN) $$ [HO Hp Hc]
  · iframe
    iexact HR
  iintro ⟨HO, Hp, HP⟩
  iapply HK
  iframe

/-- After this wait the neighbour's slot along the second axis has arrived. -/
theorem wait_3 (c : Dev nD) (s n : ℕ) (hs : s < 8) (O : CellTallies nD τ sig Unit) (hO : Above n O) (hl : 3 ≤ n)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i1 i2 i4 i5 i6 i7 : ℕ}
    {α : Type} {Q : α → sProp 𝕄} {k : PUnit → Prog (TpuEff nD τ sig (Elt F) Λ₀ .tc) α}
    (ha : a = dsem 3 s) :
    iprop(records m K ∗ Ow c O ∗ St m c s a' b' i0 i1 i2 1 i4 i5 i6 i7)
      ⊢ iprop(((Ow c O ∗ St m c s a' b' i0 i1 i2 2 i4 i5 i6 i7) -∗ Run c (k ⟨⟩) Q) -∗ Run c (.op (.waitDma2 a src dst hsrc hdst) k) Q) := by
  unfold St
  rw [Rv_1 m c 3 s, Rv_2 m c 3 s]
  iintro ⟨#HR, HO, HA, HB, H0, H1, H2, ⟨Hp, Hc⟩, H4, H5, H6, H7⟩ HK
  iapply (cell_wait m K c 3 s n (by decide) hs (by rw [lv_3]; exact hl) O hO ha hN) $$ [HO Hp Hc]
  · iframe
    iexact HR
  iintro ⟨HO, Hp, HP⟩
  iapply HK
  iframe

/-- After this wait the copy along the third axis has left. -/
theorem wait_4 (c : Dev nD) (s n : ℕ) (hs : s < 8) (O : CellTallies nD τ sig Unit) (hO : Above n O)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i1 i2 i3 i5 i6 i7 : ℕ}
    {α : Type} {Q : α → sProp 𝕄} {k : PUnit → Prog (TpuEff nD τ sig (Elt F) Λ₀ .tc) α}
    (ha : a = dsem 4 s) :
    iprop(records m K ∗ Ow c O ∗ St m c s a' b' i0 i1 i2 i3 1 i5 i6 i7)
      ⊢ iprop(((Ow c O ∗ St m c s a' b' i0 i1 i2 i3 2 i5 i6 i7) -∗ Run c (k ⟨⟩) Q) -∗ Run c (.op (.waitDma2 a src dst hsrc hdst) k) Q) := by
  unfold St
  rw [Sd_1 m c 4 s, Sd_2 m c 4 s]
  iintro ⟨#HR, HO, HA, HB, H0, H1, H2, H3, ⟨Hp, Hc⟩, H5, H6, H7⟩ HK
  iapply (cell_wait m K c 4 s n (by decide) hs (Nat.le_trans (Nat.le_of_eq (lv_send c 4 s (by decide))) (Nat.zero_le _)) O hO ha hN) $$ [HO Hp Hc]
  · iframe
    iexact HR
  iintro ⟨HO, Hp, HP⟩
  iapply HK
  iframe

/-- After this wait the neighbour's slot along the third axis has arrived. -/
theorem wait_5 (c : Dev nD) (s n : ℕ) (hs : s < 8) (O : CellTallies nD τ sig Unit) (hO : Above n O) (hl : 3 ≤ n)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i1 i2 i3 i4 i6 i7 : ℕ}
    {α : Type} {Q : α → sProp 𝕄} {k : PUnit → Prog (TpuEff nD τ sig (Elt F) Λ₀ .tc) α}
    (ha : a = dsem 5 s) :
    iprop(records m K ∗ Ow c O ∗ St m c s a' b' i0 i1 i2 i3 i4 1 i6 i7)
      ⊢ iprop(((Ow c O ∗ St m c s a' b' i0 i1 i2 i3 i4 2 i6 i7) -∗ Run c (k ⟨⟩) Q) -∗ Run c (.op (.waitDma2 a src dst hsrc hdst) k) Q) := by
  unfold St
  rw [Rv_1 m c 5 s, Rv_2 m c 5 s]
  iintro ⟨#HR, HO, HA, HB, H0, H1, H2, H3, H4, ⟨Hp, Hc⟩, H6, H7⟩ HK
  iapply (cell_wait m K c 5 s n (by decide) hs (by rw [lv_5]; exact hl) O hO ha hN) $$ [HO Hp Hc]
  · iframe
    iexact HR
  iintro ⟨HO, Hp, HP⟩
  iapply HK
  iframe

/-- After this wait the relay has left. -/
theorem wait_6 (c : Dev nD) (s n : ℕ) (hs : s < 8) (O : CellTallies nD τ sig Unit) (hO : Above n O)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i1 i2 i3 i4 i5 i7 : ℕ}
    {α : Type} {Q : α → sProp 𝕄} {k : PUnit → Prog (TpuEff nD τ sig (Elt F) Λ₀ .tc) α}
    (ha : a = dsem 6 s) :
    iprop(records m K ∗ Ow c O ∗ St m c s a' b' i0 i1 i2 i3 i4 i5 1 i7)
      ⊢ iprop(((Ow c O ∗ St m c s a' b' i0 i1 i2 i3 i4 i5 2 i7) -∗ Run c (k ⟨⟩) Q) -∗ Run c (.op (.waitDma2 a src dst hsrc hdst) k) Q) := by
  unfold St
  rw [Sd_1 m c 6 s, Sd_2 m c 6 s]
  iintro ⟨#HR, HO, HA, HB, H0, H1, H2, H3, H4, H5, ⟨Hp, Hc⟩, H7⟩ HK
  iapply (cell_wait m K c 6 s n (by decide) hs (Nat.le_trans (Nat.le_of_eq (lv_send c 6 s (by decide))) (Nat.zero_le _)) O hO ha hN) $$ [HO Hp Hc]
  · iframe
    iexact HR
  iintro ⟨HO, Hp, HP⟩
  iapply HK
  iframe

/-- After this wait the relayed slot has arrived. -/
theorem wait_7 (c : Dev nD) (s n : ℕ) (hs : s < 8) (O : CellTallies nD τ sig Unit) (hO : Above n O) (hl : 4 ≤ n)
    {a : DmaSem sig} {sp sp' : Space} {s₁ s₂ : Shape} {e e' : EltTy} {κ' : Kind}
    {src : Memref sig (c : Thread nD τ).2.kind sp' s₂ e'} {dst : Memref sig κ' sp s₁ e} {hsrc : src.view.WordExact} {hdst : dst.view.WordExact}
    (hN : dst.view.dmaCredit = N) {a' b' i0 i1 i2 i3 i4 i5 i6 : ℕ}
    {α : Type} {Q : α → sProp 𝕄} {k : PUnit → Prog (TpuEff nD τ sig (Elt F) Λ₀ .tc) α}
    (ha : a = dsem 7 s) :
    iprop(records m K ∗ Ow c O ∗ St m c s a' b' i0 i1 i2 i3 i4 i5 i6 1)
      ⊢ iprop(((Ow c O ∗ St m c s a' b' i0 i1 i2 i3 i4 i5 i6 2) -∗ Run c (k ⟨⟩) Q) -∗ Run c (.op (.waitDma2 a src dst hsrc hdst) k) Q) := by
  unfold St
  rw [Rv_1 m c 7 s, Rv_2 m c 7 s]
  iintro ⟨#HR, HO, HA, HB, H0, H1, H2, H3, H4, H5, H6, ⟨Hp, Hc⟩⟩ HK
  iapply (cell_wait m K c 7 s n (by decide) hs (by rw [lv_7]; exact hl) O hO ha hN) $$ [HO Hp Hc]
  · iframe
    iexact HR
  iintro ⟨HO, Hp, HP⟩
  iapply HK
  iframe

end Cert.KernelIdeal.Mesh

end
-- ==== Proof.Words.lean ====
/-
# The body's words, devices and offsets

The numbers the body computes from a device's number, what its branches test, which neighbour each copy names and where each
chunk sits.
-/
module

public import proofs.«01_k».proof.Proof.Waits

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The words -/

/-- The three coordinates of a device, the neighbours' coordinates, and the four slots, as the body computes them. -/
abbrev w2 (c : Dev nD) : BitVec 32 := Scalar.remsi (Scalar.divsi (Dev.word c) 4#32) 2#32
abbrev w5 (c : Dev nD) : BitVec 32 := Scalar.remsi (Scalar.divsi (Dev.word c) 2#32) 2#32
abbrev w8 (c : Dev nD) : BitVec 32 := Scalar.remsi (Scalar.divsi (Dev.word c) 1#32) 2#32
abbrev w9 (c : Dev nD) : BitVec 32 := Scalar.subi 1#32 (w2 c)
abbrev w10 (c : Dev nD) : BitVec 32 := Scalar.subi 1#32 (w5 c)
abbrev w11 (c : Dev nD) : BitVec 32 := Scalar.subi 1#32 (w8 c)
abbrev w13 (c : Dev nD) : BitVec 32 := Scalar.addi (Scalar.muli 2#32 (w5 c)) (w8 c)
abbrev w16 (c : Dev nD) : BitVec 32 := Scalar.addi (Scalar.muli 2#32 (Scalar.subi 1#32 (w5 c))) (w8 c)
abbrev w19 (c : Dev nD) : BitVec 32 := Scalar.addi (Scalar.muli 2#32 (w5 c)) (Scalar.subi 1#32 (w8 c))
abbrev w23 (c : Dev nD) : BitVec 32 := Scalar.addi (Scalar.muli 2#32 (Scalar.subi 1#32 (w5 c))) (Scalar.subi 1#32 (w8 c))

/-! ## What the branches test: the device's slot, and slot and first coordinate together -/

theorem cq0 (c : Dev nD) : Scalar.cmpi .ne (Scalar.extui (Scalar.cmpi .eq (w13 c) 0#32) : BitVec 32) 0#32 = 1#1 ↔ qn c = 0 := by revert c; decide
theorem cq1 (c : Dev nD) : Scalar.cmpi .ne (Scalar.extui (Scalar.cmpi .eq (w13 c) 1#32) : BitVec 32) 0#32 = 1#1 ↔ qn c = 1 := by revert c; decide
theorem cq2 (c : Dev nD) : Scalar.cmpi .ne (Scalar.extui (Scalar.cmpi .eq (w13 c) 2#32) : BitVec 32) 0#32 = 1#1 ↔ qn c = 2 := by revert c; decide
theorem cq3 (c : Dev nD) : Scalar.cmpi .ne (Scalar.extui (Scalar.cmpi .eq (w13 c) 3#32) : BitVec 32) 0#32 = 1#1 ↔ qn c = 3 := by revert c; decide
theorem cs0 (c : Dev nD) : Scalar.cmpi .ne (Scalar.extui (Scalar.andi (Scalar.cmpi .eq (w13 c) 0#32) (Scalar.cmpi .eq (w2 c) 0#32)) : BitVec 32) 0#32 = 1#1 ↔ 2 * qn c + xb c = 0 := by
  revert c; decide
theorem cs1 (c : Dev nD) : Scalar.cmpi .ne (Scalar.extui (Scalar.andi (Scalar.cmpi .eq (w13 c) 0#32) (Scalar.cmpi .eq (w2 c) 1#32)) : BitVec 32) 0#32 = 1#1 ↔ 2 * qn c + xb c = 1 := by
  revert c; decide
theorem cs2 (c : Dev nD) : Scalar.cmpi .ne (Scalar.extui (Scalar.andi (Scalar.cmpi .eq (w13 c) 1#32) (Scalar.cmpi .eq (w2 c) 0#32)) : BitVec 32) 0#32 = 1#1 ↔ 2 * qn c + xb c = 2 := by
  revert c; decide
theorem cs3 (c : Dev nD) : Scalar.cmpi .ne (Scalar.extui (Scalar.andi (Scalar.cmpi .eq (w13 c) 1#32) (Scalar.cmpi .eq (w2 c) 1#32)) : BitVec 32) 0#32 = 1#1 ↔ 2 * qn c + xb c = 3 := by
  revert c; decide
theorem cs4 (c : Dev nD) : Scalar.cmpi .ne (Scalar.extui (Scalar.andi (Scalar.cmpi .eq (w13 c) 2#32) (Scalar.cmpi .eq (w2 c) 0#32)) : BitVec 32) 0#32 = 1#1 ↔ 2 * qn c + xb c = 4 := by
  revert c; decide
theorem cs5 (c : Dev nD) : Scalar.cmpi .ne (Scalar.extui (Scalar.andi (Scalar.cmpi .eq (w13 c) 2#32) (Scalar.cmpi .eq (w2 c) 1#32)) : BitVec 32) 0#32 = 1#1 ↔ 2 * qn c + xb c = 5 := by
  revert c; decide
theorem cs6 (c : Dev nD) : Scalar.cmpi .ne (Scalar.extui (Scalar.andi (Scalar.cmpi .eq (w13 c) 3#32) (Scalar.cmpi .eq (w2 c) 0#32)) : BitVec 32) 0#32 = 1#1 ↔ 2 * qn c + xb c = 6 := by
  revert c; decide
theorem cs7 (c : Dev nD) : Scalar.cmpi .ne (Scalar.extui (Scalar.andi (Scalar.cmpi .eq (w13 c) 3#32) (Scalar.cmpi .eq (w2 c) 1#32)) : BitVec 32) 0#32 = 1#1 ↔ 2 * qn c + xb c = 7 := by
  revert c; decide

/-! ## The devices named -/

theorem dev1 (c : Dev nD) : (⟨k0_dev1 c, k0_dev1_lt c⟩ : Dev nD) = xn c := by revert c; decide
theorem dev2 (c : Dev nD) : (⟨k0_dev2 c, k0_dev2_lt c⟩ : Dev nD) = yn c := by revert c; decide
theorem dev3 (c : Dev nD) : (⟨k0_dev3 c, k0_dev3_lt c⟩ : Dev nD) = zn c := by revert c; decide
theorem dev4 (c : Dev nD) : (⟨k0_dev4 c, k0_dev4_lt c⟩ : Dev nD) = xn c := by revert c; decide
theorem dev5 (c : Dev nD) : (⟨k0_dev5 c, k0_dev5_lt c⟩ : Dev nD) = xn c := by revert c; decide
theorem dev6 (c : Dev nD) : (⟨k0_dev6 c, k0_dev6_lt c⟩ : Dev nD) = xn c := by revert c; decide
theorem dev7 (c : Dev nD) : (⟨k0_dev7 c, k0_dev7_lt c⟩ : Dev nD) = xn c := by revert c; decide
theorem dev8 (c : Dev nD) : (⟨k0_dev8 c, k0_dev8_lt c⟩ : Dev nD) = xn c := by revert c; decide
theorem dev9 (c : Dev nD) : (⟨k0_dev9 c, k0_dev9_lt c⟩ : Dev nD) = xn c := by revert c; decide
theorem dev10 (c : Dev nD) : (⟨k0_dev10 c, k0_dev10_lt c⟩ : Dev nD) = xn c := by revert c; decide
theorem dev11 (c : Dev nD) : (⟨k0_dev11 c, k0_dev11_lt c⟩ : Dev nD) = xn c := by revert c; decide
theorem dev12 (c : Dev nD) : (⟨k0_dev12 c, k0_dev12_lt c⟩ : Dev nD) = yn c := by revert c; decide
theorem dev13 (c : Dev nD) : (⟨k0_dev13 c, k0_dev13_lt c⟩ : Dev nD) = zn c := by revert c; decide
theorem dev14 (c : Dev nD) : (⟨k0_dev14 c, k0_dev14_lt c⟩ : Dev nD) = yn c := by revert c; decide
theorem dev15 (c : Dev nD) : (⟨k0_dev15 c, k0_dev15_lt c⟩ : Dev nD) = zn c := by revert c; decide
theorem dev16 (c : Dev nD) : (⟨k0_dev16 c, k0_dev16_lt c⟩ : Dev nD) = yn c := by revert c; decide
theorem dev17 (c : Dev nD) : (⟨k0_dev17 c, k0_dev17_lt c⟩ : Dev nD) = zn c := by revert c; decide
theorem dev18 (c : Dev nD) : (⟨k0_dev18 c, k0_dev18_lt c⟩ : Dev nD) = yn c := by revert c; decide
theorem dev19 (c : Dev nD) : (⟨k0_dev19 c, k0_dev19_lt c⟩ : Dev nD) = zn c := by revert c; decide
theorem dev20 (c : Dev nD) : (⟨k0_dev20 c, k0_dev20_lt c⟩ : Dev nD) = yn c := by revert c; decide
theorem dev21 (c : Dev nD) : (⟨k0_dev21 c, k0_dev21_lt c⟩ : Dev nD) = zn c := by revert c; decide
theorem dev22 (c : Dev nD) : (⟨k0_dev22 c, k0_dev22_lt c⟩ : Dev nD) = yn c := by revert c; decide
theorem dev23 (c : Dev nD) : (⟨k0_dev23 c, k0_dev23_lt c⟩ : Dev nD) = zn c := by revert c; decide
theorem dev24 (c : Dev nD) : (⟨k0_dev24 c, k0_dev24_lt c⟩ : Dev nD) = yn c := by revert c; decide
theorem dev25 (c : Dev nD) : (⟨k0_dev25 c, k0_dev25_lt c⟩ : Dev nD) = zn c := by revert c; decide
theorem dev26 (c : Dev nD) : (⟨k0_dev26 c, k0_dev26_lt c⟩ : Dev nD) = yn c := by revert c; decide
theorem dev27 (c : Dev nD) : (⟨k0_dev27 c, k0_dev27_lt c⟩ : Dev nD) = zn c := by revert c; decide
theorem dev28 (c : Dev nD) : (⟨k0_dev28 c, k0_dev28_lt c⟩ : Dev nD) = yn c := by revert c; decide
theorem dev29 (c : Dev nD) : (⟨k0_dev29 c, k0_dev29_lt c⟩ : Dev nD) = zn c := by revert c; decide
theorem dev30 (c : Dev nD) : (⟨k0_dev30 c, k0_dev30_lt c⟩ : Dev nD) = yn c := by revert c; decide
theorem dev31 (c : Dev nD) : (⟨k0_dev31 c, k0_dev31_lt c⟩ : Dev nD) = zn c := by revert c; decide
theorem dev32 (c : Dev nD) : (⟨k0_dev32 c, k0_dev32_lt c⟩ : Dev nD) = yn c := by revert c; decide
theorem dev33 (c : Dev nD) : (⟨k0_dev33 c, k0_dev33_lt c⟩ : Dev nD) = zn c := by revert c; decide
theorem dev34 (c : Dev nD) : (⟨k0_dev34 c, k0_dev34_lt c⟩ : Dev nD) = yn c := by revert c; decide
theorem dev35 (c : Dev nD) : (⟨k0_dev35 c, k0_dev35_lt c⟩ : Dev nD) = zn c := by revert c; decide

/-! ## The offsets -/

theorem offx1 (c : Dev nD) : k0_off1 c = ![512 * (1 - xb c), 128 * 0] := by revert c; decide
theorem offx2 (c : Dev nD) : k0_off2 c = ![512 * (1 - xb c), 128 * 1] := by revert c; decide
theorem offx3 (c : Dev nD) : k0_off3 c = ![512 * (1 - xb c), 128 * 2] := by revert c; decide
theorem offx4 (c : Dev nD) : k0_off4 c = ![512 * (1 - xb c), 128 * 3] := by revert c; decide
theorem offx5 (c : Dev nD) : k0_off5 c = ![512 * (1 - xb c), 128 * 4] := by revert c; decide
theorem offx6 (c : Dev nD) : k0_off6 c = ![512 * (1 - xb c), 128 * 5] := by revert c; decide
theorem offx7 (c : Dev nD) : k0_off7 c = ![512 * (1 - xb c), 128 * 6] := by revert c; decide
theorem offx8 (c : Dev nD) : k0_off8 c = ![512 * (1 - xb c), 128 * 7] := by revert c; decide
theorem off9_0 (c : Dev nD) : k0_off9 c 0#32 = ![0, 1024 * qn c + 128 * 0] := by revert c; decide
theorem off9_1 (c : Dev nD) : k0_off9 c 128#32 = ![0, 1024 * qn c + 128 * 1] := by revert c; decide
theorem off9_2 (c : Dev nD) : k0_off9 c 256#32 = ![0, 1024 * qn c + 128 * 2] := by revert c; decide
theorem off9_3 (c : Dev nD) : k0_off9 c 384#32 = ![0, 1024 * qn c + 128 * 3] := by revert c; decide
theorem off9_4 (c : Dev nD) : k0_off9 c 512#32 = ![0, 1024 * qn c + 128 * 4] := by revert c; decide
theorem off9_5 (c : Dev nD) : k0_off9 c 640#32 = ![0, 1024 * qn c + 128 * 5] := by revert c; decide
theorem off9_6 (c : Dev nD) : k0_off9 c 768#32 = ![0, 1024 * qn c + 128 * 6] := by revert c; decide
theorem off9_7 (c : Dev nD) : k0_off9 c 896#32 = ![0, 1024 * qn c + 128 * 7] := by revert c; decide
theorem off10_0 (c : Dev nD) : k0_off10 c 0#32 = ![0, 1024 * qz c + 128 * 0] := by revert c; decide
theorem off10_2 (c : Dev nD) : k0_off10 c 256#32 = ![0, 1024 * qz c + 128 * 2] := by revert c; decide
theorem off10_4 (c : Dev nD) : k0_off10 c 512#32 = ![0, 1024 * qz c + 128 * 4] := by revert c; decide
theorem off10_6 (c : Dev nD) : k0_off10 c 768#32 = ![0, 1024 * qz c + 128 * 6] := by revert c; decide
theorem off11_1 (c : Dev nD) : k0_off11 c 128#32 = ![0, 1024 * qy c + 128 * 1] := by revert c; decide
theorem off11_3 (c : Dev nD) : k0_off11 c 384#32 = ![0, 1024 * qy c + 128 * 3] := by revert c; decide
theorem off11_5 (c : Dev nD) : k0_off11 c 640#32 = ![0, 1024 * qy c + 128 * 5] := by revert c; decide
theorem off11_7 (c : Dev nD) : k0_off11 c 896#32 = ![0, 1024 * qy c + 128 * 7] := by revert c; decide

/-! ## What a wait takes: a block's credit -/

theorem hN_r {o : Fin 2 → ℕ} {i} : ((rM : Memref sig .tc .vmem S512x1024 .f32).slice (Rect.unit (s := S512x1024) o S512x128.size i) (fun _ => rfl)).view.dmaCredit = N := rfl
theorem hN_p {o : Fin 2 → ℕ} {i} : ((pM : Memref sig .tc .vmem S1024x1024 .f32).slice (Rect.unit (s := S1024x1024) o S512x128.size i) (fun _ => rfl)).view.dmaCredit = N := rfl
theorem hN_o {o : Fin 2 → ℕ} {i} : ((oM : Memref sig .tc .vmem S512x4096 .f32).slice (Rect.unit (s := S512x4096) o S512x128.size i) (fun _ => rfl)).view.dmaCredit = N := rfl

/-- A program that returns. -/
theorem ret_step (c : Dev nD) {α : Type} {a : α} {Q : α → sProp 𝕄} : Q a ⊢ Run c (.ret a) Q := by
  unfold Run
  rw [wp_ret]
  iintro H
  imodintro
  iexact H

end Cert.KernelIdeal.Mesh

end
-- ==== Proof.Dots.lean ====
/-
# The body's parts: the products and the copies along the first axis
-/
module

public import proofs.«01_k».proof.Proof.Words

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

set_option maxHeartbeats 2000000 in
theorem part3 (c : Dev nD) {Q : (PUnit) → sProp 𝕄} :
    iprop(records m K ∗ In m c ∗ Ow c (oX c 8) ∗ St m c 0 3 0 0 0 0 0 0 0 0 0 ∗ St m c 1 0 0 0 0 0 0 0 0 0 0)
      ⊢ iprop(((In m c ∗ Ow c (oX c 7) ∗ St m c 0 5 0 1 1 0 0 0 0 0 0 ∗ St m c 1 4 0 0 0 0 0 0 0 0 0) -∗ Q ⟨⟩)
        -∗ Run c (k0_part3 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w5 c) (w8 c) (w9 c) (w13 c) (Scalar.cmpi .ne (Scalar.extui (Scalar.cmpi .eq (w13 c) 3#32)) 0#32)) Q) := by
  simp only [k0_part3_eq_skeleton]; unfold k0_part3_skel
  simp -zeta only [Prog.lift, Prog.bind_op, Prog.bind_ret, Prog.pure_eq_ret]
  iintro ⟨#HR, HI, HO, H0, H1⟩ HK
  iapply (dot_when m c 0 3 (by decide) (by decide) (cq3 c) rfl rfl (show k0_pay5 (F := F) = k0_pay2 from rfl)) $$ [HI H0]
  · isplitl [HI]; · iexact HI
    iexact H0
  iintro ⟨HI, H0⟩
  iapply (x_send m K c 0 (by decide) (dev4 c) (sem0 0 (by decide)) (sem1 0 (by decide)) (offx1 c) rfl (oX c 7) (oX c 8) rfl) $$ [HO H0]
  · isplitr; · iexact HR
    isplitl [HO]; · iexact HO
    iexact H0
  iintro ⟨HO, H0⟩
  iapply (dot_when m c 1 0 (by decide) (by decide) (cq0 c) rfl rfl (show k0_pay6 (F := F) = k0_pay2 from rfl)) $$ [HI H1]
  · isplitl [HI]; · iexact HI
    iexact H1
  iintro ⟨HI, H1⟩
  iapply (dot_when m c 1 1 (by decide) (by decide) (cq1 c) rfl rfl (show k0_pay7 (F := F) = k0_pay2 from rfl)) $$ [HI H1]
  · isplitl [HI]; · iexact HI
    iexact H1
  iintro ⟨HI, H1⟩
  iapply (dot_when m c 1 2 (by decide) (by decide) (cq2 c) rfl rfl (show k0_pay8 (F := F) = k0_pay2 from rfl)) $$ [HI H1]
  · isplitl [HI]; · iexact HI
    iexact H1
  iintro ⟨HI, H1⟩
  iapply (dot_when m c 1 3 (by decide) (by decide) (cq3 c) rfl rfl (show k0_pay9 (F := F) = k0_pay2 from rfl)) $$ [HI H1]
  · isplitl [HI]; · iexact HI
    iexact H1
  iintro ⟨HI, H1⟩
  iapply (ret_step c)
  iapply HK
  iframe

set_option maxHeartbeats 2000000 in
theorem part4 (c : Dev nD) {Q : (BitVec 1) → sProp 𝕄} :
    iprop(records m K ∗ In m c ∗ Ow c (oX c 7) ∗ St m c 1 4 0 0 0 0 0 0 0 0 0 ∗ St m c 2 0 0 0 0 0 0 0 0 0 0)
      ⊢ iprop(((In m c ∗ Ow c (oX c 5) ∗ St m c 1 5 0 1 1 0 0 0 0 0 0 ∗ St m c 2 5 0 1 1 0 0 0 0 0 0) -∗ Q (Scalar.cmpi .ne (Scalar.extui (Scalar.cmpi .eq (w13 c) 0#32)) 0#32))
        -∗ Run c (k0_part4 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w5 c) (w8 c) (w9 c) (w13 c)) Q) := by
  simp only [k0_part4_eq_skeleton]; unfold k0_part4_skel
  simp -zeta only [Prog.lift, Prog.bind_op, Prog.bind_ret, Prog.pure_eq_ret]
  iintro ⟨#HR, HI, HO, H1, H2⟩ HK
  iapply (x_send m K c 1 (by decide) (dev5 c) (sem0 1 (by decide)) (sem1 1 (by decide)) (offx2 c) rfl (oX c 6) (oX c 7) rfl) $$ [HO H1]
  · isplitr; · iexact HR
    isplitl [HO]; · iexact HO
    iexact H1
  iintro ⟨HO, H1⟩
  iapply (dot_when m c 2 0 (by decide) (by decide) (cq0 c) rfl rfl (show k0_pay10 (F := F) = k0_pay2 from rfl)) $$ [HI H2]
  · isplitl [HI]; · iexact HI
    iexact H2
  iintro ⟨HI, H2⟩
  iapply (dot_when m c 2 1 (by decide) (by decide) (cq1 c) rfl rfl (show k0_pay11 (F := F) = k0_pay2 from rfl)) $$ [HI H2]
  · isplitl [HI]; · iexact HI
    iexact H2
  iintro ⟨HI, H2⟩
  iapply (dot_when m c 2 2 (by decide) (by decide) (cq2 c) rfl rfl (show k0_pay12 (F := F) = k0_pay2 from rfl)) $$ [HI H2]
  · isplitl [HI]; · iexact HI
    iexact H2
  iintro ⟨HI, H2⟩
  iapply (dot_when m c 2 3 (by decide) (by decide) (cq3 c) rfl rfl (show k0_pay13 (F := F) = k0_pay2 from rfl)) $$ [HI H2]
  · isplitl [HI]; · iexact HI
    iexact H2
  iintro ⟨HI, H2⟩
  iapply (x_send m K c 2 (by decide) (dev6 c) (sem0 2 (by decide)) (sem1 2 (by decide)) (offx3 c) rfl (oX c 5) (oX c 6) rfl) $$ [HO H2]
  · isplitr; · iexact HR
    isplitl [HO]; · iexact HO
    iexact H2
  iintro ⟨HO, H2⟩
  iapply (ret_step c)
  iapply HK
  iframe

set_option maxHeartbeats 2000000 in
theorem part5 (c : Dev nD) {Q : (BitVec 32) → sProp 𝕄} :
    iprop(records m K ∗ In m c ∗ Ow c (oX c 5) ∗ St m c 3 0 0 0 0 0 0 0 0 0 0 ∗ St m c 4 0 0 0 0 0 0 0 0 0 0)
      ⊢ iprop(((In m c ∗ Ow c (oX c 4) ∗ St m c 3 5 0 1 1 0 0 0 0 0 0 ∗ St m c 4 3 0 0 0 0 0 0 0 0 0) -∗ Q 3#32)
        -∗ Run c (k0_part5 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w5 c) (w8 c) (w9 c) (w13 c) (Scalar.cmpi .ne (Scalar.extui (Scalar.cmpi .eq (w13 c) 0#32)) 0#32)) Q) := by
  simp only [k0_part5_eq_skeleton]; unfold k0_part5_skel
  simp -zeta only [Prog.lift, Prog.bind_op, Prog.bind_ret, Prog.pure_eq_ret]
  iintro ⟨#HR, HI, HO, H3, H4⟩ HK
  iapply (dot_when m c 3 0 (by decide) (by decide) (cq0 c) rfl rfl (show k0_pay14 (F := F) = k0_pay2 from rfl)) $$ [HI H3]
  · isplitl [HI]; · iexact HI
    iexact H3
  iintro ⟨HI, H3⟩
  iapply (dot_when m c 3 1 (by decide) (by decide) (cq1 c) rfl rfl (show k0_pay15 (F := F) = k0_pay2 from rfl)) $$ [HI H3]
  · isplitl [HI]; · iexact HI
    iexact H3
  iintro ⟨HI, H3⟩
  iapply (dot_when m c 3 2 (by decide) (by decide) (cq2 c) rfl rfl (show k0_pay16 (F := F) = k0_pay2 from rfl)) $$ [HI H3]
  · isplitl [HI]; · iexact HI
    iexact H3
  iintro ⟨HI, H3⟩
  iapply (dot_when m c 3 3 (by decide) (by decide) (cq3 c) rfl rfl (show k0_pay17 (F := F) = k0_pay2 from rfl)) $$ [HI H3]
  · isplitl [HI]; · iexact HI
    iexact H3
  iintro ⟨HI, H3⟩
  iapply (x_send m K c 3 (by decide) (dev7 c) (sem0 3 (by decide)) (sem1 3 (by decide)) (offx4 c) rfl (oX c 4) (oX c 5) rfl) $$ [HO H3]
  · isplitr; · iexact HR
    isplitl [HO]; · iexact HO
    iexact H3
  iintro ⟨HO, H3⟩
  iapply (dot_when m c 4 0 (by decide) (by decide) (cq0 c) rfl rfl (show k0_pay18 (F := F) = k0_pay2 from rfl)) $$ [HI H4]
  · isplitl [HI]; · iexact HI
    iexact H4
  iintro ⟨HI, H4⟩
  iapply (dot_when m c 4 1 (by decide) (by decide) (cq1 c) rfl rfl (show k0_pay19 (F := F) = k0_pay2 from rfl)) $$ [HI H4]
  · isplitl [HI]; · iexact HI
    iexact H4
  iintro ⟨HI, H4⟩
  iapply (dot_when m c 4 2 (by decide) (by decide) (cq2 c) rfl rfl (show k0_pay20 (F := F) = k0_pay2 from rfl)) $$ [HI H4]
  · isplitl [HI]; · iexact HI
    iexact H4
  iintro ⟨HI, H4⟩
  iapply (ret_step c)
  iapply HK
  iframe

set_option maxHeartbeats 2000000 in
theorem part6 (c : Dev nD) {Q : (BitVec 32) → sProp 𝕄} :
    iprop(records m K ∗ In m c ∗ Ow c (oX c 4) ∗ St m c 4 3 0 0 0 0 0 0 0 0 0 ∗ St m c 5 0 0 0 0 0 0 0 0 0 0)
      ⊢ iprop(((In m c ∗ Ow c (oX c 3) ∗ St m c 4 5 0 1 1 0 0 0 0 0 0 ∗ St m c 5 4 0 0 0 0 0 0 0 0 0) -∗ Q (Scalar.addi (Scalar.addi 0#32 (Scalar.muli (w9 c) 4#32)) (Scalar.muli (w5 c) 2#32)))
        -∗ Run c (k0_part6 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w5 c) (w8 c) (w9 c) (w13 c) 3#32) Q) := by
  simp only [k0_part6_eq_skeleton]; unfold k0_part6_skel
  simp -zeta only [Prog.lift, Prog.bind_op, Prog.bind_ret, Prog.pure_eq_ret]
  iintro ⟨#HR, HI, HO, H4, H5⟩ HK
  iapply (dot_when m c 4 3 (by decide) (by decide) (cq3 c) rfl rfl (show k0_pay21 (F := F) = k0_pay2 from rfl)) $$ [HI H4]
  · isplitl [HI]; · iexact HI
    iexact H4
  iintro ⟨HI, H4⟩
  iapply (x_send m K c 4 (by decide) (dev8 c) (sem0 4 (by decide)) (sem1 4 (by decide)) (offx5 c) rfl (oX c 3) (oX c 4) rfl) $$ [HO H4]
  · isplitr; · iexact HR
    isplitl [HO]; · iexact HO
    iexact H4
  iintro ⟨HO, H4⟩
  iapply (dot_when m c 5 0 (by decide) (by decide) (cq0 c) rfl rfl (show k0_pay22 (F := F) = k0_pay2 from rfl)) $$ [HI H5]
  · isplitl [HI]; · iexact HI
    iexact H5
  iintro ⟨HI, H5⟩
  iapply (dot_when m c 5 1 (by decide) (by decide) (cq1 c) rfl rfl (show k0_pay23 (F := F) = k0_pay2 from rfl)) $$ [HI H5]
  · isplitl [HI]; · iexact HI
    iexact H5
  iintro ⟨HI, H5⟩
  iapply (dot_when m c 5 2 (by decide) (by decide) (cq2 c) rfl rfl (show k0_pay24 (F := F) = k0_pay2 from rfl)) $$ [HI H5]
  · isplitl [HI]; · iexact HI
    iexact H5
  iintro ⟨HI, H5⟩
  iapply (dot_when m c 5 3 (by decide) (by decide) (cq3 c) rfl rfl (show k0_pay25 (F := F) = k0_pay2 from rfl)) $$ [HI H5]
  · isplitl [HI]; · iexact HI
    iexact H5
  iintro ⟨HI, H5⟩
  iapply (ret_step c)
  iapply HK
  iframe

set_option maxHeartbeats 2000000 in
theorem part7 (c : Dev nD) {Q : (BitVec 32) → sProp 𝕄} :
    iprop(records m K ∗ In m c ∗ Ow c (oX c 3) ∗ St m c 5 4 0 0 0 0 0 0 0 0 0 ∗ St m c 6 0 0 0 0 0 0 0 0 0 0)
      ⊢ iprop(((In m c ∗ Ow c (oX c 1) ∗ St m c 5 5 0 1 1 0 0 0 0 0 0 ∗ St m c 6 5 0 1 1 0 0 0 0 0 0) -∗ Q 0#32)
        -∗ Run c (k0_part7 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w5 c) (w8 c) (w9 c) (w13 c) (Scalar.addi (Scalar.addi 0#32 (Scalar.muli (w9 c) 4#32)) (Scalar.muli (w5 c) 2#32))) Q) := by
  simp only [k0_part7_eq_skeleton]; unfold k0_part7_skel
  simp -zeta only [Prog.lift, Prog.bind_op, Prog.bind_ret, Prog.pure_eq_ret]
  iintro ⟨#HR, HI, HO, H5, H6⟩ HK
  iapply (x_send m K c 5 (by decide) (dev9 c) (sem0 5 (by decide)) (sem1 5 (by decide)) (offx6 c) rfl (oX c 2) (oX c 3) rfl) $$ [HO H5]
  · isplitr; · iexact HR
    isplitl [HO]; · iexact HO
    iexact H5
  iintro ⟨HO, H5⟩
  iapply (dot_when m c 6 0 (by decide) (by decide) (cq0 c) rfl rfl (show k0_pay26 (F := F) = k0_pay2 from rfl)) $$ [HI H6]
  · isplitl [HI]; · iexact HI
    iexact H6
  iintro ⟨HI, H6⟩
  iapply (dot_when m c 6 1 (by decide) (by decide) (cq1 c) rfl rfl (show k0_pay27 (F := F) = k0_pay2 from rfl)) $$ [HI H6]
  · isplitl [HI]; · iexact HI
    iexact H6
  iintro ⟨HI, H6⟩
  iapply (dot_when m c 6 2 (by decide) (by decide) (cq2 c) rfl rfl (show k0_pay28 (F := F) = k0_pay2 from rfl)) $$ [HI H6]
  · isplitl [HI]; · iexact HI
    iexact H6
  iintro ⟨HI, H6⟩
  iapply (dot_when m c 6 3 (by decide) (by decide) (cq3 c) rfl rfl (show k0_pay29 (F := F) = k0_pay2 from rfl)) $$ [HI H6]
  · isplitl [HI]; · iexact HI
    iexact H6
  iintro ⟨HI, H6⟩
  iapply (x_send m K c 6 (by decide) (dev10 c) (sem0 6 (by decide)) (sem1 6 (by decide)) (offx7 c) rfl (oX c 1) (oX c 2) rfl) $$ [HO H6]
  · isplitr; · iexact HR
    isplitl [HO]; · iexact HO
    iexact H6
  iintro ⟨HO, H6⟩
  iapply (ret_step c)
  iapply HK
  iframe

set_option maxHeartbeats 2000000 in
theorem part8 (c : Dev nD) {Q : (PUnit) → sProp 𝕄} :
    iprop(records m K ∗ In m c ∗ Ow c (oX c 1) ∗ St m c 7 0 0 0 0 0 0 0 0 0 0)
      ⊢ iprop(((In m c ∗ Ow c (oY c 8) ∗ St m c 7 5 0 1 1 0 0 0 0 0 0) -∗ Q ⟨⟩)
        -∗ Run c (k0_part8 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w5 c) (w8 c) (w9 c) (w13 c) 0#32) Q) := by
  simp only [k0_part8_eq_skeleton]; unfold k0_part8_skel
  simp -zeta only [Prog.lift, Prog.bind_op, Prog.bind_ret, Prog.pure_eq_ret]
  iintro ⟨#HR, HI, HO, H7⟩ HK
  iapply (dot_when m c 7 0 (by decide) (by decide) (cq0 c) rfl rfl (show k0_pay30 (F := F) = k0_pay2 from rfl)) $$ [HI H7]
  · isplitl [HI]; · iexact HI
    iexact H7
  iintro ⟨HI, H7⟩
  iapply (dot_when m c 7 1 (by decide) (by decide) (cq1 c) rfl rfl (show k0_pay31 (F := F) = k0_pay2 from rfl)) $$ [HI H7]
  · isplitl [HI]; · iexact HI
    iexact H7
  iintro ⟨HI, H7⟩
  iapply (dot_when m c 7 2 (by decide) (by decide) (cq2 c) rfl rfl (show k0_pay32 (F := F) = k0_pay2 from rfl)) $$ [HI H7]
  · isplitl [HI]; · iexact HI
    iexact H7
  iintro ⟨HI, H7⟩
  iapply (dot_when m c 7 3 (by decide) (by decide) (cq3 c) rfl rfl (show k0_pay33 (F := F) = k0_pay2 from rfl)) $$ [HI H7]
  · isplitl [HI]; · iexact HI
    iexact H7
  iintro ⟨HI, H7⟩
  iapply (x_send m K c 7 (by decide) (dev11 c) (sem0 7 (by decide)) (sem1 7 (by decide)) (offx8 c) rfl (oY c 8) (oX c 1) rfl) $$ [HO H7]
  · isplitr; · iexact HR
    isplitl [HO]; · iexact HO
    iexact H7
  iintro ⟨HO, H7⟩
  iapply (ret_step c)
  iapply HK
  iframe

end Cert.KernelIdeal.Mesh

end
-- ==== Proof.Opening.lean ====
/-
# The opening of the body

The signals to the three neighbours, the wait for theirs, the transpose, and the first products.
-/
module

public import proofs.«01_k».proof.Proof.Dots

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- A receive cell at the start, with the right to pay its counterpart. -/
def Rv' (c : Dev nD) (k s : ℕ) : sProp 𝕄 :=
  iprop(atPos ER (dcell c k s) 0 ∅ 0 ∗ cred (tallyAt (dcell c k s) () N) ∗ dutyTok ER (dcell (tgt c k s) k s) 0 0)
/-- A send cell at the start. -/
def Sd' (c : Dev nD) (k s : ℕ) : sProp 𝕄 := iprop(atPos ER (dcell c k s) 0 ∅ 0 ∗ dutyTok ER (dcell c k s) 0 0)

/-- What a device holds of chunk `s` before its neighbours signalled. -/
def Pre (c : Dev nD) (s : ℕ) : sProp 𝕄 :=
  iprop(PcE c s ∗ OuE c (qn c) s ∗ Sd' c 0 s ∗ Rv' c 1 s ∗ Sd' c 2 s ∗ Rv' c 3 s ∗ Sd' c 4 s ∗ Rv' c 5 s ∗ Sd' c 6 s ∗ Rv' c 7 s)

/-- Chunk `s` before its neighbours signalled and what they hand over make the chunk's first state. -/
theorem open_chunk (c : Dev nD) (s : ℕ) :
    iprop(Pre c s ∗ RxE (xn c) s ∗ (landY c s ∗ par s (landR c s) iprop(emp)) ∗ (landZ c s ∗ par s iprop(emp) (landR c s)))
      ⊢ (St m c s 0 0 0 0 0 0 0 0 0 0 : sProp 𝕄) := by
  unfold Pre St Rv' Sd'
  rw [A_open m c s 0 (by decide) (Nat.zero_le _), B_open m c s 0 (by decide) (Nat.zero_le _), Sd_0 m c 0 s, Sd_0 m c 2 s, Sd_0 m c 4 s, Sd_0 m c 6 s,
    Rv_0 m c 1 s, Rv_0 m c 3 s, Rv_0 m c 5 s, Rv_0 m c 7 s,
    show (land c 1 s : sProp 𝕄) = RxE (xn c) s from rfl, show (land c 3 s : sProp 𝕄) = landY c s from rfl,
    show (land c 5 s : sProp 𝕄) = landZ c s from rfl, show (land c 7 s : sProp 𝕄) = landR c s from rfl]
  unfold par
  split
  · iintro ⟨⟨H1, H2, H3, ⟨H4, H4', H4''⟩, H5, ⟨H6, H6', H6''⟩, H7, ⟨H8, H8', H8''⟩, H9, H10, H10', H10''⟩, HX, ⟨HY, HR⟩, ⟨HZ, -⟩⟩
    iframe
  · iintro ⟨⟨H1, H2, H3, ⟨H4, H4', H4''⟩, H5, ⟨H6, H6', H6''⟩, H7, ⟨H8, H8', H8''⟩, H9, H10, H10', H10''⟩, HX, ⟨HY, -⟩, ⟨HZ, HR⟩⟩
    iframe

/-- The eight chunks, one by one. -/
theorem bigSep_8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- All chunks at once, after the barrier. -/
theorem open_chunks (c : Dev nD) :
    iprop((bigSep Finset.univ fun s : Fin 8 => Pre (F := F) c s.val) ∗ barPay c 0 ∗ barPay c 1 ∗ barPay c 2)
      ⊢ iprop(St m c 0 0 0 0 0 0 0 0 0 0 0 ∗ St m c 1 0 0 0 0 0 0 0 0 0 0 ∗ St m c 2 0 0 0 0 0 0 0 0 0 0 ∗ St m c 3 0 0 0 0 0 0 0 0 0 0 ∗ St m c 4 0 0 0 0 0 0 0 0 0 0 ∗ St m c 5 0 0 0 0 0 0 0 0 0 0 ∗ St m c 6 0 0 0 0 0 0 0 0 0 0 ∗ St m c 7 0 0 0 0 0 0 0 0 0 0) := by
  rw [show (barPay c 0 : sProp 𝕄) = bigSep Finset.univ fun s : Fin 8 => RxE (xn c) s.val from rfl,
    show (barPay c 1 : sProp 𝕄) = bigSep Finset.univ fun s : Fin 8 => iprop(landY c s.val ∗ par s.val (landR c s.val) iprop(emp)) from rfl,
    show (barPay c 2 : sProp 𝕄) = bigSep Finset.univ fun s : Fin 8 => iprop(landZ c s.val ∗ par s.val iprop(emp) (landR c s.val)) from rfl,
    ← bigSep_sep', ← bigSep_sep', ← bigSep_sep']
  exact (bigSep_mono fun s _ => open_chunk m c s.val).trans (Entails.of_eq (bigSep_8 _))

/-- A device's own number is known to it. -/
theorem device_step (c : Dev nD) {α : Type} {k : Dev nD → Prog (TpuEff nD τ sig (Elt F) Λ₀ .tc) α} {Q : α → sProp 𝕄} :
    Run c (k c) Q ⊢ Run c (.op .deviceId k) Q := by
  unfold Run
  rw [wp_deviceId]

/-- The signal along the first axis. -/
theorem part1 (c : Dev nD) {Q : (Σ' (d0 : Dev nD) (v2 : BitVec 32) (v5 : BitVec 32) (v8 : BitVec 32) (v9 : BitVec 32) (v10 : BitVec 32) (v11 : BitVec 32) (v13 : BitVec 32) (v16 : BitVec 32) (v19 : BitVec 32) (v23 : BitVec 32), Sems sig S_) → sProp 𝕄} :
    iprop(records m K ∗ Ow c (O₀ c) ∗ dutyTok ER (barCell (xn c)) 0 0 ∗ barPay (xn c) 0)
      ⊢ iprop((Ow c ((oX c 8 + tallyAt (barCell (zn c)) () 1) + tallyAt (barCell (yn c)) () 1) -∗ Q ⟨c, (w2 c), (w5 c), (w8 c), (w9 c), (w10 c), (w11 c), (w13 c), (w16 c), (w19 c), (w23 c), (SemArray.scalar (sig.barrier 0 rfl))⟩)
        -∗ Run c (k0_part1 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10) Q) := by
  simp only [k0_part1_eq_skeleton]; unfold k0_part1_skel
  simp -zeta only [Prog.lift, Prog.bind_op, Prog.bind_ret, Prog.pure_eq_ret, semSignalWord, semWaitWord, wp_deviceId]
  iintro ⟨#HR, HO, HT1, HB1⟩ HK
  iapply (device_step c)
  iapply (signal_step m K c (xn c) 0 (dev1 c) ((oX c 8 + tallyAt (barCell (zn c)) () 1) + tallyAt (barCell (yn c)) () 1) (O₀ c) rfl rfl) $$ [HO HT1 HB1]
  · isplitr; · iexact HR
    isplitl [HO]; · iexact HO
    isplitl [HT1]; · iexact HT1
    iexact HB1
  iintro HO
  iapply (ret_step c)
  iapply HK
  iexact HO

theorem read_x (f : (cc0_stg0_0 : Ref sig .tc).ty.Contents (Elt F)) :
    (xM : Memref sig .tc .vmem S1024x1024 .f32).view.readAt (Elt F) (Rect.unit (s := S1024x1024) ![0, 0] S1024x1024.size inb_S1024x1024_S1024x1024_0_0).toLoadRect f = f :=
  Memref.readAt_unit_zero (Elt F) cc0_stg0_0 zz _ f
theorem write_t (f w : (cc0_scratch0 : Ref sig .tc).ty.Contents (Elt F)) :
    ((tM : Memref sig .tc .vmem S1024x1024 .f32).access (Rect.unit (s := S1024x1024) ![0, 0] S1024x1024.size inb_S1024x1024_S1024x1024_0_0)).write (Elt F) f w Finset.univ = w :=
  Memref.write_access_unit_zero_univ (Elt F) cc0_scratch0 zz _ f w

set_option maxHeartbeats 2000000 in
/-- The signals along the other two axes, the wait for the three neighbours, the transpose, and three branches of the first product. -/
theorem part2 (c : Dev nD) {Q : (BitVec 1) → sProp 𝕄} :
    iprop(records m K ∗ Ow c ((oX c 8 + tallyAt (barCell (zn c)) () 1) + tallyAt (barCell (yn c)) () 1) ∗ (dutyTok ER (barCell (yn c)) 0 1 ∗ barPay (yn c) 1) ∗ (dutyTok ER (barCell (zn c)) 0 2 ∗ barPay (zn c) 2)
        ∗ atPos ER (barCell c) 0 ∅ 0 ∗ cred (tallyAt (barCell c) () 3)
        ∗ (xLoc c ↦{fullShare} xs m c) ∗ (dLoc c ↦{fullShare} ds m c) ∗ (∃ f, tLoc c ↦{fullShare} f)
        ∗ bigSep Finset.univ fun s : Fin 8 => Pre c s.val)
      ⊢ iprop(((Ow c (oX c 8) ∗ atPos ER (barCell c) 1 ∅ 0 ∗ (xLoc c ↦{fullShare} xs m c) ∗ In m c ∗ St m c 0 3 0 0 0 0 0 0 0 0 0 ∗ St m c 1 0 0 0 0 0 0 0 0 0 0 ∗ St m c 2 0 0 0 0 0 0 0 0 0 0 ∗ St m c 3 0 0 0 0 0 0 0 0 0 0 ∗ St m c 4 0 0 0 0 0 0 0 0 0 0 ∗ St m c 5 0 0 0 0 0 0 0 0 0 0 ∗ St m c 6 0 0 0 0 0 0 0 0 0 0 ∗ St m c 7 0 0 0 0 0 0 0 0 0 0) -∗ Q (Scalar.cmpi .ne (Scalar.extui (Scalar.cmpi .eq (w13 c) 3#32)) 0#32))
        -∗ Run c (k0_part2 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w10 c) (w11 c) (w13 c) (SemArray.scalar (sig.barrier 0 rfl))) Q) := by
  simp only [k0_part2_eq_skeleton]; unfold k0_part2_skel
  simp -zeta only [Prog.lift, Prog.bind_op, Prog.bind_ret, Prog.pure_eq_ret, semSignalWord, semWaitWord, wp_deviceId]
  iintro ⟨#HR, HO, ⟨HT2, HB2⟩, ⟨HT3, HB3⟩, Hat, Hcr, HX, HD, ⟨%ft, HT⟩, HP⟩ HK
  iapply (signal_step m K c (yn c) 1 (dev2 c) (oX c 8 + tallyAt (barCell (zn c)) () 1) ((oX c 8 + tallyAt (barCell (zn c)) () 1) + tallyAt (barCell (yn c)) () 1) rfl rfl) $$ [HO HT2 HB2]
  · isplitr; · iexact HR
    isplitl [HO]; · iexact HO
    isplitl [HT2]; · iexact HT2
    iexact HB2
  iintro HO
  iapply (signal_step m K c (zn c) 2 (dev3 c) (oX c 8) (oX c 8 + tallyAt (barCell (zn c)) () 1) rfl rfl) $$ [HO HT3 HB3]
  · isplitr; · iexact HR
    isplitl [HO]; · iexact HO
    isplitl [HT3]; · iexact HT3
    iexact HB3
  iintro HO
  iapply (barrier_wait m K c (oX c 8) (above_oX c 8) rfl) $$ [HO Hat Hcr]
  · isplitr; · iexact HR
    isplitl [HO]; · iexact HO
    isplitl [Hat] <;> iassumption
  iintro ⟨HO, Hat, HB⟩
  ihave HS := (open_chunks m c) $$ [HP HB]
  · isplitl [HP] <;> iassumption
  icases HS with ⟨H0, HS⟩
  iapply (wp_load 𝒱₀ (c : Thread nD τ) none Set.univ (m := xM) (S := Finset.univ) (f := xs m c) (Finset.subset_univ _)) $$ HX
  iintro HX
  iapply (wp_load 𝒱₀ (c : Thread nD τ) none Set.univ (m := tM) (S := Finset.univ) (f := ft) (Finset.subset_univ _)) $$ HT
  iintro HT
  iapply (wp_store 𝒱₀ (c : Thread nD τ) none Set.univ (m := tM) (r := Rect.unit (s := S1024x1024) ![0, 0] S1024x1024.size inb_S1024x1024_S1024x1024_0_0) (S := Finset.univ) (f := ft) (Finset.subset_univ _)) $$ HT
  iintro HT
  rw [read_x, write_t]
  ihave HI := (show iprop((dLoc c ↦{fullShare} ds m c) ∗ (tLoc c ↦{fullShare} k0_pay1 (xs m c))) ⊢ In m c from Entails.refl _) $$ [HD HT]
  · isplitl [HD] <;> iassumption
  iapply (dot_when m c 0 0 (by decide) (by decide) (cq0 c) rfl rfl (show k0_pay2 (F := F) = k0_pay2 from rfl)) $$ [HI H0]
  · isplitl [HI]; · iexact HI
    iexact H0
  iintro ⟨HI, H0⟩
  iapply (dot_when m c 0 1 (by decide) (by decide) (cq1 c) rfl rfl (show k0_pay3 (F := F) = k0_pay2 from rfl)) $$ [HI H0]
  · isplitl [HI]; · iexact HI
    iexact H0
  iintro ⟨HI, H0⟩
  iapply (dot_when m c 0 2 (by decide) (by decide) (cq2 c) rfl rfl (show k0_pay4 (F := F) = k0_pay2 from rfl)) $$ [HI H0]
  · isplitl [HI]; · iexact HI
    iexact H0
  iintro ⟨HI, H0⟩
  iapply (ret_step c)
  iapply HK
  isplitl [HO]; · iexact HO
  isplitl [Hat]; · iexact Hat
  isplitl [HX]; · iexact HX
  isplitl [HI]; · iexact HI
  isplitl [H0]; · iexact H0
  iexact HS

end Cert.KernelIdeal.Mesh

end
-- ==== Proof.Sums.lean ====
/-
# The body's parts: the sums and the copies along the second and third axes
-/
module

public import proofs.«01_k».proof.Proof.Words

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem part9 (c : Dev nD) {Q : (BitVec 32) → sProp 𝕄} :
    iprop(records m K ∗ Ow c (oY c 8) ∗ St m c 0 5 0 1 1 0 0 0 0 0 0)
      ⊢ iprop(((Ow c (oY c 8) ∗ St m c 0 5 6 1 2 0 0 0 0 0 0) -∗ Q 3#32)
        -∗ Run c (k0_part9 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w13 c)) Q) := by
  simp only [k0_part9_eq_skeleton]; unfold k0_part9_skel
  simp -zeta only [Prog.lift, Prog.bind_op, Prog.bind_ret, Prog.pure_eq_ret]
  iintro ⟨#HR, HO, H0⟩ HK
  iapply (wait_1 m K c 0 2 (by decide) (oY c 8) (above_oY c 8) (by decide) hN_r (sem1 0 (by decide)) (a' := 5) (b' := 0) (i0 := 1) (i2 := 0) (i3 := 0) (i4 := 0) (i5 := 0) (i6 := 0) (i7 := 0)) $$ [HO H0]
  · isplitr; · iexact HR
    isplitl [HO]; · iexact HO
    iexact H0
  iintro ⟨HO, H0⟩
  iapply (sum_when m c 0 0 0 0 rfl (by decide) (by decide) (by decide) (cs0 c) rfl rfl rfl (show k0_pay34 (F := F) = k0_pay34 from rfl)) $$ H0
  iintro H0
  iapply (sum_when m c 0 0 1 1 rfl (by decide) (by decide) (by decide) (cs1 c) rfl rfl rfl (show k0_pay35 (F := F) = k0_pay34 from rfl)) $$ H0
  iintro H0
  iapply (sum_when m c 0 1 0 2 rfl (by decide) (by decide) (by decide) (cs2 c) rfl rfl rfl (show k0_pay36 (F := F) = k0_pay34 from rfl)) $$ H0
  iintro H0
  iapply (sum_when m c 0 1 1 3 rfl (by decide) (by decide) (by decide) (cs3 c) rfl rfl rfl (show k0_pay37 (F := F) = k0_pay34 from rfl)) $$ H0
  iintro H0
  iapply (sum_when m c 0 2 0 4 rfl (by decide) (by decide) (by decide) (cs4 c) rfl rfl rfl (show k0_pay38 (F := F) = k0_pay34 from rfl)) $$ H0
  iintro H0
  iapply (sum_when m c 0 2 1 5 rfl (by decide) (by decide) (by decide) (cs5 c) rfl rfl rfl (show k0_pay39 (F := F) = k0_pay34 from rfl)) $$ H0
  iintro H0
  iapply (ret_step c)
  iapply HK
  iframe

theorem part10 (c : Dev nD) {Q : (BitVec 32) → sProp 𝕄} :
    iprop(records m K ∗ Ow c (oY c 8) ∗ St m c 0 5 6 1 2 0 0 0 0 0 0)
      ⊢ iprop(((Ow c (oY c 7 + tZ c 0) ∗ St m c 0 5 9 1 2 1 1 0 0 0 0) -∗ Q (Scalar.addi 0#32 (Scalar.muli (w2 c) 4#32)))
        -∗ Run c (k0_part10 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w8 c) (w10 c) (w13 c) 3#32) Q) := by
  simp only [k0_part10_eq_skeleton]; unfold k0_part10_skel
  simp -zeta only [Prog.lift, Prog.bind_op, Prog.bind_ret, Prog.pure_eq_ret]
  iintro ⟨#HR, HO, H0⟩ HK
  iapply (sum_when m c 0 3 0 6 rfl (by decide) (by decide) (by decide) (cs6 c) rfl rfl rfl (show k0_pay40 (F := F) = k0_pay34 from rfl)) $$ H0
  iintro H0
  iapply (sum_when m c 0 3 1 7 rfl (by decide) (by decide) (by decide) (cs7 c) rfl rfl rfl (show k0_pay41 (F := F) = k0_pay34 from rfl)) $$ H0
  iintro H0
  iapply (y_send m K c 0 (by decide) (dev12 c) (sem2 0 (by decide)) (sem3 0 (by decide)) (off9_0 c) (oY c 7 + tZ c 0) (oY c 8) rfl) $$ [HO H0]
  · isplitr; · iexact HR
    isplitl [HO]; · iexact HO
    iexact H0
  iintro ⟨HO, H0⟩
  iapply (ret_step c)
  iapply HK
  iframe

theorem part11 (c : Dev nD) {Q : (Σ' (v348 : BitVec 32), BitVec 32) → sProp 𝕄} :
    iprop(records m K ∗ Ow c (oY c 7 + tZ c 0) ∗ St m c 0 5 9 1 2 1 1 0 0 0 0 ∗ St m c 1 5 0 1 1 0 0 0 0 0 0)
      ⊢ iprop(((Ow c (oY c 7) ∗ St m c 0 5 10 1 2 1 1 1 1 0 0 ∗ St m c 1 5 2 1 2 0 0 0 0 0 0) -∗ Q ⟨(Scalar.extui (Scalar.andi (Scalar.cmpi .eq (w13 c) 1#32) (Scalar.cmpi .eq (w2 c) 0#32))), 0#32⟩)
        -∗ Run c (k0_part11 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w13 c) (Scalar.addi 0#32 (Scalar.muli (w2 c) 4#32))) Q) := by
  simp only [k0_part11_eq_skeleton]; unfold k0_part11_skel
  simp -zeta only [Prog.lift, Prog.bind_op, Prog.bind_ret, Prog.pure_eq_ret]
  iintro ⟨#HR, HO, H0, H1⟩ HK
  iapply (z_send m K c 0 (by decide) (dev13 c) (sem4 0 (by decide)) (sem5 0 (by decide)) (off9_0 c) (oY c 7) (oY c 7 + tZ c 0) rfl) $$ [HO H0]
  · isplitr; · iexact HR
    isplitl [HO]; · iexact HO
    iexact H0
  iintro ⟨HO, H0⟩
  iapply (wait_1 m K c 1 2 (by decide) (oY c 7) (above_oY c 7) (by decide) hN_r (sem1 1 (by decide)) (a' := 5) (b' := 0) (i0 := 1) (i2 := 0) (i3 := 0) (i4 := 0) (i5 := 0) (i6 := 0) (i7 := 0)) $$ [HO H1]
  · isplitr; · iexact HR
    isplitl [HO]; · iexact HO
    iexact H1
  iintro ⟨HO, H1⟩
  iapply (sum_when m c 1 0 0 0 rfl (by decide) (by decide) (by decide) (cs0 c) rfl rfl rfl (show k0_pay42 (F := F) = k0_pay34 from rfl)) $$ H1
  iintro H1
  iapply (sum_when m c 1 0 1 1 rfl (by decide) (by decide) (by decide) (cs1 c) rfl rfl rfl (show k0_pay43 (F := F) = k0_pay34 from rfl)) $$ H1
  iintro H1
  iapply (ret_step c)
  iapply HK
  iframe

theorem part12 (c : Dev nD) {Q : (Σ' (v379 : BitVec 32), BitVec 32) → sProp 𝕄} :
    iprop(records m K ∗ Ow c (oY c 7) ∗ St m c 1 5 2 1 2 0 0 0 0 0 0)
      ⊢ iprop(((Ow c (oY c 7) ∗ St m c 1 5 8 1 2 0 0 0 0 0 0) -∗ Q ⟨(Scalar.muli (w2 c) 4#32), 0#32⟩)
        -∗ Run c (k0_part12 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 (w2 c) (w13 c) (Scalar.extui (Scalar.andi (Scalar.cmpi .eq (w13 c) 1#32) (Scalar.cmpi .eq (w2 c) 0#32))) 0#32) Q) := by
  simp only [k0_part12_eq_skeleton]; unfold k0_part12_skel
  simp -zeta only [Prog.lift, Prog.bind_op, Prog.bind_ret, Prog.pure_eq_ret]
  iintro ⟨#HR, HO, H1⟩ HK
  iapply (sum_when m c 1 1 0 2 rfl (by decide) (by decide) (by decide) (cs2 c) rfl rfl rfl (show k0_pay44 (F := F) = k0_pay34 from rfl)) $$ H1
  iintro H1
  iapply (sum_when m c 1 1 1 3 rfl (by decide) (by decide) (by decide) (cs3 c) rfl rfl rfl (show k0_pay45 (F := F) = k0_pay34 from rfl)) $$ H1
  iintro H1
  iapply (sum_when m c 1 2 0 4 rfl (by decide) (by decide) (by decide) (cs4 c) rfl rfl rfl (show k0_pay46 (F := F) = k0_pay34 from rfl)) $$ H1
  iintro H1
  iapply (sum_when m c 1 2 1 5 rfl (by decide) (by decide) (by decide) (cs5 c) rfl rfl rfl (show k0_pay47 (F := F) = k0_pay34 from rfl)) $$ H1
  iintro H1
  iapply (sum_when m c 1 3 0 6 rfl (by decide) (by decide) (by decide) (cs6 c) rfl rfl rfl (show k0_pay48 (F := F) = k0_pay34 from rfl)) $$ H1
  iintro H1
  iapply (sum_when m c 1 3 1 7 rfl (by decide) (by decide) (by decide) (cs7 c) rfl rfl rfl (show k0_pay49 (F := F) = k0_pay34 from rfl)) $$ H1
  iintro H1
  iapply (ret_step c)
  iapply HK
  iframe

theorem part13 (c : Dev nD) {Q : (PUnit) → sProp 𝕄} :
    iprop(records m K ∗ Ow c (oY c 7) ∗ St m c 1 5 8 1 2 0 0 0 0 0 0)
      ⊢ iprop(((Ow c (oY c 6) ∗ St m c 1 5 10 1 2 1 1 1 1 0 0) -∗ Q ⟨⟩)
        -∗ Run c (k0_part13 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w11 c) (w13 c) (Scalar.muli (w2 c) 4#32) 0#32) Q) := by
  simp only [k0_part13_eq_skeleton]; unfold k0_part13_skel
  simp -zeta only [Prog.lift, Prog.bind_op, Prog.bind_ret, Prog.pure_eq_ret]
  iintro ⟨#HR, HO, H1⟩ HK
  iapply (y_send m K c 1 (by decide) (dev14 c) (sem2 1 (by decide)) (sem3 1 (by decide)) (off9_1 c) (oY c 6 + tZ c 1) (oY c 7) rfl) $$ [HO H1]
  · isplitr; · iexact HR
    isplitl [HO]; · iexact HO
    iexact H1
  iintro ⟨HO, H1⟩
  iapply (z_send m K c 1 (by decide) (dev15 c) (sem4 1 (by decide)) (sem5 1 (by decide)) (off9_1 c) (oY c 6) (oY c 6 + tZ c 1) rfl) $$ [HO H1]
  · isplitr; · iexact HR
    isplitl [HO]; · iexact HO
    iexact H1
  iintro ⟨HO, H1⟩
  iapply (ret_step c)
  iapply HK
  iframe

theorem part14 (c : Dev nD) {Q : (BitVec 32) → sProp 𝕄} :
    iprop(records m K ∗ Ow c (oY c 6) ∗ St m c 2 5 0 1 1 0 0 0 0 0 0)
      ⊢ iprop(((Ow c (oY c 6) ∗ St m c 2 5 6 1 2 0 0 0 0 0 0) -∗ Q 3#32)
        -∗ Run c (k0_part14 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w13 c)) Q) := by
  simp only [k0_part14_eq_skeleton]; unfold k0_part14_skel
  simp -zeta only [Prog.lift, Prog.bind_op, Prog.bind_ret, Prog.pure_eq_ret]
  iintro ⟨#HR, HO, H2⟩ HK
  iapply (wait_1 m K c 2 2 (by decide) (oY c 6) (above_oY c 6) (by decide) hN_r (sem1 2 (by decide)) (a' := 5) (b' := 0) (i0 := 1) (i2 := 0) (i3 := 0) (i4 := 0) (i5 := 0) (i6 := 0) (i7 := 0)) $$ [HO H2]
  · isplitr; · iexact HR
    isplitl [HO]; · iexact HO
    iexact H2
  iintro ⟨HO, H2⟩
  iapply (sum_when m c 2 0 0 0 rfl (by decide) (by decide) (by decide) (cs0 c) rfl rfl rfl (show k0_pay50 (F := F) = k0_pay34 from rfl)) $$ H2
  iintro H2
  iapply (sum_when m c 2 0 1 1 rfl (by decide) (by decide) (by decide) (cs1 c) rfl rfl rfl (show k0_pay51 (F := F) = k0_pay34 from rfl)) $$ H2
  iintro H2
  iapply (sum_when m c 2 1 0 2 rfl (by decide) (by decide) (by decide) (cs2 c) rfl rfl rfl (show k0_pay52 (F := F) = k0_pay34 from rfl)) $$ H2
  iintro H2
  iapply (sum_when m c 2 1 1 3 rfl (by decide) (by decide) (by decide) (cs3 c) rfl rfl rfl (show k0_pay53 (F := F) = k0_pay34 from rfl)) $$ H2
  iintro H2
  iapply (sum_when m c 2 2 0 4 rfl (by decide) (by decide) (by decide) (cs4 c) rfl rfl rfl (show k0_pay54 (F := F) = k0_pay34 from rfl)) $$ H2
  iintro H2
  iapply (sum_when m c 2 2 1 5 rfl (by decide) (by decide) (by decide) (cs5 c) rfl rfl rfl (show k0_pay55 (F := F) = k0_pay34 from rfl)) $$ H2
  iintro H2
  iapply (ret_step c)
  iapply HK
  iframe

theorem part15 (c : Dev nD) {Q : (BitVec 32) → sProp 𝕄} :
    iprop(records m K ∗ Ow c (oY c 6) ∗ St m c 2 5 6 1 2 0 0 0 0 0 0)
      ⊢ iprop(((Ow c (oY c 5 + tZ c 2) ∗ St m c 2 5 9 1 2 1 1 0 0 0 0) -∗ Q (Scalar.addi 0#32 (Scalar.muli (w2 c) 4#32)))
        -∗ Run c (k0_part15 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w8 c) (w10 c) (w13 c) 3#32) Q) := by
  simp only [k0_part15_eq_skeleton]; unfold k0_part15_skel
  simp -zeta only [Prog.lift, Prog.bind_op, Prog.bind_ret, Prog.pure_eq_ret]
  iintro ⟨#HR, HO, H2⟩ HK
  iapply (sum_when m c 2 3 0 6 rfl (by decide) (by decide) (by decide) (cs6 c) rfl rfl rfl (show k0_pay56 (F := F) = k0_pay34 from rfl)) $$ H2
  iintro H2
  iapply (sum_when m c 2 3 1 7 rfl (by decide) (by decide) (by decide) (cs7 c) rfl rfl rfl (show k0_pay57 (F := F) = k0_pay34 from rfl)) $$ H2
  iintro H2
  iapply (y_send m K c 2 (by decide) (dev16 c) (sem2 2 (by decide)) (sem3 2 (by decide)) (off9_2 c) (oY c 5 + tZ c 2) (oY c 6) rfl) $$ [HO H2]
  · isplitr; · iexact HR
    isplitl [HO]; · iexact HO
    iexact H2
  iintro ⟨HO, H2⟩
  iapply (ret_step c)
  iapply HK
  iframe

theorem part16 (c : Dev nD) {Q : (Σ' (v512 : BitVec 32), BitVec 32) → sProp 𝕄} :
    iprop(records m K ∗ Ow c (oY c 5 + tZ c 2) ∗ St m c 2 5 9 1 2 1 1 0 0 0 0 ∗ St m c 3 5 0 1 1 0 0 0 0 0 0)
      ⊢ iprop(((Ow c (oY c 5) ∗ St m c 2 5 10 1 2 1 1 1 1 0 0 ∗ St m c 3 5 2 1 2 0 0 0 0 0 0) -∗ Q ⟨(Scalar.extui (Scalar.andi (Scalar.cmpi .eq (w13 c) 1#32) (Scalar.cmpi .eq (w2 c) 0#32))), 0#32⟩)
        -∗ Run c (k0_part16 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w13 c) (Scalar.addi 0#32 (Scalar.muli (w2 c) 4#32))) Q) := by
  simp only [k0_part16_eq_skeleton]; unfold k0_part16_skel
  simp -zeta only [Prog.lift, Prog.bind_op, Prog.bind_ret, Prog.pure_eq_ret]
  iintro ⟨#HR, HO, H2, H3⟩ HK
  iapply (z_send m K c 2 (by decide) (dev17 c) (sem4 2 (by decide)) (sem5 2 (by decide)) (off9_2 c) (oY c 5) (oY c 5 + tZ c 2) rfl) $$ [HO H2]
  · isplitr; · iexact HR
    isplitl [HO]; · iexact HO
    iexact H2
  iintro ⟨HO, H2⟩
  iapply (wait_1 m K c 3 2 (by decide) (oY c 5) (above_oY c 5) (by decide) hN_r (sem1 3 (by decide)) (a' := 5) (b' := 0) (i0 := 1) (i2 := 0) (i3 := 0) (i4 := 0) (i5 := 0) (i6 := 0) (i7 := 0)) $$ [HO H3]
  · isplitr; · iexact HR
    isplitl [HO]; · iexact HO
    iexact H3
  iintro ⟨HO, H3⟩
  iapply (sum_when m c 3 0 0 0 rfl (by decide) (by decide) (by decide) (cs0 c) rfl rfl rfl (show k0_pay58 (F := F) = k0_pay34 from rfl)) $$ H3
  iintro H3
  iapply (sum_when m c 3 0 1 1 rfl (by decide) (by decide) (by decide) (cs1 c) rfl rfl rfl (show k0_pay59 (F := F) = k0_pay34 from rfl)) $$ H3
  iintro H3
  iapply (ret_step c)
  iapply HK
  iframe

theorem part17 (c : Dev nD) {Q : (Σ' (v543 : BitVec 32), BitVec 32) → sProp 𝕄} :
    iprop(records m K ∗ Ow c (oY c 5) ∗ St m c 3 5 2 1 2 0 0 0 0 0 0)
      ⊢ iprop(((Ow c (oY c 5) ∗ St m c 3 5 8 1 2 0 0 0 0 0 0) -∗ Q ⟨(Scalar.muli (w2 c) 4#32), 0#32⟩)
        -∗ Run c (k0_part17 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 (w2 c) (w13 c) (Scalar.extui (Scalar.andi (Scalar.cmpi .eq (w13 c) 1#32) (Scalar.cmpi .eq (w2 c) 0#32))) 0#32) Q) := by
  simp only [k0_part17_eq_skeleton]; unfold k0_part17_skel
  simp -zeta only [Prog.lift, Prog.bind_op, Prog.bind_ret, Prog.pure_eq_ret]
  iintro ⟨#HR, HO, H3⟩ HK
  iapply (sum_when m c 3 1 0 2 rfl (by decide) (by decide) (by decide) (cs2 c) rfl rfl rfl (show k0_pay60 (F := F) = k0_pay34 from rfl)) $$ H3
  iintro H3
  iapply (sum_when m c 3 1 1 3 rfl (by decide) (by decide) (by decide) (cs3 c) rfl rfl rfl (show k0_pay61 (F := F) = k0_pay34 from rfl)) $$ H3
  iintro H3
  iapply (sum_when m c 3 2 0 4 rfl (by decide) (by decide) (by decide) (cs4 c) rfl rfl rfl (show k0_pay62 (F := F) = k0_pay34 from rfl)) $$ H3
  iintro H3
  iapply (sum_when m c 3 2 1 5 rfl (by decide) (by decide) (by decide) (cs5 c) rfl rfl rfl (show k0_pay63 (F := F) = k0_pay34 from rfl)) $$ H3
  iintro H3
  iapply (sum_when m c 3 3 0 6 rfl (by decide) (by decide) (by decide) (cs6 c) rfl rfl rfl (show k0_pay64 (F := F) = k0_pay34 from rfl)) $$ H3
  iintro H3
  iapply (sum_when m c 3 3 1 7 rfl (by decide) (by decide) (by decide) (cs7 c) rfl rfl rfl (show k0_pay65 (F := F) = k0_pay34 from rfl)) $$ H3
  iintro H3
  iapply (ret_step c)
  iapply HK
  iframe

theorem part18 (c : Dev nD) {Q : (PUnit) → sProp 𝕄} :
    iprop(records m K ∗ Ow c (oY c 5) ∗ St m c 3 5 8 1 2 0 0 0 0 0 0)
      ⊢ iprop(((Ow c (oY c 4) ∗ St m c 3 5 10 1 2 1 1 1 1 0 0) -∗ Q ⟨⟩)
        -∗ Run c (k0_part18 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w11 c) (w13 c) (Scalar.muli (w2 c) 4#32) 0#32) Q) := by
  simp only [k0_part18_eq_skeleton]; unfold k0_part18_skel
  simp -zeta only [Prog.lift, Prog.bind_op, Prog.bind_ret, Prog.pure_eq_ret]
  iintro ⟨#HR, HO, H3⟩ HK
  iapply (y_send m K c 3 (by decide) (dev18 c) (sem2 3 (by decide)) (sem3 3 (by decide)) (off9_3 c) (oY c 4 + tZ c 3) (oY c 5) rfl) $$ [HO H3]
  · isplitr; · iexact HR
    isplitl [HO]; · iexact HO
    iexact H3
  iintro ⟨HO, H3⟩
  iapply (z_send m K c 3 (by decide) (dev19 c) (sem4 3 (by decide)) (sem5 3 (by decide)) (off9_3 c) (oY c 4) (oY c 4 + tZ c 3) rfl) $$ [HO H3]
  · isplitr; · iexact HR
    isplitl [HO]; · iexact HO
    iexact H3
  iintro ⟨HO, H3⟩
  iapply (ret_step c)
  iapply HK
  iframe

theorem part19 (c : Dev nD) {Q : (BitVec 32) → sProp 𝕄} :
    iprop(records m K ∗ Ow c (oY c 4) ∗ St m c 4 5 0 1 1 0 0 0 0 0 0)
      ⊢ iprop(((Ow c (oY c 4) ∗ St m c 4 5 6 1 2 0 0 0 0 0 0) -∗ Q 3#32)
        -∗ Run c (k0_part19 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w13 c)) Q) := by
  simp only [k0_part19_eq_skeleton]; unfold k0_part19_skel
  simp -zeta only [Prog.lift, Prog.bind_op, Prog.bind_ret, Prog.pure_eq_ret]
  iintro ⟨#HR, HO, H4⟩ HK
  iapply (wait_1 m K c 4 2 (by decide) (oY c 4) (above_oY c 4) (by decide) hN_r (sem1 4 (by decide)) (a' := 5) (b' := 0) (i0 := 1) (i2 := 0) (i3 := 0) (i4 := 0) (i5 := 0) (i6 := 0) (i7 := 0)) $$ [HO H4]
  · isplitr; · iexact HR
    isplitl [HO]; · iexact HO
    iexact H4
  iintro ⟨HO, H4⟩
  iapply (sum_when m c 4 0 0 0 rfl (by decide) (by decide) (by decide) (cs0 c) rfl rfl rfl (show k0_pay66 (F := F) = k0_pay34 from rfl)) $$ H4
  iintro H4
  iapply (sum_when m c 4 0 1 1 rfl (by decide) (by decide) (by decide) (cs1 c) rfl rfl rfl (show k0_pay67 (F := F) = k0_pay34 from rfl)) $$ H4
  iintro H4
  iapply (sum_when m c 4 1 0 2 rfl (by decide) (by decide) (by decide) (cs2 c) rfl rfl rfl (show k0_pay68 (F := F) = k0_pay34 from rfl)) $$ H4
  iintro H4
  iapply (sum_when m c 4 1 1 3 rfl (by decide) (by decide) (by decide) (cs3 c) rfl rfl rfl (show k0_pay69 (F := F) = k0_pay34 from rfl)) $$ H4
  iintro H4
  iapply (sum_when m c 4 2 0 4 rfl (by decide) (by decide) (by decide) (cs4 c) rfl rfl rfl (show k0_pay70 (F := F) = k0_pay34 from rfl)) $$ H4
  iintro H4
  iapply (sum_when m c 4 2 1 5 rfl (by decide) (by decide) (by decide) (cs5 c) rfl rfl rfl (show k0_pay71 (F := F) = k0_pay34 from rfl)) $$ H4
  iintro H4
  iapply (ret_step c)
  iapply HK
  iframe

theorem part20 (c : Dev nD) {Q : (BitVec 32) → sProp 𝕄} :
    iprop(records m K ∗ Ow c (oY c 4) ∗ St m c 4 5 6 1 2 0 0 0 0 0 0)
      ⊢ iprop(((Ow c (oY c 3 + tZ c 4) ∗ St m c 4 5 9 1 2 1 1 0 0 0 0) -∗ Q (Scalar.addi 0#32 (Scalar.muli (w2 c) 4#32)))
        -∗ Run c (k0_part20 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w8 c) (w10 c) (w13 c) 3#32) Q) := by
  simp only [k0_part20_eq_skeleton]; unfold k0_part20_skel
  simp -zeta only [Prog.lift, Prog.bind_op, Prog.bind_ret, Prog.pure_eq_ret]
  iintro ⟨#HR, HO, H4⟩ HK
  iapply (sum_when m c 4 3 0 6 rfl (by decide) (by decide) (by decide) (cs6 c) rfl rfl rfl (show k0_pay72 (F := F) = k0_pay34 from rfl)) $$ H4
  iintro H4
  iapply (sum_when m c 4 3 1 7 rfl (by decide) (by decide) (by decide) (cs7 c) rfl rfl rfl (show k0_pay73 (F := F) = k0_pay34 from rfl)) $$ H4
  iintro H4
  iapply (y_send m K c 4 (by decide) (dev20 c) (sem2 4 (by decide)) (sem3 4 (by decide)) (off9_4 c) (oY c 3 + tZ c 4) (oY c 4) rfl) $$ [HO H4]
  · isplitr; · iexact HR
    isplitl [HO]; · iexact HO
    iexact H4
  iintro ⟨HO, H4⟩
  iapply (ret_step c)
  iapply HK
  iframe

theorem part21 (c : Dev nD) {Q : (Σ' (v676 : BitVec 32), BitVec 32) → sProp 𝕄} :
    iprop(records m K ∗ Ow c (oY c 3 + tZ c 4) ∗ St m c 4 5 9 1 2 1 1 0 0 0 0 ∗ St m c 5 5 0 1 1 0 0 0 0 0 0)
      ⊢ iprop(((Ow c (oY c 3) ∗ St m c 4 5 10 1 2 1 1 1 1 0 0 ∗ St m c 5 5 2 1 2 0 0 0 0 0 0) -∗ Q ⟨(Scalar.extui (Scalar.andi (Scalar.cmpi .eq (w13 c) 1#32) (Scalar.cmpi .eq (w2 c) 0#32))), 0#32⟩)
        -∗ Run c (k0_part21 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w13 c) (Scalar.addi 0#32 (Scalar.muli (w2 c) 4#32))) Q) := by
  simp only [k0_part21_eq_skeleton]; unfold k0_part21_skel
  simp -zeta only [Prog.lift, Prog.bind_op, Prog.bind_ret, Prog.pure_eq_ret]
  iintro ⟨#HR, HO, H4, H5⟩ HK
  iapply (z_send m K c 4 (by decide) (dev21 c) (sem4 4 (by decide)) (sem5 4 (by decide)) (off9_4 c) (oY c 3) (oY c 3 + tZ c 4) rfl) $$ [HO H4]
  · isplitr; · iexact HR
    isplitl [HO]; · iexact HO
    iexact H4
  iintro ⟨HO, H4⟩
  iapply (wait_1 m K c 5 2 (by decide) (oY c 3) (above_oY c 3) (by decide) hN_r (sem1 5 (by decide)) (a' := 5) (b' := 0) (i0 := 1) (i2 := 0) (i3 := 0) (i4 := 0) (i5 := 0) (i6 := 0) (i7 := 0)) $$ [HO H5]
  · isplitr; · iexact HR
    isplitl [HO]; · iexact HO
    iexact H5
  iintro ⟨HO, H5⟩
  iapply (sum_when m c 5 0 0 0 rfl (by decide) (by decide) (by decide) (cs0 c) rfl rfl rfl (show k0_pay74 (F := F) = k0_pay34 from rfl)) $$ H5
  iintro H5
  iapply (sum_when m c 5 0 1 1 rfl (by decide) (by decide) (by decide) (cs1 c) rfl rfl rfl (show k0_pay75 (F := F) = k0_pay34 from rfl)) $$ H5
  iintro H5
  iapply (ret_step c)
  iapply HK
  iframe

theorem part22 (c : Dev nD) {Q : (Σ' (v707 : BitVec 32), BitVec 32) → sProp 𝕄} :
    iprop(records m K ∗ Ow c (oY c 3) ∗ St m c 5 5 2 1 2 0 0 0 0 0 0)
      ⊢ iprop(((Ow c (oY c 3) ∗ St m c 5 5 8 1 2 0 0 0 0 0 0) -∗ Q ⟨(Scalar.muli (w2 c) 4#32), 0#32⟩)
        -∗ Run c (k0_part22 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 (w2 c) (w13 c) (Scalar.extui (Scalar.andi (Scalar.cmpi .eq (w13 c) 1#32) (Scalar.cmpi .eq (w2 c) 0#32))) 0#32) Q) := by
  simp only [k0_part22_eq_skeleton]; unfold k0_part22_skel
  simp -zeta only [Prog.lift, Prog.bind_op, Prog.bind_ret, Prog.pure_eq_ret]
  iintro ⟨#HR, HO, H5⟩ HK
  iapply (sum_when m c 5 1 0 2 rfl (by decide) (by decide) (by decide) (cs2 c) rfl rfl rfl (show k0_pay76 (F := F) = k0_pay34 from rfl)) $$ H5
  iintro H5
  iapply (sum_when m c 5 1 1 3 rfl (by decide) (by decide) (by decide) (cs3 c) rfl rfl rfl (show k0_pay77 (F := F) = k0_pay34 from rfl)) $$ H5
  iintro H5
  iapply (sum_when m c 5 2 0 4 rfl (by decide) (by decide) (by decide) (cs4 c) rfl rfl rfl (show k0_pay78 (F := F) = k0_pay34 from rfl)) $$ H5
  iintro H5
  iapply (sum_when m c 5 2 1 5 rfl (by decide) (by decide) (by decide) (cs5 c) rfl rfl rfl (show k0_pay79 (F := F) = k0_pay34 from rfl)) $$ H5
  iintro H5
  iapply (sum_when m c 5 3 0 6 rfl (by decide) (by decide) (by decide) (cs6 c) rfl rfl rfl (show k0_pay80 (F := F) = k0_pay34 from rfl)) $$ H5
  iintro H5
  iapply (sum_when m c 5 3 1 7 rfl (by decide) (by decide) (by decide) (cs7 c) rfl rfl rfl (show k0_pay81 (F := F) = k0_pay34 from rfl)) $$ H5
  iintro H5
  iapply (ret_step c)
  iapply HK
  iframe

theorem part23 (c : Dev nD) {Q : (PUnit) → sProp 𝕄} :
    iprop(records m K ∗ Ow c (oY c 3) ∗ St m c 5 5 8 1 2 0 0 0 0 0 0)
      ⊢ iprop(((Ow c (oY c 2) ∗ St m c 5 5 10 1 2 1 1 1 1 0 0) -∗ Q ⟨⟩)
        -∗ Run c (k0_part23 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w11 c) (w13 c) (Scalar.muli (w2 c) 4#32) 0#32) Q) := by
  simp only [k0_part23_eq_skeleton]; unfold k0_part23_skel
  simp -zeta only [Prog.lift, Prog.bind_op, Prog.bind_ret, Prog.pure_eq_ret]
  iintro ⟨#HR, HO, H5⟩ HK
  iapply (y_send m K c 5 (by decide) (dev22 c) (sem2 5 (by decide)) (sem3 5 (by decide)) (off9_5 c) (oY c 2 + tZ c 5) (oY c 3) rfl) $$ [HO H5]
  · isplitr; · iexact HR
    isplitl [HO]; · iexact HO
    iexact H5
  iintro ⟨HO, H5⟩
  iapply (z_send m K c 5 (by decide) (dev23 c) (sem4 5 (by decide)) (sem5 5 (by decide)) (off9_5 c) (oY c 2) (oY c 2 + tZ c 5) rfl) $$ [HO H5]
  · isplitr; · iexact HR
    isplitl [HO]; · iexact HO
    iexact H5
  iintro ⟨HO, H5⟩
  iapply (ret_step c)
  iapply HK
  iframe

theorem part24 (c : Dev nD) {Q : (BitVec 32) → sProp 𝕄} :
    iprop(records m K ∗ Ow c (oY c 2) ∗ St m c 6 5 0 1 1 0 0 0 0 0 0)
      ⊢ iprop(((Ow c (oY c 2) ∗ St m c 6 5 6 1 2 0 0 0 0 0 0) -∗ Q 3#32)
        -∗ Run c (k0_part24 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w13 c)) Q) := by
  simp only [k0_part24_eq_skeleton]; unfold k0_part24_skel
  simp -zeta only [Prog.lift, Prog.bind_op, Prog.bind_ret, Prog.pure_eq_ret]
  iintro ⟨#HR, HO, H6⟩ HK
  iapply (wait_1 m K c 6 2 (by decide) (oY c 2) (above_oY c 2) (by decide) hN_r (sem1 6 (by decide)) (a' := 5) (b' := 0) (i0 := 1) (i2 := 0) (i3 := 0) (i4 := 0) (i5 := 0) (i6 := 0) (i7 := 0)) $$ [HO H6]
  · isplitr; · iexact HR
    isplitl [HO]; · iexact HO
    iexact H6
  iintro ⟨HO, H6⟩
  iapply (sum_when m c 6 0 0 0 rfl (by decide) (by decide) (by decide) (cs0 c) rfl rfl rfl (show k0_pay82 (F := F) = k0_pay34 from rfl)) $$ H6
  iintro H6
  iapply (sum_when m c 6 0 1 1 rfl (by decide) (by decide) (by decide) (cs1 c) rfl rfl rfl (show k0_pay83 (F := F) = k0_pay34 from rfl)) $$ H6
  iintro H6
  iapply (sum_when m c 6 1 0 2 rfl (by decide) (by decide) (by decide) (cs2 c) rfl rfl rfl (show k0_pay84 (F := F) = k0_pay34 from rfl)) $$ H6
  iintro H6
  iapply (sum_when m c 6 1 1 3 rfl (by decide) (by decide) (by decide) (cs3 c) rfl rfl rfl (show k0_pay85 (F := F) = k0_pay34 from rfl)) $$ H6
  iintro H6
  iapply (sum_when m c 6 2 0 4 rfl (by decide) (by decide) (by decide) (cs4 c) rfl rfl rfl (show k0_pay86 (F := F) = k0_pay34 from rfl)) $$ H6
  iintro H6
  iapply (sum_when m c 6 2 1 5 rfl (by decide) (by decide) (by decide) (cs5 c) rfl rfl rfl (show k0_pay87 (F := F) = k0_pay34 from rfl)) $$ H6
  iintro H6
  iapply (ret_step c)
  iapply HK
  iframe

theorem part25 (c : Dev nD) {Q : (BitVec 32) → sProp 𝕄} :
    iprop(records m K ∗ Ow c (oY c 2) ∗ St m c 6 5 6 1 2 0 0 0 0 0 0)
      ⊢ iprop(((Ow c (oY c 1 + tZ c 6) ∗ St m c 6 5 9 1 2 1 1 0 0 0 0) -∗ Q (Scalar.addi 0#32 (Scalar.muli (w2 c) 4#32)))
        -∗ Run c (k0_part25 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w8 c) (w10 c) (w13 c) 3#32) Q) := by
  simp only [k0_part25_eq_skeleton]; unfold k0_part25_skel
  simp -zeta only [Prog.lift, Prog.bind_op, Prog.bind_ret, Prog.pure_eq_ret]
  iintro ⟨#HR, HO, H6⟩ HK
  iapply (sum_when m c 6 3 0 6 rfl (by decide) (by decide) (by decide) (cs6 c) rfl rfl rfl (show k0_pay88 (F := F) = k0_pay34 from rfl)) $$ H6
  iintro H6
  iapply (sum_when m c 6 3 1 7 rfl (by decide) (by decide) (by decide) (cs7 c) rfl rfl rfl (show k0_pay89 (F := F) = k0_pay34 from rfl)) $$ H6
  iintro H6
  iapply (y_send m K c 6 (by decide) (dev24 c) (sem2 6 (by decide)) (sem3 6 (by decide)) (off9_6 c) (oY c 1 + tZ c 6) (oY c 2) rfl) $$ [HO H6]
  · isplitr; · iexact HR
    isplitl [HO]; · iexact HO
    iexact H6
  iintro ⟨HO, H6⟩
  iapply (ret_step c)
  iapply HK
  iframe

theorem part26 (c : Dev nD) {Q : (Σ' (v840 : BitVec 32), BitVec 32) → sProp 𝕄} :
    iprop(records m K ∗ Ow c (oY c 1 + tZ c 6) ∗ St m c 6 5 9 1 2 1 1 0 0 0 0 ∗ St m c 7 5 0 1 1 0 0 0 0 0 0)
      ⊢ iprop(((Ow c (oY c 1) ∗ St m c 6 5 10 1 2 1 1 1 1 0 0 ∗ St m c 7 5 2 1 2 0 0 0 0 0 0) -∗ Q ⟨(Scalar.extui (Scalar.andi (Scalar.cmpi .eq (w13 c) 1#32) (Scalar.cmpi .eq (w2 c) 0#32))), 0#32⟩)
        -∗ Run c (k0_part26 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w13 c) (Scalar.addi 0#32 (Scalar.muli (w2 c) 4#32))) Q) := by
  simp only [k0_part26_eq_skeleton]; unfold k0_part26_skel
  simp -zeta only [Prog.lift, Prog.bind_op, Prog.bind_ret, Prog.pure_eq_ret]
  iintro ⟨#HR, HO, H6, H7⟩ HK
  iapply (z_send m K c 6 (by decide) (dev25 c) (sem4 6 (by decide)) (sem5 6 (by decide)) (off9_6 c) (oY c 1) (oY c 1 + tZ c 6) rfl) $$ [HO H6]
  · isplitr; · iexact HR
    isplitl [HO]; · iexact HO
    iexact H6
  iintro ⟨HO, H6⟩
  iapply (wait_1 m K c 7 2 (by decide) (oY c 1) (above_oY c 1) (by decide) hN_r (sem1 7 (by decide)) (a' := 5) (b' := 0) (i0 := 1) (i2 := 0) (i3 := 0) (i4 := 0) (i5 := 0) (i6 := 0) (i7 := 0)) $$ [HO H7]
  · isplitr; · iexact HR
    isplitl [HO]; · iexact HO
    iexact H7
  iintro ⟨HO, H7⟩
  iapply (sum_when m c 7 0 0 0 rfl (by decide) (by decide) (by decide) (cs0 c) rfl rfl rfl (show k0_pay90 (F := F) = k0_pay34 from rfl)) $$ H7
  iintro H7
  iapply (sum_when m c 7 0 1 1 rfl (by decide) (by decide) (by decide) (cs1 c) rfl rfl rfl (show k0_pay91 (F := F) = k0_pay34 from rfl)) $$ H7
  iintro H7
  iapply (ret_step c)
  iapply HK
  iframe

theorem part27 (c : Dev nD) {Q : (Σ' (v871 : BitVec 32), BitVec 32) → sProp 𝕄} :
    iprop(records m K ∗ Ow c (oY c 1) ∗ St m c 7 5 2 1 2 0 0 0 0 0 0)
      ⊢ iprop(((Ow c (oY c 1) ∗ St m c 7 5 8 1 2 0 0 0 0 0 0) -∗ Q ⟨(Scalar.muli (w2 c) 4#32), 0#32⟩)
        -∗ Run c (k0_part27 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 (w2 c) (w13 c) (Scalar.extui (Scalar.andi (Scalar.cmpi .eq (w13 c) 1#32) (Scalar.cmpi .eq (w2 c) 0#32))) 0#32) Q) := by
  simp only [k0_part27_eq_skeleton]; unfold k0_part27_skel
  simp -zeta only [Prog.lift, Prog.bind_op, Prog.bind_ret, Prog.pure_eq_ret]
  iintro ⟨#HR, HO, H7⟩ HK
  iapply (sum_when m c 7 1 0 2 rfl (by decide) (by decide) (by decide) (cs2 c) rfl rfl rfl (show k0_pay92 (F := F) = k0_pay34 from rfl)) $$ H7
  iintro H7
  iapply (sum_when m c 7 1 1 3 rfl (by decide) (by decide) (by decide) (cs3 c) rfl rfl rfl (show k0_pay93 (F := F) = k0_pay34 from rfl)) $$ H7
  iintro H7
  iapply (sum_when m c 7 2 0 4 rfl (by decide) (by decide) (by decide) (cs4 c) rfl rfl rfl (show k0_pay94 (F := F) = k0_pay34 from rfl)) $$ H7
  iintro H7
  iapply (sum_when m c 7 2 1 5 rfl (by decide) (by decide) (by decide) (cs5 c) rfl rfl rfl (show k0_pay95 (F := F) = k0_pay34 from rfl)) $$ H7
  iintro H7
  iapply (sum_when m c 7 3 0 6 rfl (by decide) (by decide) (by decide) (cs6 c) rfl rfl rfl (show k0_pay96 (F := F) = k0_pay34 from rfl)) $$ H7
  iintro H7
  iapply (sum_when m c 7 3 1 7 rfl (by decide) (by decide) (by decide) (cs7 c) rfl rfl rfl (show k0_pay97 (F := F) = k0_pay34 from rfl)) $$ H7
  iintro H7
  iapply (ret_step c)
  iapply HK
  iframe

theorem part28 (c : Dev nD) {Q : (Σ' (v904 : BitVec 32), BitVec 32) → sProp 𝕄} :
    iprop(records m K ∗ Ow c (oY c 1) ∗ St m c 7 5 8 1 2 0 0 0 0 0 0)
      ⊢ iprop(((Ow c (oR c 8) ∗ St m c 7 5 10 1 2 1 1 1 1 0 0) -∗ Q ⟨(Scalar.addi 0#32 (Scalar.muli (w9 c) 4#32)), 2#32⟩)
        -∗ Run c (k0_part28 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w11 c) (w13 c) (w19 c) (Scalar.muli (w2 c) 4#32) 0#32) Q) := by
  simp only [k0_part28_eq_skeleton]; unfold k0_part28_skel
  simp -zeta only [Prog.lift, Prog.bind_op, Prog.bind_ret, Prog.pure_eq_ret]
  iintro ⟨#HR, HO, H7⟩ HK
  iapply (y_send m K c 7 (by decide) (dev26 c) (sem2 7 (by decide)) (sem3 7 (by decide)) (off9_7 c) (oY c 0 + tZ c 7) (oY c 1) rfl) $$ [HO H7]
  · isplitr; · iexact HR
    isplitl [HO]; · iexact HO
    iexact H7
  iintro ⟨HO, H7⟩
  iapply (z_send m K c 7 (by decide) (dev27 c) (sem4 7 (by decide)) (sem5 7 (by decide)) (off9_7 c) (oR c 8) (oY c 0 + tZ c 7) rfl) $$ [HO H7]
  · isplitr; · iexact HR
    isplitl [HO]; · iexact HO
    iexact H7
  iintro ⟨HO, H7⟩
  iapply (ret_step c)
  iapply HK
  iframe

end Cert.KernelIdeal.Mesh

end
-- ==== Proof.Ends.lean ====
/-
# The body's parts: the relay and the last waits
-/
module

public import proofs.«01_k».proof.Proof.Words

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

theorem part29 (c : Dev nD) {Q : (Σ' (v936 : BitVec 32), BitVec 32) → sProp 𝕄} :
    iprop(records m K ∗ Ow c (oR c 8) ∗ St m c 0 5 10 1 2 1 1 1 1 0 0)
      ⊢ iprop(((Ow c (oR c 7) ∗ St m c 0 5 10 1 2 1 1 1 3 1 1) -∗ Q ⟨(Scalar.addi (Scalar.addi 0#32 (Scalar.muli (w9 c) 4#32)) (Scalar.muli (w5 c) 2#32)), (Scalar.muli (w8 c) 1#32)⟩)
        -∗ Run c (k0_part29 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (w19 c) (Scalar.addi 0#32 (Scalar.muli (w9 c) 4#32)) 2#32) Q) := by
  simp only [k0_part29_eq_skeleton]; unfold k0_part29_skel
  simp -zeta only [Prog.lift, Prog.bind_op, Prog.bind_ret, Prog.pure_eq_ret]
  iintro ⟨#HR, HO, H0⟩ HK
  iapply (wait_5 m K c 0 3 (by decide) (oR c 8) (above_oR c 8) (by decide) hN_o (sem5 0 (by decide)) (a' := 5) (b' := 10) (i0 := 1) (i1 := 2) (i2 := 1) (i3 := 1) (i4 := 1) (i6 := 0) (i7 := 0)) $$ [HO H0]
  · isplitr; · iexact HR
    isplitl [HO]; · iexact HO
    iexact H0
  iintro ⟨HO, H0⟩
  iapply (r_send_even m K c 0 (by decide) (by decide) (dev28 c) (sem6 0 (by decide)) (sem7 0 (by decide)) (off10_0 c) (oR c 7) (oR c 8) rfl) $$ [HO H0]
  · isplitr; · iexact HR
    isplitl [HO]; · iexact HO
    iexact H0
  iintro ⟨HO, H0⟩
  iapply (ret_step c)
  iapply HK
  iframe

theorem part30 (c : Dev nD) {Q : (PUnit) → sProp 𝕄} :
    iprop(records m K ∗ Ow c (oR c 7) ∗ St m c 1 5 10 1 2 1 1 1 1 0 0)
      ⊢ iprop(((Ow c (oR c 6) ∗ St m c 1 5 10 1 2 1 3 1 1 1 1) -∗ Q ⟨⟩)
        -∗ Run c (k0_part30 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w16 c) (w19 c) (Scalar.addi (Scalar.addi 0#32 (Scalar.muli (w9 c) 4#32)) (Scalar.muli (w5 c) 2#32)) (Scalar.muli (w8 c) 1#32)) Q) := by
  simp only [k0_part30_eq_skeleton]; unfold k0_part30_skel
  simp -zeta only [Prog.lift, Prog.bind_op, Prog.bind_ret, Prog.pure_eq_ret]
  iintro ⟨#HR, HO, H1⟩ HK
  iapply (wait_3 m K c 1 3 (by decide) (oR c 7) (above_oR c 7) (by decide) hN_o (sem3 1 (by decide)) (a' := 5) (b' := 10) (i0 := 1) (i1 := 2) (i2 := 1) (i4 := 1) (i5 := 1) (i6 := 0) (i7 := 0)) $$ [HO H1]
  · isplitr; · iexact HR
    isplitl [HO]; · iexact HO
    iexact H1
  iintro ⟨HO, H1⟩
  iapply (r_send_odd m K c 1 (by decide) (by decide) (dev29 c) (sem6 1 (by decide)) (sem7 1 (by decide)) (off11_1 c) (oR c 6) (oR c 7) rfl) $$ [HO H1]
  · isplitr; · iexact HR
    isplitl [HO]; · iexact HO
    iexact H1
  iintro ⟨HO, H1⟩
  iapply (ret_step c)
  iapply HK
  iframe

theorem part31 (c : Dev nD) {Q : (PUnit) → sProp 𝕄} :
    iprop(records m K ∗ Ow c (oR c 6) ∗ St m c 2 5 10 1 2 1 1 1 1 0 0 ∗ St m c 3 5 10 1 2 1 1 1 1 0 0)
      ⊢ iprop(((Ow c (oR c 5) ∗ St m c 2 5 10 1 2 1 1 1 3 1 1 ∗ St m c 3 5 10 1 2 1 2 1 1 0 0) -∗ Q ⟨⟩)
        -∗ Run c (k0_part31 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (w19 c)) Q) := by
  simp only [k0_part31_eq_skeleton]; unfold k0_part31_skel
  simp -zeta only [Prog.lift, Prog.bind_op, Prog.bind_ret, Prog.pure_eq_ret]
  iintro ⟨#HR, HO, H2, H3⟩ HK
  iapply (wait_5 m K c 2 3 (by decide) (oR c 6) (above_oR c 6) (by decide) hN_o (sem5 2 (by decide)) (a' := 5) (b' := 10) (i0 := 1) (i1 := 2) (i2 := 1) (i3 := 1) (i4 := 1) (i6 := 0) (i7 := 0)) $$ [HO H2]
  · isplitr; · iexact HR
    isplitl [HO]; · iexact HO
    iexact H2
  iintro ⟨HO, H2⟩
  iapply (r_send_even m K c 2 (by decide) (by decide) (dev30 c) (sem6 2 (by decide)) (sem7 2 (by decide)) (off10_2 c) (oR c 5) (oR c 6) rfl) $$ [HO H2]
  · isplitr; · iexact HR
    isplitl [HO]; · iexact HO
    iexact H2
  iintro ⟨HO, H2⟩
  iapply (wait_3 m K c 3 3 (by decide) (oR c 5) (above_oR c 5) (by decide) hN_o (sem3 3 (by decide)) (a' := 5) (b' := 10) (i0 := 1) (i1 := 2) (i2 := 1) (i4 := 1) (i5 := 1) (i6 := 0) (i7 := 0)) $$ [HO H3]
  · isplitr; · iexact HR
    isplitl [HO]; · iexact HO
    iexact H3
  iintro ⟨HO, H3⟩
  iapply (ret_step c)
  iapply HK
  iframe

theorem part32 (c : Dev nD) {Q : (PUnit) → sProp 𝕄} :
    iprop(records m K ∗ Ow c (oR c 5) ∗ St m c 3 5 10 1 2 1 2 1 1 0 0 ∗ St m c 4 5 10 1 2 1 1 1 1 0 0)
      ⊢ iprop(((Ow c (oR c 4) ∗ St m c 3 5 10 1 2 1 3 1 1 1 1 ∗ St m c 4 5 10 1 2 1 1 1 2 0 0) -∗ Q ⟨⟩)
        -∗ Run c (k0_part32 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w16 c) (w19 c)) Q) := by
  simp only [k0_part32_eq_skeleton]; unfold k0_part32_skel
  simp -zeta only [Prog.lift, Prog.bind_op, Prog.bind_ret, Prog.pure_eq_ret]
  iintro ⟨#HR, HO, H3, H4⟩ HK
  iapply (r_send_odd m K c 3 (by decide) (by decide) (dev31 c) (sem6 3 (by decide)) (sem7 3 (by decide)) (off11_3 c) (oR c 4) (oR c 5) rfl) $$ [HO H3]
  · isplitr; · iexact HR
    isplitl [HO]; · iexact HO
    iexact H3
  iintro ⟨HO, H3⟩
  iapply (wait_5 m K c 4 3 (by decide) (oR c 4) (above_oR c 4) (by decide) hN_o (sem5 4 (by decide)) (a' := 5) (b' := 10) (i0 := 1) (i1 := 2) (i2 := 1) (i3 := 1) (i4 := 1) (i6 := 0) (i7 := 0)) $$ [HO H4]
  · isplitr; · iexact HR
    isplitl [HO]; · iexact HO
    iexact H4
  iintro ⟨HO, H4⟩
  iapply (ret_step c)
  iapply HK
  iframe

theorem part33 (c : Dev nD) {Q : (PUnit) → sProp 𝕄} :
    iprop(records m K ∗ Ow c (oR c 4) ∗ St m c 4 5 10 1 2 1 1 1 2 0 0 ∗ St m c 5 5 10 1 2 1 1 1 1 0 0)
      ⊢ iprop(((Ow c (oR c 3) ∗ St m c 4 5 10 1 2 1 1 1 3 1 1 ∗ St m c 5 5 10 1 2 1 2 1 1 0 0) -∗ Q ⟨⟩)
        -∗ Run c (k0_part33 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (w19 c)) Q) := by
  simp only [k0_part33_eq_skeleton]; unfold k0_part33_skel
  simp -zeta only [Prog.lift, Prog.bind_op, Prog.bind_ret, Prog.pure_eq_ret]
  iintro ⟨#HR, HO, H4, H5⟩ HK
  iapply (r_send_even m K c 4 (by decide) (by decide) (dev32 c) (sem6 4 (by decide)) (sem7 4 (by decide)) (off10_4 c) (oR c 3) (oR c 4) rfl) $$ [HO H4]
  · isplitr; · iexact HR
    isplitl [HO]; · iexact HO
    iexact H4
  iintro ⟨HO, H4⟩
  iapply (wait_3 m K c 5 3 (by decide) (oR c 3) (above_oR c 3) (by decide) hN_o (sem3 5 (by decide)) (a' := 5) (b' := 10) (i0 := 1) (i1 := 2) (i2 := 1) (i4 := 1) (i5 := 1) (i6 := 0) (i7 := 0)) $$ [HO H5]
  · isplitr; · iexact HR
    isplitl [HO]; · iexact HO
    iexact H5
  iintro ⟨HO, H5⟩
  iapply (ret_step c)
  iapply HK
  iframe

theorem part34 (c : Dev nD) {Q : (BitVec 32) → sProp 𝕄} :
    iprop(records m K ∗ Ow c (oR c 3) ∗ St m c 5 5 10 1 2 1 2 1 1 0 0 ∗ St m c 6 5 10 1 2 1 1 1 1 0 0)
      ⊢ iprop(((Ow c (oR c 2) ∗ St m c 5 5 10 1 2 1 3 1 1 1 1 ∗ St m c 6 5 10 1 2 1 1 1 2 0 0) -∗ Q (Scalar.muli (w2 c) 4#32))
        -∗ Run c (k0_part34 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w19 c)) Q) := by
  simp only [k0_part34_eq_skeleton]; unfold k0_part34_skel
  simp -zeta only [Prog.lift, Prog.bind_op, Prog.bind_ret, Prog.pure_eq_ret]
  iintro ⟨#HR, HO, H5, H6⟩ HK
  iapply (r_send_odd m K c 5 (by decide) (by decide) (dev33 c) (sem6 5 (by decide)) (sem7 5 (by decide)) (off11_5 c) (oR c 2) (oR c 3) rfl) $$ [HO H5]
  · isplitr; · iexact HR
    isplitl [HO]; · iexact HO
    iexact H5
  iintro ⟨HO, H5⟩
  iapply (wait_5 m K c 6 3 (by decide) (oR c 2) (above_oR c 2) (by decide) hN_o (sem5 6 (by decide)) (a' := 5) (b' := 10) (i0 := 1) (i1 := 2) (i2 := 1) (i3 := 1) (i4 := 1) (i6 := 0) (i7 := 0)) $$ [HO H6]
  · isplitr; · iexact HR
    isplitl [HO]; · iexact HO
    iexact H6
  iintro ⟨HO, H6⟩
  iapply (ret_step c)
  iapply HK
  iframe

theorem part35 (c : Dev nD) {Q : (Σ' (v1128 : BitVec 32), BitVec 32) → sProp 𝕄} :
    iprop(records m K ∗ Ow c (oR c 2) ∗ St m c 6 5 10 1 2 1 1 1 2 0 0 ∗ St m c 7 5 10 1 2 1 1 1 1 0 0)
      ⊢ iprop(((Ow c (oR c 1) ∗ St m c 6 5 10 1 2 1 1 1 3 1 1 ∗ St m c 7 5 10 1 2 1 2 1 1 0 0) -∗ Q ⟨(Scalar.addi 0#32 (Scalar.muli (w2 c) 4#32)), (Scalar.muli (w5 c) 2#32)⟩)
        -∗ Run c (k0_part35 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (Scalar.muli (w2 c) 4#32)) Q) := by
  simp only [k0_part35_eq_skeleton]; unfold k0_part35_skel
  simp -zeta only [Prog.lift, Prog.bind_op, Prog.bind_ret, Prog.pure_eq_ret]
  iintro ⟨#HR, HO, H6, H7⟩ HK
  iapply (r_send_even m K c 6 (by decide) (by decide) (dev34 c) (sem6 6 (by decide)) (sem7 6 (by decide)) (off10_6 c) (oR c 1) (oR c 2) rfl) $$ [HO H6]
  · isplitr; · iexact HR
    isplitl [HO]; · iexact HO
    iexact H6
  iintro ⟨HO, H6⟩
  iapply (wait_3 m K c 7 3 (by decide) (oR c 1) (above_oR c 1) (by decide) hN_o (sem3 7 (by decide)) (a' := 5) (b' := 10) (i0 := 1) (i1 := 2) (i2 := 1) (i4 := 1) (i5 := 1) (i6 := 0) (i7 := 0)) $$ [HO H7]
  · isplitr; · iexact HR
    isplitl [HO]; · iexact HO
    iexact H7
  iintro ⟨HO, H7⟩
  iapply (ret_step c)
  iapply HK
  iframe

theorem part36 (c : Dev nD) {Q : (PUnit) → sProp 𝕄} :
    iprop(records m K ∗ Ow c (oR c 1) ∗ St m c 0 5 10 1 2 1 1 1 3 1 1 ∗ St m c 7 5 10 1 2 1 2 1 1 0 0)
      ⊢ iprop(((Ow c (oR c 0) ∗ St m c 0 5 10 1 2 1 2 1 3 1 1 ∗ St m c 7 5 10 1 2 1 3 1 1 1 1) -∗ Q ⟨⟩)
        -∗ Run c (k0_part36 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w11 c) (w16 c) (w23 c) (Scalar.addi 0#32 (Scalar.muli (w2 c) 4#32)) (Scalar.muli (w5 c) 2#32)) Q) := by
  simp only [k0_part36_eq_skeleton]; unfold k0_part36_skel
  simp -zeta only [Prog.lift, Prog.bind_op, Prog.bind_ret, Prog.pure_eq_ret]
  iintro ⟨#HR, HO, H0, H7⟩ HK
  iapply (r_send_odd m K c 7 (by decide) (by decide) (dev35 c) (sem6 7 (by decide)) (sem7 7 (by decide)) (off11_7 c) (oR c 0) (oR c 1) rfl) $$ [HO H7]
  · isplitr; · iexact HR
    isplitl [HO]; · iexact HO
    iexact H7
  iintro ⟨HO, H7⟩
  iapply (wait_3 m K c 0 4 (by decide) (oR c 0) (Above.zero 4) (by decide) hN_o (sem3 0 (by decide)) (a' := 5) (b' := 10) (i0 := 1) (i1 := 2) (i2 := 1) (i4 := 1) (i5 := 3) (i6 := 1) (i7 := 1)) $$ [HO H0]
  · isplitr; · iexact HR
    isplitl [HO]; · iexact HO
    iexact H0
  iintro ⟨HO, H0⟩
  iapply (ret_step c)
  iapply HK
  iframe

theorem part37 (c : Dev nD) {Q : (BitVec 32) → sProp 𝕄} :
    iprop(records m K ∗ Ow c (oR c 0) ∗ St m c 0 5 10 1 2 1 2 1 3 1 1)
      ⊢ iprop(((Ow c (oR c 0) ∗ St m c 0 5 10 2 2 2 2 2 3 1 2) -∗ Q (Scalar.muli (w19 c) 1024#32))
        -∗ Run c (k0_part37 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w19 c)) Q) := by
  simp only [k0_part37_eq_skeleton]; unfold k0_part37_skel
  simp -zeta only [Prog.lift, Prog.bind_op, Prog.bind_ret, Prog.pure_eq_ret]
  iintro ⟨#HR, HO, H0⟩ HK
  iapply (wait_7 m K c 0 4 (by decide) (oR c 0) (Above.zero 4) (by decide) hN_o (sem7 0 (by decide)) (a' := 5) (b' := 10) (i0 := 1) (i1 := 2) (i2 := 1) (i3 := 2) (i4 := 1) (i5 := 3) (i6 := 1)) $$ [HO H0]
  · isplitr; · iexact HR
    isplitl [HO]; · iexact HO
    iexact H0
  iintro ⟨HO, H0⟩
  iapply (wait_0 m K c 0 4 (by decide) (oR c 0) (Above.zero 4) hN_p (sem0 0 (by decide)) (a' := 5) (b' := 10) (i1 := 2) (i2 := 1) (i3 := 2) (i4 := 1) (i5 := 3) (i6 := 1) (i7 := 2)) $$ [HO H0]
  · isplitr; · iexact HR
    isplitl [HO]; · iexact HO
    iexact H0
  iintro ⟨HO, H0⟩
  iapply (wait_2 m K c 0 4 (by decide) (oR c 0) (Above.zero 4) hN_o (sem2 0 (by decide)) (a' := 5) (b' := 10) (i0 := 2) (i1 := 2) (i3 := 2) (i4 := 1) (i5 := 3) (i6 := 1) (i7 := 2)) $$ [HO H0]
  · isplitr; · iexact HR
    isplitl [HO]; · iexact HO
    iexact H0
  iintro ⟨HO, H0⟩
  iapply (wait_4 m K c 0 4 (by decide) (oR c 0) (Above.zero 4) hN_o (sem4 0 (by decide)) (a' := 5) (b' := 10) (i0 := 2) (i1 := 2) (i2 := 2) (i3 := 2) (i5 := 3) (i6 := 1) (i7 := 2)) $$ [HO H0]
  · isplitr; · iexact HR
    isplitl [HO]; · iexact HO
    iexact H0
  iintro ⟨HO, H0⟩
  iapply (ret_step c)
  iapply HK
  iframe

theorem part38 (c : Dev nD) {Q : (PUnit) → sProp 𝕄} :
    iprop(records m K ∗ Ow c (oR c 0) ∗ St m c 0 5 10 2 2 2 2 2 3 1 2 ∗ St m c 1 5 10 1 2 1 3 1 1 1 1)
      ⊢ iprop(((Ow c (oR c 0) ∗ St m c 0 5 10 2 2 2 2 2 3 2 2 ∗ St m c 1 5 10 1 2 1 3 1 2 1 1) -∗ Q ⟨⟩)
        -∗ Run c (k0_part38 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w19 c) (w23 c) (Scalar.muli (w19 c) 1024#32)) Q) := by
  simp only [k0_part38_eq_skeleton]; unfold k0_part38_skel
  simp -zeta only [Prog.lift, Prog.bind_op, Prog.bind_ret, Prog.pure_eq_ret]
  iintro ⟨#HR, HO, H0, H1⟩ HK
  iapply (wait_6 m K c 0 4 (by decide) (oR c 0) (Above.zero 4) hN_o (sem6 0 (by decide)) (a' := 5) (b' := 10) (i0 := 2) (i1 := 2) (i2 := 2) (i3 := 2) (i4 := 2) (i5 := 3) (i7 := 2)) $$ [HO H0]
  · isplitr; · iexact HR
    isplitl [HO]; · iexact HO
    iexact H0
  iintro ⟨HO, H0⟩
  iapply (wait_5 m K c 1 4 (by decide) (oR c 0) (Above.zero 4) (by decide) hN_o (sem5 1 (by decide)) (a' := 5) (b' := 10) (i0 := 1) (i1 := 2) (i2 := 1) (i3 := 3) (i4 := 1) (i6 := 1) (i7 := 1)) $$ [HO H1]
  · isplitr; · iexact HR
    isplitl [HO]; · iexact HO
    iexact H1
  iintro ⟨HO, H1⟩
  iapply (ret_step c)
  iapply HK
  iframe

theorem part39 (c : Dev nD) {Q : (Σ' (v1245 : BitVec 32), BitVec 32) → sProp 𝕄} :
    iprop(records m K ∗ Ow c (oR c 0) ∗ St m c 1 5 10 1 2 1 3 1 2 1 1)
      ⊢ iprop(((Ow c (oR c 0) ∗ St m c 1 5 10 2 2 2 3 2 2 1 2) -∗ Q ⟨(Scalar.muli (w16 c) 1024#32), 128#32⟩)
        -∗ Run c (k0_part39 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w16 c)) Q) := by
  simp only [k0_part39_eq_skeleton]; unfold k0_part39_skel
  simp -zeta only [Prog.lift, Prog.bind_op, Prog.bind_ret, Prog.pure_eq_ret]
  iintro ⟨#HR, HO, H1⟩ HK
  iapply (wait_7 m K c 1 4 (by decide) (oR c 0) (Above.zero 4) (by decide) hN_o (sem7 1 (by decide)) (a' := 5) (b' := 10) (i0 := 1) (i1 := 2) (i2 := 1) (i3 := 3) (i4 := 1) (i5 := 2) (i6 := 1)) $$ [HO H1]
  · isplitr; · iexact HR
    isplitl [HO]; · iexact HO
    iexact H1
  iintro ⟨HO, H1⟩
  iapply (wait_0 m K c 1 4 (by decide) (oR c 0) (Above.zero 4) hN_p (sem0 1 (by decide)) (a' := 5) (b' := 10) (i1 := 2) (i2 := 1) (i3 := 3) (i4 := 1) (i5 := 2) (i6 := 1) (i7 := 2)) $$ [HO H1]
  · isplitr; · iexact HR
    isplitl [HO]; · iexact HO
    iexact H1
  iintro ⟨HO, H1⟩
  iapply (wait_2 m K c 1 4 (by decide) (oR c 0) (Above.zero 4) hN_o (sem2 1 (by decide)) (a' := 5) (b' := 10) (i0 := 2) (i1 := 2) (i3 := 3) (i4 := 1) (i5 := 2) (i6 := 1) (i7 := 2)) $$ [HO H1]
  · isplitr; · iexact HR
    isplitl [HO]; · iexact HO
    iexact H1
  iintro ⟨HO, H1⟩
  iapply (wait_4 m K c 1 4 (by decide) (oR c 0) (Above.zero 4) hN_o (sem4 1 (by decide)) (a' := 5) (b' := 10) (i0 := 2) (i1 := 2) (i2 := 2) (i3 := 3) (i5 := 2) (i6 := 1) (i7 := 2)) $$ [HO H1]
  · isplitr; · iexact HR
    isplitl [HO]; · iexact HO
    iexact H1
  iintro ⟨HO, H1⟩
  iapply (ret_step c)
  iapply HK
  iframe

theorem part40 (c : Dev nD) {Q : (PUnit) → sProp 𝕄} :
    iprop(records m K ∗ Ow c (oR c 0) ∗ St m c 1 5 10 2 2 2 3 2 2 1 2 ∗ St m c 2 5 10 1 2 1 1 1 3 1 1)
      ⊢ iprop(((Ow c (oR c 0) ∗ St m c 1 5 10 2 2 2 3 2 2 2 2 ∗ St m c 2 5 10 1 2 1 2 1 3 1 1) -∗ Q ⟨⟩)
        -∗ Run c (k0_part40 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (w23 c) (Scalar.muli (w16 c) 1024#32) 128#32) Q) := by
  simp only [k0_part40_eq_skeleton]; unfold k0_part40_skel
  simp -zeta only [Prog.lift, Prog.bind_op, Prog.bind_ret, Prog.pure_eq_ret]
  iintro ⟨#HR, HO, H1, H2⟩ HK
  iapply (wait_6 m K c 1 4 (by decide) (oR c 0) (Above.zero 4) hN_o (sem6 1 (by decide)) (a' := 5) (b' := 10) (i0 := 2) (i1 := 2) (i2 := 2) (i3 := 3) (i4 := 2) (i5 := 2) (i7 := 2)) $$ [HO H1]
  · isplitr; · iexact HR
    isplitl [HO]; · iexact HO
    iexact H1
  iintro ⟨HO, H1⟩
  iapply (wait_3 m K c 2 4 (by decide) (oR c 0) (Above.zero 4) (by decide) hN_o (sem3 2 (by decide)) (a' := 5) (b' := 10) (i0 := 1) (i1 := 2) (i2 := 1) (i4 := 1) (i5 := 3) (i6 := 1) (i7 := 1)) $$ [HO H2]
  · isplitr; · iexact HR
    isplitl [HO]; · iexact HO
    iexact H2
  iintro ⟨HO, H2⟩
  iapply (ret_step c)
  iapply HK
  iframe

theorem part41 (c : Dev nD) {Q : (PUnit) → sProp 𝕄} :
    iprop(records m K ∗ Ow c (oR c 0) ∗ St m c 2 5 10 1 2 1 2 1 3 1 1)
      ⊢ iprop(((Ow c (oR c 0) ∗ St m c 2 5 10 2 2 2 2 2 3 1 2) -∗ Q ⟨⟩)
        -∗ Run c (k0_part41 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w19 c)) Q) := by
  simp only [k0_part41_eq_skeleton]; unfold k0_part41_skel
  simp -zeta only [Prog.lift, Prog.bind_op, Prog.bind_ret, Prog.pure_eq_ret]
  iintro ⟨#HR, HO, H2⟩ HK
  iapply (wait_7 m K c 2 4 (by decide) (oR c 0) (Above.zero 4) (by decide) hN_o (sem7 2 (by decide)) (a' := 5) (b' := 10) (i0 := 1) (i1 := 2) (i2 := 1) (i3 := 2) (i4 := 1) (i5 := 3) (i6 := 1)) $$ [HO H2]
  · isplitr; · iexact HR
    isplitl [HO]; · iexact HO
    iexact H2
  iintro ⟨HO, H2⟩
  iapply (wait_0 m K c 2 4 (by decide) (oR c 0) (Above.zero 4) hN_p (sem0 2 (by decide)) (a' := 5) (b' := 10) (i1 := 2) (i2 := 1) (i3 := 2) (i4 := 1) (i5 := 3) (i6 := 1) (i7 := 2)) $$ [HO H2]
  · isplitr; · iexact HR
    isplitl [HO]; · iexact HO
    iexact H2
  iintro ⟨HO, H2⟩
  iapply (wait_2 m K c 2 4 (by decide) (oR c 0) (Above.zero 4) hN_o (sem2 2 (by decide)) (a' := 5) (b' := 10) (i0 := 2) (i1 := 2) (i3 := 2) (i4 := 1) (i5 := 3) (i6 := 1) (i7 := 2)) $$ [HO H2]
  · isplitr; · iexact HR
    isplitl [HO]; · iexact HO
    iexact H2
  iintro ⟨HO, H2⟩
  iapply (wait_4 m K c 2 4 (by decide) (oR c 0) (Above.zero 4) hN_o (sem4 2 (by decide)) (a' := 5) (b' := 10) (i0 := 2) (i1 := 2) (i2 := 2) (i3 := 2) (i5 := 3) (i6 := 1) (i7 := 2)) $$ [HO H2]
  · isplitr; · iexact HR
    isplitl [HO]; · iexact HO
    iexact H2
  iintro ⟨HO, H2⟩
  iapply (ret_step c)
  iapply HK
  iframe

theorem part42 (c : Dev nD) {Q : (PUnit) → sProp 𝕄} :
    iprop(records m K ∗ Ow c (oR c 0) ∗ St m c 2 5 10 2 2 2 2 2 3 1 2 ∗ St m c 3 5 10 1 2 1 3 1 1 1 1)
      ⊢ iprop(((Ow c (oR c 0) ∗ St m c 2 5 10 2 2 2 2 2 3 2 2 ∗ St m c 3 5 10 1 2 1 3 1 2 1 1) -∗ Q ⟨⟩)
        -∗ Run c (k0_part42 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w19 c) (w23 c)) Q) := by
  simp only [k0_part42_eq_skeleton]; unfold k0_part42_skel
  simp -zeta only [Prog.lift, Prog.bind_op, Prog.bind_ret, Prog.pure_eq_ret]
  iintro ⟨#HR, HO, H2, H3⟩ HK
  iapply (wait_6 m K c 2 4 (by decide) (oR c 0) (Above.zero 4) hN_o (sem6 2 (by decide)) (a' := 5) (b' := 10) (i0 := 2) (i1 := 2) (i2 := 2) (i3 := 2) (i4 := 2) (i5 := 3) (i7 := 2)) $$ [HO H2]
  · isplitr; · iexact HR
    isplitl [HO]; · iexact HO
    iexact H2
  iintro ⟨HO, H2⟩
  iapply (wait_5 m K c 3 4 (by decide) (oR c 0) (Above.zero 4) (by decide) hN_o (sem5 3 (by decide)) (a' := 5) (b' := 10) (i0 := 1) (i1 := 2) (i2 := 1) (i3 := 3) (i4 := 1) (i6 := 1) (i7 := 1)) $$ [HO H3]
  · isplitr; · iexact HR
    isplitl [HO]; · iexact HO
    iexact H3
  iintro ⟨HO, H3⟩
  iapply (ret_step c)
  iapply HK
  iframe

theorem part43 (c : Dev nD) {Q : (PUnit) → sProp 𝕄} :
    iprop(records m K ∗ Ow c (oR c 0) ∗ St m c 3 5 10 1 2 1 3 1 2 1 1)
      ⊢ iprop(((Ow c (oR c 0) ∗ St m c 3 5 10 2 2 2 3 2 2 1 2) -∗ Q ⟨⟩)
        -∗ Run c (k0_part43 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w16 c)) Q) := by
  simp only [k0_part43_eq_skeleton]; unfold k0_part43_skel
  simp -zeta only [Prog.lift, Prog.bind_op, Prog.bind_ret, Prog.pure_eq_ret]
  iintro ⟨#HR, HO, H3⟩ HK
  iapply (wait_7 m K c 3 4 (by decide) (oR c 0) (Above.zero 4) (by decide) hN_o (sem7 3 (by decide)) (a' := 5) (b' := 10) (i0 := 1) (i1 := 2) (i2 := 1) (i3 := 3) (i4 := 1) (i5 := 2) (i6 := 1)) $$ [HO H3]
  · isplitr; · iexact HR
    isplitl [HO]; · iexact HO
    iexact H3
  iintro ⟨HO, H3⟩
  iapply (wait_0 m K c 3 4 (by decide) (oR c 0) (Above.zero 4) hN_p (sem0 3 (by decide)) (a' := 5) (b' := 10) (i1 := 2) (i2 := 1) (i3 := 3) (i4 := 1) (i5 := 2) (i6 := 1) (i7 := 2)) $$ [HO H3]
  · isplitr; · iexact HR
    isplitl [HO]; · iexact HO
    iexact H3
  iintro ⟨HO, H3⟩
  iapply (wait_2 m K c 3 4 (by decide) (oR c 0) (Above.zero 4) hN_o (sem2 3 (by decide)) (a' := 5) (b' := 10) (i0 := 2) (i1 := 2) (i3 := 3) (i4 := 1) (i5 := 2) (i6 := 1) (i7 := 2)) $$ [HO H3]
  · isplitr; · iexact HR
    isplitl [HO]; · iexact HO
    iexact H3
  iintro ⟨HO, H3⟩
  iapply (wait_4 m K c 3 4 (by decide) (oR c 0) (Above.zero 4) hN_o (sem4 3 (by decide)) (a' := 5) (b' := 10) (i0 := 2) (i1 := 2) (i2 := 2) (i3 := 3) (i5 := 2) (i6 := 1) (i7 := 2)) $$ [HO H3]
  · isplitr; · iexact HR
    isplitl [HO]; · iexact HO
    iexact H3
  iintro ⟨HO, H3⟩
  iapply (ret_step c)
  iapply HK
  iframe

theorem part44 (c : Dev nD) {Q : (PUnit) → sProp 𝕄} :
    iprop(records m K ∗ Ow c (oR c 0) ∗ St m c 3 5 10 2 2 2 3 2 2 1 2 ∗ St m c 4 5 10 1 2 1 1 1 3 1 1)
      ⊢ iprop(((Ow c (oR c 0) ∗ St m c 3 5 10 2 2 2 3 2 2 2 2 ∗ St m c 4 5 10 1 2 1 2 1 3 1 1) -∗ Q ⟨⟩)
        -∗ Run c (k0_part44 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (w23 c)) Q) := by
  simp only [k0_part44_eq_skeleton]; unfold k0_part44_skel
  simp -zeta only [Prog.lift, Prog.bind_op, Prog.bind_ret, Prog.pure_eq_ret]
  iintro ⟨#HR, HO, H3, H4⟩ HK
  iapply (wait_6 m K c 3 4 (by decide) (oR c 0) (Above.zero 4) hN_o (sem6 3 (by decide)) (a' := 5) (b' := 10) (i0 := 2) (i1 := 2) (i2 := 2) (i3 := 3) (i4 := 2) (i5 := 2) (i7 := 2)) $$ [HO H3]
  · isplitr; · iexact HR
    isplitl [HO]; · iexact HO
    iexact H3
  iintro ⟨HO, H3⟩
  iapply (wait_3 m K c 4 4 (by decide) (oR c 0) (Above.zero 4) (by decide) hN_o (sem3 4 (by decide)) (a' := 5) (b' := 10) (i0 := 1) (i1 := 2) (i2 := 1) (i4 := 1) (i5 := 3) (i6 := 1) (i7 := 1)) $$ [HO H4]
  · isplitr; · iexact HR
    isplitl [HO]; · iexact HO
    iexact H4
  iintro ⟨HO, H4⟩
  iapply (ret_step c)
  iapply HK
  iframe

theorem part45 (c : Dev nD) {Q : (PUnit) → sProp 𝕄} :
    iprop(records m K ∗ Ow c (oR c 0) ∗ St m c 4 5 10 1 2 1 2 1 3 1 1)
      ⊢ iprop(((Ow c (oR c 0) ∗ St m c 4 5 10 2 2 2 2 2 3 1 2) -∗ Q ⟨⟩)
        -∗ Run c (k0_part45 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w19 c)) Q) := by
  simp only [k0_part45_eq_skeleton]; unfold k0_part45_skel
  simp -zeta only [Prog.lift, Prog.bind_op, Prog.bind_ret, Prog.pure_eq_ret]
  iintro ⟨#HR, HO, H4⟩ HK
  iapply (wait_7 m K c 4 4 (by decide) (oR c 0) (Above.zero 4) (by decide) hN_o (sem7 4 (by decide)) (a' := 5) (b' := 10) (i0 := 1) (i1 := 2) (i2 := 1) (i3 := 2) (i4 := 1) (i5 := 3) (i6 := 1)) $$ [HO H4]
  · isplitr; · iexact HR
    isplitl [HO]; · iexact HO
    iexact H4
  iintro ⟨HO, H4⟩
  iapply (wait_0 m K c 4 4 (by decide) (oR c 0) (Above.zero 4) hN_p (sem0 4 (by decide)) (a' := 5) (b' := 10) (i1 := 2) (i2 := 1) (i3 := 2) (i4 := 1) (i5 := 3) (i6 := 1) (i7 := 2)) $$ [HO H4]
  · isplitr; · iexact HR
    isplitl [HO]; · iexact HO
    iexact H4
  iintro ⟨HO, H4⟩
  iapply (wait_2 m K c 4 4 (by decide) (oR c 0) (Above.zero 4) hN_o (sem2 4 (by decide)) (a' := 5) (b' := 10) (i0 := 2) (i1 := 2) (i3 := 2) (i4 := 1) (i5 := 3) (i6 := 1) (i7 := 2)) $$ [HO H4]
  · isplitr; · iexact HR
    isplitl [HO]; · iexact HO
    iexact H4
  iintro ⟨HO, H4⟩
  iapply (wait_4 m K c 4 4 (by decide) (oR c 0) (Above.zero 4) hN_o (sem4 4 (by decide)) (a' := 5) (b' := 10) (i0 := 2) (i1 := 2) (i2 := 2) (i3 := 2) (i5 := 3) (i6 := 1) (i7 := 2)) $$ [HO H4]
  · isplitr; · iexact HR
    isplitl [HO]; · iexact HO
    iexact H4
  iintro ⟨HO, H4⟩
  iapply (ret_step c)
  iapply HK
  iframe

theorem part46 (c : Dev nD) {Q : (PUnit) → sProp 𝕄} :
    iprop(records m K ∗ Ow c (oR c 0) ∗ St m c 4 5 10 2 2 2 2 2 3 1 2 ∗ St m c 5 5 10 1 2 1 3 1 1 1 1)
      ⊢ iprop(((Ow c (oR c 0) ∗ St m c 4 5 10 2 2 2 2 2 3 2 2 ∗ St m c 5 5 10 1 2 1 3 1 2 1 1) -∗ Q ⟨⟩)
        -∗ Run c (k0_part46 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w19 c) (w23 c)) Q) := by
  simp only [k0_part46_eq_skeleton]; unfold k0_part46_skel
  simp -zeta only [Prog.lift, Prog.bind_op, Prog.bind_ret, Prog.pure_eq_ret]
  iintro ⟨#HR, HO, H4, H5⟩ HK
  iapply (wait_6 m K c 4 4 (by decide) (oR c 0) (Above.zero 4) hN_o (sem6 4 (by decide)) (a' := 5) (b' := 10) (i0 := 2) (i1 := 2) (i2 := 2) (i3 := 2) (i4 := 2) (i5 := 3) (i7 := 2)) $$ [HO H4]
  · isplitr; · iexact HR
    isplitl [HO]; · iexact HO
    iexact H4
  iintro ⟨HO, H4⟩
  iapply (wait_5 m K c 5 4 (by decide) (oR c 0) (Above.zero 4) (by decide) hN_o (sem5 5 (by decide)) (a' := 5) (b' := 10) (i0 := 1) (i1 := 2) (i2 := 1) (i3 := 3) (i4 := 1) (i6 := 1) (i7 := 1)) $$ [HO H5]
  · isplitr; · iexact HR
    isplitl [HO]; · iexact HO
    iexact H5
  iintro ⟨HO, H5⟩
  iapply (ret_step c)
  iapply HK
  iframe

theorem part47 (c : Dev nD) {Q : (PUnit) → sProp 𝕄} :
    iprop(records m K ∗ Ow c (oR c 0) ∗ St m c 5 5 10 1 2 1 3 1 2 1 1)
      ⊢ iprop(((Ow c (oR c 0) ∗ St m c 5 5 10 2 2 2 3 2 2 1 2) -∗ Q ⟨⟩)
        -∗ Run c (k0_part47 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w16 c)) Q) := by
  simp only [k0_part47_eq_skeleton]; unfold k0_part47_skel
  simp -zeta only [Prog.lift, Prog.bind_op, Prog.bind_ret, Prog.pure_eq_ret]
  iintro ⟨#HR, HO, H5⟩ HK
  iapply (wait_7 m K c 5 4 (by decide) (oR c 0) (Above.zero 4) (by decide) hN_o (sem7 5 (by decide)) (a' := 5) (b' := 10) (i0 := 1) (i1 := 2) (i2 := 1) (i3 := 3) (i4 := 1) (i5 := 2) (i6 := 1)) $$ [HO H5]
  · isplitr; · iexact HR
    isplitl [HO]; · iexact HO
    iexact H5
  iintro ⟨HO, H5⟩
  iapply (wait_0 m K c 5 4 (by decide) (oR c 0) (Above.zero 4) hN_p (sem0 5 (by decide)) (a' := 5) (b' := 10) (i1 := 2) (i2 := 1) (i3 := 3) (i4 := 1) (i5 := 2) (i6 := 1) (i7 := 2)) $$ [HO H5]
  · isplitr; · iexact HR
    isplitl [HO]; · iexact HO
    iexact H5
  iintro ⟨HO, H5⟩
  iapply (wait_2 m K c 5 4 (by decide) (oR c 0) (Above.zero 4) hN_o (sem2 5 (by decide)) (a' := 5) (b' := 10) (i0 := 2) (i1 := 2) (i3 := 3) (i4 := 1) (i5 := 2) (i6 := 1) (i7 := 2)) $$ [HO H5]
  · isplitr; · iexact HR
    isplitl [HO]; · iexact HO
    iexact H5
  iintro ⟨HO, H5⟩
  iapply (wait_4 m K c 5 4 (by decide) (oR c 0) (Above.zero 4) hN_o (sem4 5 (by decide)) (a' := 5) (b' := 10) (i0 := 2) (i1 := 2) (i2 := 2) (i3 := 3) (i5 := 2) (i6 := 1) (i7 := 2)) $$ [HO H5]
  · isplitr; · iexact HR
    isplitl [HO]; · iexact HO
    iexact H5
  iintro ⟨HO, H5⟩
  iapply (ret_step c)
  iapply HK
  iframe

theorem part48 (c : Dev nD) {Q : (PUnit) → sProp 𝕄} :
    iprop(records m K ∗ Ow c (oR c 0) ∗ St m c 5 5 10 2 2 2 3 2 2 1 2 ∗ St m c 6 5 10 1 2 1 1 1 3 1 1)
      ⊢ iprop(((Ow c (oR c 0) ∗ St m c 5 5 10 2 2 2 3 2 2 2 2 ∗ St m c 6 5 10 1 2 1 2 1 3 1 1) -∗ Q ⟨⟩)
        -∗ Run c (k0_part48 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w10 c) (w16 c) (w23 c)) Q) := by
  simp only [k0_part48_eq_skeleton]; unfold k0_part48_skel
  simp -zeta only [Prog.lift, Prog.bind_op, Prog.bind_ret, Prog.pure_eq_ret]
  iintro ⟨#HR, HO, H5, H6⟩ HK
  iapply (wait_6 m K c 5 4 (by decide) (oR c 0) (Above.zero 4) hN_o (sem6 5 (by decide)) (a' := 5) (b' := 10) (i0 := 2) (i1 := 2) (i2 := 2) (i3 := 3) (i4 := 2) (i5 := 2) (i7 := 2)) $$ [HO H5]
  · isplitr; · iexact HR
    isplitl [HO]; · iexact HO
    iexact H5
  iintro ⟨HO, H5⟩
  iapply (wait_3 m K c 6 4 (by decide) (oR c 0) (Above.zero 4) (by decide) hN_o (sem3 6 (by decide)) (a' := 5) (b' := 10) (i0 := 1) (i1 := 2) (i2 := 1) (i4 := 1) (i5 := 3) (i6 := 1) (i7 := 1)) $$ [HO H6]
  · isplitr; · iexact HR
    isplitl [HO]; · iexact HO
    iexact H6
  iintro ⟨HO, H6⟩
  iapply (ret_step c)
  iapply HK
  iframe

theorem part49 (c : Dev nD) {Q : (PUnit) → sProp 𝕄} :
    iprop(records m K ∗ Ow c (oR c 0) ∗ St m c 6 5 10 1 2 1 2 1 3 1 1)
      ⊢ iprop(((Ow c (oR c 0) ∗ St m c 6 5 10 2 2 2 2 2 3 1 2) -∗ Q ⟨⟩)
        -∗ Run c (k0_part49 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w19 c)) Q) := by
  simp only [k0_part49_eq_skeleton]; unfold k0_part49_skel
  simp -zeta only [Prog.lift, Prog.bind_op, Prog.bind_ret, Prog.pure_eq_ret]
  iintro ⟨#HR, HO, H6⟩ HK
  iapply (wait_7 m K c 6 4 (by decide) (oR c 0) (Above.zero 4) (by decide) hN_o (sem7 6 (by decide)) (a' := 5) (b' := 10) (i0 := 1) (i1 := 2) (i2 := 1) (i3 := 2) (i4 := 1) (i5 := 3) (i6 := 1)) $$ [HO H6]
  · isplitr; · iexact HR
    isplitl [HO]; · iexact HO
    iexact H6
  iintro ⟨HO, H6⟩
  iapply (wait_0 m K c 6 4 (by decide) (oR c 0) (Above.zero 4) hN_p (sem0 6 (by decide)) (a' := 5) (b' := 10) (i1 := 2) (i2 := 1) (i3 := 2) (i4 := 1) (i5 := 3) (i6 := 1) (i7 := 2)) $$ [HO H6]
  · isplitr; · iexact HR
    isplitl [HO]; · iexact HO
    iexact H6
  iintro ⟨HO, H6⟩
  iapply (wait_2 m K c 6 4 (by decide) (oR c 0) (Above.zero 4) hN_o (sem2 6 (by decide)) (a' := 5) (b' := 10) (i0 := 2) (i1 := 2) (i3 := 2) (i4 := 1) (i5 := 3) (i6 := 1) (i7 := 2)) $$ [HO H6]
  · isplitr; · iexact HR
    isplitl [HO]; · iexact HO
    iexact H6
  iintro ⟨HO, H6⟩
  iapply (wait_4 m K c 6 4 (by decide) (oR c 0) (Above.zero 4) hN_o (sem4 6 (by decide)) (a' := 5) (b' := 10) (i0 := 2) (i1 := 2) (i2 := 2) (i3 := 2) (i5 := 3) (i6 := 1) (i7 := 2)) $$ [HO H6]
  · isplitr; · iexact HR
    isplitl [HO]; · iexact HO
    iexact H6
  iintro ⟨HO, H6⟩
  iapply (ret_step c)
  iapply HK
  iframe

theorem part50 (c : Dev nD) {Q : (PUnit) → sProp 𝕄} :
    iprop(records m K ∗ Ow c (oR c 0) ∗ St m c 6 5 10 2 2 2 2 2 3 1 2 ∗ St m c 7 5 10 1 2 1 3 1 1 1 1)
      ⊢ iprop(((Ow c (oR c 0) ∗ St m c 6 5 10 2 2 2 2 2 3 2 2 ∗ St m c 7 5 10 1 2 1 3 1 2 1 2) -∗ Q ⟨⟩)
        -∗ Run c (k0_part50 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w2 c) (w5 c) (w8 c) (w9 c) (w11 c) (w19 c) (w23 c)) Q) := by
  simp only [k0_part50_eq_skeleton]; unfold k0_part50_skel
  simp -zeta only [Prog.lift, Prog.bind_op, Prog.bind_ret, Prog.pure_eq_ret]
  iintro ⟨#HR, HO, H6, H7⟩ HK
  iapply (wait_6 m K c 6 4 (by decide) (oR c 0) (Above.zero 4) hN_o (sem6 6 (by decide)) (a' := 5) (b' := 10) (i0 := 2) (i1 := 2) (i2 := 2) (i3 := 2) (i4 := 2) (i5 := 3) (i7 := 2)) $$ [HO H6]
  · isplitr; · iexact HR
    isplitl [HO]; · iexact HO
    iexact H6
  iintro ⟨HO, H6⟩
  iapply (wait_5 m K c 7 4 (by decide) (oR c 0) (Above.zero 4) (by decide) hN_o (sem5 7 (by decide)) (a' := 5) (b' := 10) (i0 := 1) (i1 := 2) (i2 := 1) (i3 := 3) (i4 := 1) (i6 := 1) (i7 := 1)) $$ [HO H7]
  · isplitr; · iexact HR
    isplitl [HO]; · iexact HO
    iexact H7
  iintro ⟨HO, H7⟩
  iapply (wait_7 m K c 7 4 (by decide) (oR c 0) (Above.zero 4) (by decide) hN_o (sem7 7 (by decide)) (a' := 5) (b' := 10) (i0 := 1) (i1 := 2) (i2 := 1) (i3 := 3) (i4 := 1) (i5 := 2) (i6 := 1)) $$ [HO H7]
  · isplitr; · iexact HR
    isplitl [HO]; · iexact HO
    iexact H7
  iintro ⟨HO, H7⟩
  iapply (ret_step c)
  iapply HK
  iframe

theorem part51 (c : Dev nD) {Q : (PUnit) → sProp 𝕄} :
    iprop(records m K ∗ Ow c (oR c 0) ∗ St m c 7 5 10 1 2 1 3 1 2 1 2)
      ⊢ iprop(((Ow c (oR c 0) ∗ St m c 7 5 10 2 2 2 3 2 2 1 2) -∗ Q ⟨⟩)
        -∗ Run c (k0_part51 xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10 c (w13 c) (w16 c)) Q) := by
  simp only [k0_part51_eq_skeleton]; unfold k0_part51_skel
  simp -zeta only [Prog.lift, Prog.bind_op, Prog.bind_ret, Prog.pure_eq_ret]
  iintro ⟨#HR, HO, H7⟩ HK
  iapply (wait_0 m K c 7 4 (by decide) (oR c 0) (Above.zero 4) hN_p (sem0 7 (by decide)) (a' := 5) (b' := 10) (i1 := 2) (i2 := 1) (i3 := 3) (i4 := 1) (i5 := 2) (i6 := 1) (i7 := 2)) $$ [HO H7]
  · isplitr; · iexact HR
    isplitl [HO]; · iexact HO
    iexact H7
  iintro ⟨HO, H7⟩
  iapply (wait_2 m K c 7 4 (by decide) (oR c 0) (Above.zero 4) hN_o (sem2 7 (by decide)) (a' := 5) (b' := 10) (i0 := 2) (i1 := 2) (i3 := 3) (i4 := 1) (i5 := 2) (i6 := 1) (i7 := 2)) $$ [HO H7]
  · isplitr; · iexact HR
    isplitl [HO]; · iexact HO
    iexact H7
  iintro ⟨HO, H7⟩
  iapply (wait_4 m K c 7 4 (by decide) (oR c 0) (Above.zero 4) hN_o (sem4 7 (by decide)) (a' := 5) (b' := 10) (i0 := 2) (i1 := 2) (i2 := 2) (i3 := 3) (i5 := 2) (i6 := 1) (i7 := 2)) $$ [HO H7]
  · isplitr; · iexact HR
    isplitl [HO]; · iexact HO
    iexact H7
  iintro ⟨HO, H7⟩
  iapply (ret_step c)
  iapply HK
  iframe

end Cert.KernelIdeal.Mesh

end
-- ==== Proof.Body.lean ====
/-
# The whole body

The parts one after the other, from what a device holds at launch to what it holds at the end.
-/
module

public import proofs.«01_k».proof.Proof.Opening
public import proofs.«01_k».proof.Proof.Sums
public import proofs.«01_k».proof.Proof.Ends

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-- One part after another. -/
theorem bind_step (c : Dev nD) {α β : Type} {p : Prog (TpuEff nD τ sig (Elt F) Λ₀ .tc) α} {k : α → Prog (TpuEff nD τ sig (Elt F) Λ₀ .tc) β} {Q : β → sProp 𝕄} :
    Run c p (fun a => Run c (k a) Q) ⊢ Run c (p >>= k) Q := by
  unfold Run
  rw [wp_bind]

set_option maxHeartbeats 4000000 in
set_option maxRecDepth 20000 in
/-- The body, from its first signal to its last wait. -/
theorem body_run (c : Dev nD) {Q : PUnit → sProp 𝕄} :
    iprop(records m K ∗ Ow c (O₀ c) ∗ (dutyTok ER (barCell (xn c)) 0 0 ∗ barPay (xn c) 0) ∗ (dutyTok ER (barCell (yn c)) 0 1 ∗ barPay (yn c) 1)
        ∗ (dutyTok ER (barCell (zn c)) 0 2 ∗ barPay (zn c) 2) ∗ atPos ER (barCell c) 0 ∅ 0 ∗ cred (tallyAt (barCell c) () 3)
        ∗ (xLoc c ↦{fullShare} xs m c) ∗ (dLoc c ↦{fullShare} ds m c) ∗ (∃ f, tLoc c ↦{fullShare} f)
        ∗ bigSep Finset.univ fun s : Fin 8 => Pre c s.val)
      ⊢ iprop(((Ow c (oR c 0) ∗ atPos ER (barCell c) 1 ∅ 0 ∗ (xLoc c ↦{fullShare} xs m c) ∗ In m c ∗ St m c 0 5 10 2 2 2 2 2 3 2 2 ∗ St m c 1 5 10 2 2 2 3 2 2 2 2 ∗ St m c 2 5 10 2 2 2 2 2 3 2 2 ∗ St m c 3 5 10 2 2 2 3 2 2 2 2 ∗ St m c 4 5 10 2 2 2 2 2 3 2 2 ∗ St m c 5 5 10 2 2 2 3 2 2 2 2 ∗ St m c 6 5 10 2 2 2 2 2 3 2 2 ∗ St m c 7 5 10 2 2 2 3 2 2 2 2) -∗ Q ⟨⟩)
        -∗ Run c (cc0_body xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10) Q) := by
  unfold cc0_body
  iintro ⟨#HR, HO, ⟨HT1, HB1⟩, HY, HZ, Hat, Hcr, HX, HD, HT, HP⟩ HK
  iapply (bind_step c)
  iapply (part1 m K c) $$ [HO HT1 HB1]
  · isplitr; · iexact HR
    isplitl [HO]; · iexact HO
    isplitl [HT1]; · iexact HT1
    iexact HB1
  iintro HO
  try dsimp -zeta only
  iapply (bind_step c)
  iapply (part2 m K c) $$ [HO HY HZ Hat Hcr HX HD HT HP]
  · isplitr; · iexact HR
    iframe
  iintro ⟨HO, Hat, HX, HI, H0, H1, H2, H3, H4, H5, H6, H7⟩
  try dsimp -zeta only
  iapply (bind_step c)
  iapply (part3 m K c) $$ [HI HO H0 H1]
  · isplitr; · iexact HR
    iframe
  iintro ⟨HI, HO, H0, H1⟩
  try dsimp -zeta only
  iapply (bind_step c)
  iapply (part4 m K c) $$ [HI HO H1 H2]
  · isplitr; · iexact HR
    iframe
  iintro ⟨HI, HO, H1, H2⟩
  try dsimp -zeta only
  iapply (bind_step c)
  iapply (part5 m K c) $$ [HI HO H3 H4]
  · isplitr; · iexact HR
    iframe
  iintro ⟨HI, HO, H3, H4⟩
  try dsimp -zeta only
  iapply (bind_step c)
  iapply (part6 m K c) $$ [HI HO H4 H5]
  · isplitr; · iexact HR
    iframe
  iintro ⟨HI, HO, H4, H5⟩
  try dsimp -zeta only
  iapply (bind_step c)
  iapply (part7 m K c) $$ [HI HO H5 H6]
  · isplitr; · iexact HR
    iframe
  iintro ⟨HI, HO, H5, H6⟩
  try dsimp -zeta only
  iapply (bind_step c)
  iapply (part8 m K c) $$ [HI HO H7]
  · isplitr; · iexact HR
    iframe
  iintro ⟨HI, HO, H7⟩
  try dsimp -zeta only
  iapply (bind_step c)
  iapply (part9 m K c) $$ [HO H0]
  · isplitr; · iexact HR
    iframe
  iintro ⟨HO, H0⟩
  try dsimp -zeta only
  iapply (bind_step c)
  iapply (part10 m K c) $$ [HO H0]
  · isplitr; · iexact HR
    iframe
  iintro ⟨HO, H0⟩
  try dsimp -zeta only
  iapply (bind_step c)
  iapply (part11 m K c) $$ [HO H0 H1]
  · isplitr; · iexact HR
    iframe
  iintro ⟨HO, H0, H1⟩
  try dsimp -zeta only
  iapply (bind_step c)
  iapply (part12 m K c) $$ [HO H1]
  · isplitr; · iexact HR
    iframe
  iintro ⟨HO, H1⟩
  try dsimp -zeta only
  iapply (bind_step c)
  iapply (part13 m K c) $$ [HO H1]
  · isplitr; · iexact HR
    iframe
  iintro ⟨HO, H1⟩
  try dsimp -zeta only
  iapply (bind_step c)
  iapply (part14 m K c) $$ [HO H2]
  · isplitr; · iexact HR
    iframe
  iintro ⟨HO, H2⟩
  try dsimp -zeta only
  iapply (bind_step c)
  iapply (part15 m K c) $$ [HO H2]
  · isplitr; · iexact HR
    iframe
  iintro ⟨HO, H2⟩
  try dsimp -zeta only
  iapply (bind_step c)
  iapply (part16 m K c) $$ [HO H2 H3]
  · isplitr; · iexact HR
    iframe
  iintro ⟨HO, H2, H3⟩
  try dsimp -zeta only
  iapply (bind_step c)
  iapply (part17 m K c) $$ [HO H3]
  · isplitr; · iexact HR
    iframe
  iintro ⟨HO, H3⟩
  try dsimp -zeta only
  iapply (bind_step c)
  iapply (part18 m K c) $$ [HO H3]
  · isplitr; · iexact HR
    iframe
  iintro ⟨HO, H3⟩
  try dsimp -zeta only
  iapply (bind_step c)
  iapply (part19 m K c) $$ [HO H4]
  · isplitr; · iexact HR
    iframe
  iintro ⟨HO, H4⟩
  try dsimp -zeta only
  iapply (bind_step c)
  iapply (part20 m K c) $$ [HO H4]
  · isplitr; · iexact HR
    iframe
  iintro ⟨HO, H4⟩
  try dsimp -zeta only
  iapply (bind_step c)
  iapply (part21 m K c) $$ [HO H4 H5]
  · isplitr; · iexact HR
    iframe
  iintro ⟨HO, H4, H5⟩
  try dsimp -zeta only
  iapply (bind_step c)
  iapply (part22 m K c) $$ [HO H5]
  · isplitr; · iexact HR
    iframe
  iintro ⟨HO, H5⟩
  try dsimp -zeta only
  iapply (bind_step c)
  iapply (part23 m K c) $$ [HO H5]
  · isplitr; · iexact HR
    iframe
  iintro ⟨HO, H5⟩
  try dsimp -zeta only
  iapply (bind_step c)
  iapply (part24 m K c) $$ [HO H6]
  · isplitr; · iexact HR
    iframe
  iintro ⟨HO, H6⟩
  try dsimp -zeta only
  iapply (bind_step c)
  iapply (part25 m K c) $$ [HO H6]
  · isplitr; · iexact HR
    iframe
  iintro ⟨HO, H6⟩
  try dsimp -zeta only
  iapply (bind_step c)
  iapply (part26 m K c) $$ [HO H6 H7]
  · isplitr; · iexact HR
    iframe
  iintro ⟨HO, H6, H7⟩
  try dsimp -zeta only
  iapply (bind_step c)
  iapply (part27 m K c) $$ [HO H7]
  · isplitr; · iexact HR
    iframe
  iintro ⟨HO, H7⟩
  try dsimp -zeta only
  iapply (bind_step c)
  iapply (part28 m K c) $$ [HO H7]
  · isplitr; · iexact HR
    iframe
  iintro ⟨HO, H7⟩
  try dsimp -zeta only
  iapply (bind_step c)
  iapply (part29 m K c) $$ [HO H0]
  · isplitr; · iexact HR
    iframe
  iintro ⟨HO, H0⟩
  try dsimp -zeta only
  iapply (bind_step c)
  iapply (part30 m K c) $$ [HO H1]
  · isplitr; · iexact HR
    iframe
  iintro ⟨HO, H1⟩
  try dsimp -zeta only
  iapply (bind_step c)
  iapply (part31 m K c) $$ [HO H2 H3]
  · isplitr; · iexact HR
    iframe
  iintro ⟨HO, H2, H3⟩
  try dsimp -zeta only
  iapply (bind_step c)
  iapply (part32 m K c) $$ [HO H3 H4]
  · isplitr; · iexact HR
    iframe
  iintro ⟨HO, H3, H4⟩
  try dsimp -zeta only
  iapply (bind_step c)
  iapply (part33 m K c) $$ [HO H4 H5]
  · isplitr; · iexact HR
    iframe
  iintro ⟨HO, H4, H5⟩
  try dsimp -zeta only
  iapply (bind_step c)
  iapply (part34 m K c) $$ [HO H5 H6]
  · isplitr; · iexact HR
    iframe
  iintro ⟨HO, H5, H6⟩
  try dsimp -zeta only
  iapply (bind_step c)
  iapply (part35 m K c) $$ [HO H6 H7]
  · isplitr; · iexact HR
    iframe
  iintro ⟨HO, H6, H7⟩
  try dsimp -zeta only
  iapply (bind_step c)
  iapply (part36 m K c) $$ [HO H0 H7]
  · isplitr; · iexact HR
    iframe
  iintro ⟨HO, H0, H7⟩
  try dsimp -zeta only
  iapply (bind_step c)
  iapply (part37 m K c) $$ [HO H0]
  · isplitr; · iexact HR
    iframe
  iintro ⟨HO, H0⟩
  try dsimp -zeta only
  iapply (bind_step c)
  iapply (part38 m K c) $$ [HO H0 H1]
  · isplitr; · iexact HR
    iframe
  iintro ⟨HO, H0, H1⟩
  try dsimp -zeta only
  iapply (bind_step c)
  iapply (part39 m K c) $$ [HO H1]
  · isplitr; · iexact HR
    iframe
  iintro ⟨HO, H1⟩
  try dsimp -zeta only
  iapply (bind_step c)
  iapply (part40 m K c) $$ [HO H1 H2]
  · isplitr; · iexact HR
    iframe
  iintro ⟨HO, H1, H2⟩
  try dsimp -zeta only
  iapply (bind_step c)
  iapply (part41 m K c) $$ [HO H2]
  · isplitr; · iexact HR
    iframe
  iintro ⟨HO, H2⟩
  try dsimp -zeta only
  iapply (bind_step c)
  iapply (part42 m K c) $$ [HO H2 H3]
  · isplitr; · iexact HR
    iframe
  iintro ⟨HO, H2, H3⟩
  try dsimp -zeta only
  iapply (bind_step c)
  iapply (part43 m K c) $$ [HO H3]
  · isplitr; · iexact HR
    iframe
  iintro ⟨HO, H3⟩
  try dsimp -zeta only
  iapply (bind_step c)
  iapply (part44 m K c) $$ [HO H3 H4]
  · isplitr; · iexact HR
    iframe
  iintro ⟨HO, H3, H4⟩
  try dsimp -zeta only
  iapply (bind_step c)
  iapply (part45 m K c) $$ [HO H4]
  · isplitr; · iexact HR
    iframe
  iintro ⟨HO, H4⟩
  try dsimp -zeta only
  iapply (bind_step c)
  iapply (part46 m K c) $$ [HO H4 H5]
  · isplitr; · iexact HR
    iframe
  iintro ⟨HO, H4, H5⟩
  try dsimp -zeta only
  iapply (bind_step c)
  iapply (part47 m K c) $$ [HO H5]
  · isplitr; · iexact HR
    iframe
  iintro ⟨HO, H5⟩
  try dsimp -zeta only
  iapply (bind_step c)
  iapply (part48 m K c) $$ [HO H5 H6]
  · isplitr; · iexact HR
    iframe
  iintro ⟨HO, H5, H6⟩
  try dsimp -zeta only
  iapply (bind_step c)
  iapply (part49 m K c) $$ [HO H6]
  · isplitr; · iexact HR
    iframe
  iintro ⟨HO, H6⟩
  try dsimp -zeta only
  iapply (bind_step c)
  iapply (part50 m K c) $$ [HO H6 H7]
  · isplitr; · iexact HR
    iframe
  iintro ⟨HO, H6, H7⟩
  try dsimp -zeta only
  iapply (bind_step c)
  iapply (part51 m K c) $$ [HO H7]
  · isplitr; · iexact HR
    iframe
  iintro ⟨HO, H7⟩
  try dsimp -zeta only
  simp -zeta only [Prog.lift, Prog.bind_op, Prog.bind_ret, Prog.pure_eq_ret]
  iapply (wait_6 m K c 7 4 (by decide) (oR c 0) (Above.zero 4) hN_o (sem6 7 (by decide)) (a' := 5) (b' := 10) (i0 := 2) (i1 := 2) (i2 := 2) (i3 := 3) (i4 := 2) (i5 := 2) (i7 := 2)) $$ [HO H7]
  · isplitr; · iexact HR
    isplitl [HO]; · iexact HO
    iexact H7
  iintro ⟨HO, H7⟩
  iapply (ret_step c)
  iapply HK
  iframe

end Cert.KernelIdeal.Mesh

end
-- ==== Proof.Close.lean ====
/-
# The buffers in pieces, and the end of the body

A buffer is its chunks; at the end the chunks make the whole buffers again and every cell is back at zero.
-/
module

public import proofs.«01_k».proof.Proof.Body

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CI → ℕ)

/-! ## The buffers in pieces -/

/-- The four slots as device `c` names them. -/
def sl (c : Dev nD) : Fin 4 → ℕ := ![qn c, qy c, qz c, qd c]
theorem sl_inj (c : Dev nD) : ∀ j j' : Fin 4, sl c j = sl c j' → j = j' := by revert c; decide
theorem sl_surj (c : Dev nD) : ∀ q : ℕ, q < 4 → ∃ j : Fin 4, sl c j = q := by revert c; decide

theorem cover_p {inst : DecidableEq S1024x1024.Idx} :
    @Finset.biUnion _ _ inst Finset.univ (fun s : Fin 8 => (box 0 1024 (128 * s.val) 128 : Finset S1024x1024.Idx)) = Finset.univ := by
  ext i
  have h0 : (i 0).val < 1024 := (i 0).isLt
  have h1 : (i 1).val < 1024 := (i 1).isLt
  refine iff_of_true (Finset.mem_biUnion.mpr ⟨⟨(i 1).val / 128, by omega⟩, Finset.mem_univ _, ?_⟩) (Finset.mem_univ _)
  refine mem_box.mpr ?_
  dsimp only
  omega

theorem cover_r {inst : DecidableEq S512x1024.Idx} :
    @Finset.biUnion _ _ inst Finset.univ (fun s : Fin 8 => (box 0 512 (128 * s.val) 128 : Finset S512x1024.Idx)) = Finset.univ := by
  ext i
  have h0 : (i 0).val < 512 := (i 0).isLt
  have h1 : (i 1).val < 1024 := (i 1).isLt
  refine iff_of_true (Finset.mem_biUnion.mpr ⟨⟨(i 1).val / 128, by omega⟩, Finset.mem_univ _, ?_⟩) (Finset.mem_univ _)
  refine mem_box.mpr ?_
  dsimp only
  omega

theorem cover_o (c : Dev nD) {inst : DecidableEq S512x4096.Idx} :
    @Finset.biUnion _ _ inst Finset.univ (fun t : Fin 8 × Fin 4 => (box 0 512 (1024 * sl c t.2 + 128 * t.1.val) 128 : Finset S512x4096.Idx)) = Finset.univ := by
  ext i
  have h0 : (i 0).val < 512 := (i 0).isLt
  have h1 : (i 1).val < 4096 := (i 1).isLt
  obtain ⟨j, hj⟩ := sl_surj c ((i 1).val / 1024) (by omega)
  refine iff_of_true (Finset.mem_biUnion.mpr ⟨(⟨(i 1).val % 1024 / 128, by omega⟩, j), Finset.mem_univ _, ?_⟩) (Finset.mem_univ _)
  refine mem_box.mpr ?_
  dsimp only
  omega

omit [FloatOps F] in
/-- The partial product is its eight chunks. -/
theorem p_pieces (c : Dev nD) (f : (cc0_scratch1 : Ref sig .tc).ty.Contents (Elt F)) :
    (pLoc c ↦{fullShare} f : sProp 𝕄) = bigSep Finset.univ fun s : Fin 8 => Pc c s.val f := by
  refine Eq.trans (congrArg (fun I : Finset (Idx (pLoc c)) => (pLoc c ↦[I]{fullShare} f : sProp 𝕄)) (cover_p).symm) (pointsTo_biUnion (ℓ := pLoc c) (q := fullShare) (f := f) Finset.univ
    (fun s : Fin 8 => (box 0 1024 (128 * s.val) 128 : Finset S1024x1024.Idx)) ?_)
  intro s _ s' _ hne
  refine Finset.disjoint_left.mpr fun i hi hi' => hne (Fin.ext ?_)
  have h := mem_box.mp hi
  have h' := mem_box.mp hi'
  omega

omit [FloatOps F] in
/-- The buffer the first axis' copies land in is its eight chunks. -/
theorem r_pieces (c : Dev nD) (f : (cc0_scratch2 : Ref sig .tc).ty.Contents (Elt F)) :
    (rLoc c ↦{fullShare} f : sProp 𝕄) = bigSep Finset.univ fun s : Fin 8 => Rx c s.val f := by
  refine Eq.trans (congrArg (fun I : Finset (Idx (rLoc c)) => (rLoc c ↦[I]{fullShare} f : sProp 𝕄)) (cover_r).symm) (pointsTo_biUnion (ℓ := rLoc c) (q := fullShare) (f := f) Finset.univ
    (fun s : Fin 8 => (box 0 512 (128 * s.val) 128 : Finset S512x1024.Idx)) ?_)
  intro s _ s' _ hne
  refine Finset.disjoint_left.mpr fun i hi hi' => hne (Fin.ext ?_)
  have h := mem_box.mp hi
  have h' := mem_box.mp hi'
  omega

omit [FloatOps F] in
/-- The output is, for each chunk, its four slots. -/
theorem o_pieces (c : Dev nD) (f : (cc0_stg2_0 : Ref sig .tc).ty.Contents (Elt F)) :
    (oLoc c ↦{fullShare} f : sProp 𝕄) = bigSep Finset.univ fun s : Fin 8 =>
      iprop(Ou c (qn c) s.val fullShare f ∗ Ou c (qy c) s.val fullShare f ∗ Ou c (qz c) s.val fullShare f ∗ Ou c (qd c) s.val fullShare f) := by
  have h := pointsTo_biUnion (Ix := Unit) (Name := ℕ) (U := UU) (Lvl := ℕ) (ℓ := oLoc c) (q := fullShare) (f := f) Finset.univ
    (fun t : Fin 8 × Fin 4 => (box 0 512 (1024 * sl c t.2 + 128 * t.1.val) 128 : Finset S512x4096.Idx)) ?_
  · rw [bigSep_univ_prod] at h
    exact (congrArg (fun I : Finset (Idx (oLoc c)) => (oLoc c ↦[I]{fullShare} f : sProp 𝕄)) (cover_o c).symm).trans
      (h.trans (bigSep_congr fun s _ => bigSep_univ_eq_bigSepL [0, 1, 2, 3] (by decide) (by decide) _))
  · rintro ⟨s, j⟩ _ ⟨s', j'⟩ _ hne
    refine Finset.disjoint_left.mpr fun i hi hi' => hne ?_
    have h := mem_box.mp hi
    have h' := mem_box.mp hi'
    dsimp only at h h'
    have hs := s.isLt
    have hs' := s'.isLt
    have h1 : sl c j = sl c j' := by omega
    have h2 : s = s' := Fin.ext (by omega)
    rw [sl_inj c j j' h1, h2]

/-! ## The end -/

/-- A half of the rows and the other half are the chunk. -/
theorem Pc_join (c : Dev nD) (s : ℕ) (f : (cc0_scratch1 : Ref sig .tc).ty.Contents (Elt F)) :
    iprop(Ph c (1 - xb c) s f ∗ Ph c (xb c) s f) ⊢ (Pc c s f : sProp 𝕄) := by
  unfold Pc Ph
  have hx := xb_lt c
  have hdis : Disjoint (box (512 * (1 - xb c)) 512 (128 * s) 128 : Finset S1024x1024.Idx) (box (512 * xb c) 512 (128 * s) 128) := by
    refine Finset.disjoint_left.mpr fun i hi hi' => ?_
    have h := mem_box.mp hi
    have h' := mem_box.mp hi'
    omega
  refine (pointsTo_union hdis).2.trans (Entails.of_eq ?_)
  congr 1
  ext i
  have h0 : (i 0).val < 1024 := (i 0).isLt
  refine Finset.mem_union.trans ?_
  rw [mem_box, mem_box, mem_box]
  omega

/-- The two half shares of a chunk are the whole. -/
theorem Ou_join (c : Dev nD) (q s : ℕ) (f : (cc0_stg2_0 : Ref sig .tc).ty.Contents (Elt F)) :
    iprop(Ou c q s fullShare.left f ∗ Ou c q s fullShare.right f) ⊢ (Ou c q s fullShare f : sProp 𝕄) := by
  unfold Ou
  exact (pointsTo_share (PosShare.mem_left_op_right fullShare)).2

/-- What chunk `s` leaves: the eight cells past their round, and the chunk's pieces of the three buffers. -/
def End (c : Dev nD) (s : ℕ) : sProp 𝕄 :=
  iprop((bigSep Finset.univ fun k : Fin 8 => atPos ER (dcell c k.val s) 1 ∅ 0) ∗ Pc c s (partB m c) ∗ Rx c s (rxB m c)
    ∗ Ou c (qn c) s fullShare (outB m c) ∗ Ou c (qy c) s fullShare (outB m c) ∗ Ou c (qz c) s fullShare (outB m c) ∗ Ou c (qd c) s fullShare (outB m c))

/-- The last state of an even chunk, put together. -/
theorem fold_even (c : Dev nD) (s : ℕ) (he : s % 2 = 0) : St m c s 5 10 2 2 2 2 2 3 2 2 ⊢ (End m c s : sProp 𝕄) := by
  unfold St End
  have e6 : (dmaPay m c 6 s : sProp 𝕄) = Ou c (qz c) s fullShare (outB m c) := by
    show Ou c (rq c s) s fullShare (outB m c) = _
    unfold rq; rw [if_pos he]
  rw [Sd_2 m c 0 s, Sd_2 m c 2 s, Sd_2 m c 4 s, Sd_2 m c 6 s, Rv_2 m c 1 s, Rv_2 m c 7 s, Rv_2 m c 3 s, Rv_3 m c 5 s, e6,
    show A m c s 5 = Ph c (xb c) s (partB m c) from rfl,
    show (dmaPay m c 0 s : sProp 𝕄) = Ph c (1 - xb c) s (partB m c) from rfl,
    show (dmaPay m c 1 s : sProp 𝕄) = Rx c s (rxB m c) from rfl,
    show (dmaPay m c 2 s : sProp 𝕄) = Ou c (qn c) s fullShare.left (outB m c) from rfl,
    show (dmaPay m c 3 s : sProp 𝕄) = Ou c (qy c) s fullShare (outB m c) from rfl,
    show (dmaPay m c 4 s : sProp 𝕄) = Ou c (qn c) s fullShare.right (outB m c) from rfl,
    show (dmaPay m c 7 s : sProp 𝕄) = Ou c (qd c) s fullShare (outB m c) from rfl, bigSep_8]
  iintro ⟨HA, -, ⟨a0, HP⟩, ⟨a1, HX⟩, ⟨a2, HL⟩, ⟨a3, Y⟩, ⟨a4, HR⟩, a5, ⟨a6, Z⟩, ⟨a7, D⟩⟩
  isplitl [a0 a1 a2 a3 a4 a5 a6 a7]
  · isplitl [a0]; · iexact a0
    isplitl [a1]; · iexact a1
    isplitl [a2]; · iexact a2
    isplitl [a3]; · iexact a3
    isplitl [a4]; · iexact a4
    isplitl [a5]; · iexact a5
    isplitl [a6]; · iexact a6
    iexact a7
  isplitl [HA HP]
  · iapply (Pc_join c s (partB m c)); isplitl [HP] <;> iassumption
  isplitl [HX]; · iexact HX
  isplitl [HL HR]
  · iapply (Ou_join c (qn c) s (outB m c)); isplitl [HL] <;> iassumption
  isplitl [Y]; · iexact Y
  isplitl [Z]; · iexact Z
  iexact D

/-- The last state of an odd chunk, put together. -/
theorem fold_odd (c : Dev nD) (s : ℕ) (he : ¬ s % 2 = 0) : St m c s 5 10 2 2 2 3 2 2 2 2 ⊢ (End m c s : sProp 𝕄) := by
  unfold St End
  have e6 : (dmaPay m c 6 s : sProp 𝕄) = Ou c (qy c) s fullShare (outB m c) := by
    show Ou c (rq c s) s fullShare (outB m c) = _
    unfold rq; rw [if_neg he]
  rw [Sd_2 m c 0 s, Sd_2 m c 2 s, Sd_2 m c 4 s, Sd_2 m c 6 s, Rv_2 m c 1 s, Rv_2 m c 7 s, Rv_3 m c 3 s, Rv_2 m c 5 s, e6,
    show A m c s 5 = Ph c (xb c) s (partB m c) from rfl,
    show (dmaPay m c 0 s : sProp 𝕄) = Ph c (1 - xb c) s (partB m c) from rfl,
    show (dmaPay m c 1 s : sProp 𝕄) = Rx c s (rxB m c) from rfl,
    show (dmaPay m c 2 s : sProp 𝕄) = Ou c (qn c) s fullShare.left (outB m c) from rfl,
    show (dmaPay m c 5 s : sProp 𝕄) = Ou c (qz c) s fullShare (outB m c) from rfl,
    show (dmaPay m c 4 s : sProp 𝕄) = Ou c (qn c) s fullShare.right (outB m c) from rfl,
    show (dmaPay m c 7 s : sProp 𝕄) = Ou c (qd c) s fullShare (outB m c) from rfl, bigSep_8]
  iintro ⟨HA, -, ⟨a0, HP⟩, ⟨a1, HX⟩, ⟨a2, HL⟩, a3, ⟨a4, HR⟩, ⟨a5, Z⟩, ⟨a6, Y⟩, ⟨a7, D⟩⟩
  isplitl [a0 a1 a2 a3 a4 a5 a6 a7]
  · isplitl [a0]; · iexact a0
    isplitl [a1]; · iexact a1
    isplitl [a2]; · iexact a2
    isplitl [a3]; · iexact a3
    isplitl [a4]; · iexact a4
    isplitl [a5]; · iexact a5
    isplitl [a6]; · iexact a6
    iexact a7
  isplitl [HA HP]
  · iapply (Pc_join c s (partB m c)); isplitl [HP] <;> iassumption
  isplitl [HX]; · iexact HX
  isplitl [HL HR]
  · iapply (Ou_join c (qn c) s (outB m c)); isplitl [HL] <;> iassumption
  isplitl [Y]; · iexact Y
  isplitl [Z]; · iexact Z
  iexact D

/-- A cell past its round is closed at zero. -/
theorem close_d (c : Dev nD) (k s : ℕ) : iprop(records m K ∗ atPos ER (dcell c k s) 1 ∅ 0) ⊢ (|={Set.univ}=> semVal (dcell c k s) 0 : sProp 𝕄) := by
  iintro ⟨#HR, Hat⟩
  iapply (Rounds.cell_close ER (Rd m) (κ := K (kd c k s)) (Set.mem_univ _) (fun h => h) (R := 0 + 1) (duties_later m (dcell c k s)))
  isplitr; · iapply (inv_d m K c k s); iexact HR
  iexact Hat
theorem close_b (c : Dev nD) : iprop(records m K ∗ atPos ER (barCell c) 1 ∅ 0) ⊢ (|={Set.univ}=> semVal (barCell c) 0 : sProp 𝕄) := by
  iintro ⟨#HR, Hat⟩
  iapply (Rounds.cell_close ER (Rd m) (κ := K (c, .inl ())) (Set.mem_univ _) (fun h => h) (R := 0 + 1) (duties_later m (barCell c)))
  isplitr; · iapply (inv_b m K c); iexact HR
  iexact Hat

omit [FloatOps F] in
/-- A fact that can be copied goes to every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The last states of the eight chunks, put together: every cell at zero, the buffers whole, the output as it shall be. -/
theorem close_chunks (c : Dev nD) :
    iprop(records m K ∗ St m c 0 5 10 2 2 2 2 2 3 2 2 ∗ St m c 1 5 10 2 2 2 3 2 2 2 2 ∗ St m c 2 5 10 2 2 2 2 2 3 2 2 ∗ St m c 3 5 10 2 2 2 3 2 2 2 2 ∗ St m c 4 5 10 2 2 2 2 2 3 2 2 ∗ St m c 5 5 10 2 2 2 3 2 2 2 2 ∗ St m c 6 5 10 2 2 2 2 2 3 2 2 ∗ St m c 7 5 10 2 2 2 3 2 2 2 2)
      ⊢ (|={Set.univ}=> iprop((bigSep Finset.univ fun s : Fin 8 => bigSep Finset.univ fun k : Fin 8 => semVal (dcell c k.val s.val) 0)
          ∗ (pLoc c ↦{fullShare} partB m c) ∗ (rLoc c ↦{fullShare} rxB m c) ∗ (oLoc c ↦{fullShare} outB m c)) : sProp 𝕄) := by
  rw [p_pieces, r_pieces, o_pieces]
  have hE : iprop(St m c 0 5 10 2 2 2 2 2 3 2 2 ∗ St m c 1 5 10 2 2 2 3 2 2 2 2 ∗ St m c 2 5 10 2 2 2 2 2 3 2 2 ∗ St m c 3 5 10 2 2 2 3 2 2 2 2 ∗ St m c 4 5 10 2 2 2 2 2 3 2 2 ∗ St m c 5 5 10 2 2 2 3 2 2 2 2 ∗ St m c 6 5 10 2 2 2 2 2 3 2 2 ∗ St m c 7 5 10 2 2 2 3 2 2 2 2) ⊢ (bigSep Finset.univ fun s : Fin 8 => End m c s.val : sProp 𝕄) := by
    rw [bigSep_8]
    iintro ⟨H0, H1, H2, H3, H4, H5, H6, H7⟩
    isplitl [H0]; · iapply (fold_even m c 0 (by decide)); iexact H0
    isplitl [H1]; · iapply (fold_odd m c 1 (by decide)); iexact H1
    isplitl [H2]; · iapply (fold_even m c 2 (by decide)); iexact H2
    isplitl [H3]; · iapply (fold_odd m c 3 (by decide)); iexact H3
    isplitl [H4]; · iapply (fold_even m c 4 (by decide)); iexact H4
    isplitl [H5]; · iapply (fold_odd m c 5 (by decide)); iexact H5
    isplitl [H6]; · iapply (fold_even m c 6 (by decide)); iexact H6
    iapply (fold_odd m c 7 (by decide)); iexact H7
  iintro ⟨#HR, H⟩
  ihave HE := hE $$ H
  unfold End
  ihave HE := (Entails.of_eq (by rw [bigSep_sep', bigSep_sep', bigSep_sep'] : (bigSep Finset.univ fun s : Fin 8 => iprop((bigSep Finset.univ fun k : Fin 8 => atPos ER (dcell c k.val s.val) 1 ∅ 0) ∗ Pc c s.val (partB m c) ∗ Rx c s.val (rxB m c)
    ∗ Ou c (qn c) s.val fullShare (outB m c) ∗ Ou c (qy c) s.val fullShare (outB m c) ∗ Ou c (qz c) s.val fullShare (outB m c) ∗ Ou c (qd c) s.val fullShare (outB m c)) : sProp 𝕄)
    = iprop((bigSep Finset.univ fun s : Fin 8 => bigSep Finset.univ fun k : Fin 8 => atPos ER (dcell c k.val s.val) 1 ∅ 0) ∗ (bigSep Finset.univ fun s : Fin 8 => Pc c s.val (partB m c)) ∗ (bigSep Finset.univ fun s : Fin 8 => Rx c s.val (rxB m c))
    ∗ bigSep Finset.univ fun s : Fin 8 => iprop(Ou c (qn c) s.val fullShare (outB m c) ∗ Ou c (qy c) s.val fullShare (outB m c) ∗ Ou c (qz c) s.val fullShare (outB m c) ∗ Ou c (qd c) s.val fullShare (outB m c))))) $$ HE
  icases HE with ⟨Hat, HP, HX, HO⟩
  imod (show iprop(records m K ∗ bigSep Finset.univ fun s : Fin 8 => bigSep Finset.univ fun k : Fin 8 => atPos ER (dcell c k.val s.val) 1 ∅ 0)
      ⊢ (|={Set.univ}=> bigSep Finset.univ fun s : Fin 8 => bigSep Finset.univ fun k : Fin 8 => semVal (dcell c k.val s.val) 0 : sProp 𝕄) from
    (bigSep_with fun s _ => (bigSep_with fun k _ => close_d m K c k.val s.val).trans (bigSep_fupd _ _)).trans (bigSep_fupd _ _)) $$ [Hat] with Hz
  · isplitr; · iexact HR
    iexact Hat
  imodintro
  isplitl [Hz]; · iexact Hz
  isplitl [HP]; · iexact HP
  isplitl [HX]; · iexact HX
  iexact HO

end Cert.KernelIdeal.Mesh

end
-- ==== Proof.Deal.lean ====
/-
# The launch's ghost state: the cells, their duty tokens and the credits, dealt to the devices

Every cell is minted with the tokens of its duties. A token goes to the device that pays the duty: a barrier duty to the neighbour
that signals, a send cell's to its own device, a receive cell's to the device at the other end of the copy. The credits match what
every device owes at launch.
-/
module

public import proofs.«01_k».proof.Proof.Close

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens -/

omit [FloatOps F] in
/-- A family over a sum of index types: the two families side by side. -/
theorem over_sum {α β : Type} [Fintype α] [Fintype β] (Φ : α ⊕ β → sProp 𝕄) : bigSep Finset.univ Φ
    = iprop((bigSep Finset.univ fun a : α => Φ (.inl a)) ∗ bigSep Finset.univ fun b : β => Φ (.inr b)) := bigSep_univ_sum Φ

theorem kcell_injective : Function.Injective (kcell : Dev nD × CI → GSem nD τ sig) := by
  rintro ⟨c, k⟩ ⟨c', k'⟩ h
  have h1 : c = c' := congrArg (fun g : GSem nD τ sig => g.1.1) h
  subst h1
  have h2 : csem k = csem k' := congrArg Prod.snd h
  rcases k with ⟨⟩ | ⟨k, s⟩ <;> rcases k' with ⟨⟩ | ⟨k', s'⟩
  · rfl
  · cases h2
  · cases h2
  · have h3 : (dsem k.val s.val).val = (dsem k'.val s'.val).val := congrArg Fin.val (SemLoc.dma.inj h2)
    rw [dsem_val, dsem_val] at h3
    have hk : k = k' := Fin.ext (by omega)
    have hs : s = s' := Fin.ext (by omega)
    subst hk hs; rfl

def ringCells : Finset (GSem nD τ sig) := Finset.univ.map ⟨kcell, kcell_injective⟩

/-- The duties of a device's cells: three of the barrier cell, one of each DMA cell. -/
abbrev TI : Type := Fin 3 ⊕ (Fin 8 × Fin 8)
def tokOf (ct : Dev nD × TI) : GSem nD τ sig × ℕ × Fin 3 := match ct.2 with
  | .inl d => (barCell ct.1, 0, d)
  | .inr ks => (dcell ct.1 ks.1.val ks.2.val, 0, 0)
theorem tokOf_injective : Function.Injective tokOf := by
  rintro ⟨c, t⟩ ⟨c', t'⟩ h
  rcases t with d | ks <;> rcases t' with d' | ks'
  · have h1 : c = c' := congrArg (fun x : GSem nD τ sig × ℕ × Fin 3 => x.1.1.1) h
    have h2 : d = d' := congrArg (fun x : GSem nD τ sig × ℕ × Fin 3 => x.2.2) h
    subst h1 h2; rfl
  · have h2 : (barCell c).2 = (dcell c' ks'.1.val ks'.2.val).2 := congrArg (fun x : GSem nD τ sig × ℕ × Fin 3 => x.1.2) h
    cases h2
  · have h2 : (dcell c ks.1.val ks.2.val).2 = (barCell c').2 := congrArg (fun x : GSem nD τ sig × ℕ × Fin 3 => x.1.2) h
    cases h2
  · have h2 : kcell (c, .inr ks) = kcell (c', .inr ks') := congrArg (fun x : GSem nD τ sig × ℕ × Fin 3 => x.1) h
    have h3 := kcell_injective h2
    cases h3; rfl
def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

def tok (ct : Dev nD × TI) : sProp 𝕄 := dutyTok ER (tokOf ct).1 (tokOf ct).2.1 (tokOf ct).2.2

/-- The device whose duty of the name `t` device `c` pays. -/
def payee (c : Dev nD) : TI → Dev nD
  | .inl d => if d = 0 then xn c else if d = 1 then yn c else zn c
  | .inr ks => if ks.1.val % 2 = 0 then c else tgt c ks.1.val ks.2.val
theorem payee_even (c : Dev nD) (k s : Fin 8) (h : k.val % 2 = 0) : payee c (.inr (k, s)) = c := if_pos h
theorem payee_odd (c : Dev nD) (k s : Fin 8) (h : ¬ k.val % 2 = 0) : payee c (.inr (k, s)) = tgt c k.val s.val := if_neg h
theorem payee_payee (c : Dev nD) (t : TI) : payee (payee c t) t = c := by
  rcases t with d | ⟨k, s⟩
  · unfold payee; dsimp only
    split; · exact xn_xn c
    split; · exact yn_yn c
    exact zn_zn c
  · unfold payee; dsimp only
    split; · rfl
    unfold tgt
    split; · exact xn_xn c
    split; · exact yn_yn c
    split; · exact zn_zn c
    exact rl_rl c s.val
/-- Every token goes to the device that pays its duty. -/
def deal : Dev nD × TI ≃ Dev nD × TI where
  toFun ct := (payee ct.1 ct.2, ct.2)
  invFun ct := (payee ct.1 ct.2, ct.2)
  left_inv ct := Prod.ext (payee_payee ct.1 ct.2) rfl
  right_inv ct := Prod.ext (payee_payee ct.1 ct.2) rfl

omit [FloatOps F] in
theorem toks_dealt : (bigSep Finset.univ fun c : Dev nD => bigSep Finset.univ fun t : TI => (tok (c, t) : sProp 𝕄))
    = bigSep Finset.univ fun c : Dev nD => bigSep Finset.univ fun t : TI => tok (payee c t, t) := by
  rw [← bigSep_univ_prod (fun ct : Dev nD × TI => (tok ct : sProp 𝕄)), bigSep_univ_equiv deal, bigSep_univ_prod]
  rfl

/-- What the launch element deals device `c`. -/
def G (c : Dev nD) : sProp 𝕄 :=
  iprop((bigSep Finset.univ fun k : CI => roundState ER (Rd m) (kcell (c, k)) 0)
    ∗ (bigSep Finset.univ fun k : CI => iprop(atPos ER (kcell (c, k)) 0 ∅ 0 ∗ reached ER (kcell (c, k)) 0))
    ∗ bigSep Finset.univ fun t : TI => tok (c, t))

/-- What every device may know of all cells. -/
def known (K : Dev nD × CI → ℕ) : sProp 𝕄 :=
  iprop((bigSep Finset.univ fun ck => cellInv ER (Rd m) (K ck) (kcell ck)) ∗ (bigSep Finset.univ fun ck => reached ER (kcell ck) 0))
instance known_persistent (K : Dev nD × CI → ℕ) : BI.Persistent (known m K) := by unfold known; infer_instance

/-- What is device `c`'s alone: its positions, and the tokens of the duties it pays. -/
def own (c : Dev nD) : sProp 𝕄 :=
  iprop((bigSep Finset.univ fun k : CI => atPos ER (kcell (c, k)) 0 ∅ 0) ∗ bigSep Finset.univ fun t : TI => tok (payee c t, t))

/-- What the update over all devices makes of it. -/
def G' (c : Dev nD) : sProp 𝕄 := iprop(∃ K, known m K ∗ own c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CI => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun t : TI => tok (c, t) := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the one semaphore that outlives the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (kcell (c, k)) 0 : sProp 𝕄) := by
  rw [unscopedSems0_eq, over_sum]
  unfold Pipeline.ownSems0
  iintro ⟨HS, HB⟩
  isplitl [HB]
  · iapply (Entails.of_eq (bigSep_singleton (i := ()) (Φ := fun u : Unit => (semVal (kcell (c, .inl u)) 0 : sProp 𝕄))).symm)
    iexact HB
  · iexact HS

/-- Every cell's invariant, allocated from its counter at zero. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0))
          ∗ bigSep Finset.univ fun t : TI => tok (c, t)) := by
  unfold G
  iintro ⟨Hos, Hus, Hst, Hat, Htok⟩
  ihave Hv := (sems0_eq (F := F) c) $$ [Hos Hus]
  · isplitl [Hos] <;> iassumption
  imod (show iprop((bigSep Finset.univ fun k : CI => semVal (kcell (c, k)) 0) ∗ bigSep Finset.univ fun k : CI => roundState ER (Rd m) (kcell (c, k)) 0)
      ⊢ (|={Set.univ}=> bigSep Finset.univ fun k : CI => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem regroup :
    (bigSep Finset.univ fun c : Dev nD => iprop((bigSep Finset.univ fun k : CI => iprop(∃ κ : ℕ, cellInv ER (Rd m) κ (kcell (c, k))))
          ∗ (bigSep Finset.univ fun k : CI => iprop(atPos ER (kcell (c, k)) 0 ∅ 0 ∗ reached ER (kcell (c, k)) 0))
          ∗ bigSep Finset.univ fun t : TI => tok (c, t)) : sProp 𝕄)
      ⊢ bigSep Finset.univ (G' m) := by
  rw [bigSep_sep', bigSep_sep', ← bigSep_univ_prod (fun ck : Dev nD × CI => iprop(∃ κ : ℕ, cellInv ER (Rd m) κ (kcell ck))),
    bigSep_congr (s := Finset.univ) (fun (c : Dev nD) _ => bigSep_sep' Finset.univ (fun k : CI => (atPos ER (kcell (c, k)) 0 ∅ 0 : sProp 𝕄)) (fun k => reached ER (kcell (c, k)) 0)),
    bigSep_sep', ← bigSep_univ_prod (fun ck : Dev nD × CI => (reached ER (kcell ck) 0 : sProp 𝕄)), toks_dealt]
  iintro ⟨HI, ⟨Hat, #HR⟩, Htok⟩
  ihave HK := (BI.bigSep_exists_pi Finset.univ (fun (ck : Dev nD × CI) (κ : ℕ) => (cellInv ER (Rd m) κ (kcell ck) : sProp 𝕄))) $$ HI
  icases HK with ⟨%K, #HI⟩
  iapply (show iprop(known m K ∗ bigSep Finset.univ (fun c : Dev nD => (own c : sProp 𝕄))) ⊢ bigSep Finset.univ (G' m) from
    (sep_mono_left (BI.bigSep_of_persistent Finset.univ (known m K))).trans (by
      rw [← bigSep_sep']
      exact bigSep_mono fun c _ => show iprop(known m K ∗ own c) ⊢ G' m c from by
        unfold G'
        iintro H
        iexists K
        iexact H))
  isplitr
  · unfold known; isplitl; · iexact HI
    iexact HR
  · iapply (Entails.of_eq (show (bigSep Finset.univ (fun c : Dev nD => (own c : sProp 𝕄))) = _ from
      bigSep_sep' Finset.univ (fun c : Dev nD => bigSep Finset.univ fun k : CI => (atPos ER (kcell (c, k)) 0 ∅ 0 : sProp 𝕄)) fun c : Dev nD => bigSep Finset.univ fun t : TI => tok (payee c t, t)).symm)
    isplitl [Hat]; · iexact Hat
    iexact Htok

/-- The update over all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

omit [FloatOps F] in
theorem oR_sum (c : Dev nD) : oR c 8 = ∑ s : Fin 8, tR c s.val := by
  rw [Fin.sum_univ_eight]
  show (((((((0 + tR c 7) + tR c 6) + tR c 5) + tR c 4) + tR c 3) + tR c 2) + tR c 1) + tR c 0
    = tR c 0 + tR c 1 + tR c 2 + tR c 3 + tR c 4 + tR c 5 + tR c 6 + tR c 7
  rw [zero_add]
  ac_rfl
omit [FloatOps F] in
theorem oY_sum (c : Dev nD) : oY c 8 = oR c 8 + ((∑ s : Fin 8, tZ c s.val) + ∑ s : Fin 8, tY c s.val) := by
  rw [Fin.sum_univ_eight, Fin.sum_univ_eight]
  show ((((((((((((((((oR c 8 + tZ c 7) + tY c 7) + tZ c 6) + tY c 6) + tZ c 5) + tY c 5) + tZ c 4) + tY c 4) + tZ c 3) + tY c 3) + tZ c 2) + tY c 2) + tZ c 1) + tY c 1) + tZ c 0) + tY c 0)
    = oR c 8 + ((tZ c 0 + tZ c 1 + tZ c 2 + tZ c 3 + tZ c 4 + tZ c 5 + tZ c 6 + tZ c 7) + (tY c 0 + tY c 1 + tY c 2 + tY c 3 + tY c 4 + tY c 5 + tY c 6 + tY c 7))
  ac_rfl
omit [FloatOps F] in
theorem oX_sum (c : Dev nD) : oX c 8 = oY c 8 + ∑ s : Fin 8, tX c s.val := by
  rw [Fin.sum_univ_eight]
  show (((((((oY c 8 + tX c 7) + tX c 6) + tX c 5) + tX c 4) + tX c 3) + tX c 2) + tX c 1) + tX c 0
    = oY c 8 + (tX c 0 + tX c 1 + tX c 2 + tX c 3 + tX c 4 + tX c 5 + tX c 6 + tX c 7)
  ac_rfl

/-- The credit of a device's four receive cells of chunk `s`. -/
def creditOf (c : Dev nD) (s : ℕ) : sProp 𝕄 :=
  iprop(cred (tallyAt (dcell c 1 s) () N) ∗ cred (tallyAt (dcell c 3 s) () N) ∗ cred (tallyAt (dcell c 5 s) () N) ∗ cred (tallyAt (dcell c 7 s) () N))

omit [FloatOps F] in
theorem cred_three (g : GSem nD τ sig) : iprop(cred (tallyAt g () 1) ∗ cred (tallyAt g () 1) ∗ cred (tallyAt g () 1)) ⊢ (cred (tallyAt g () 3) : sProp 𝕄) := by
  rw [show (tallyAt g () 3 : CellTallies nD τ sig Unit) = tallyAt g () 1 + (tallyAt g () 1 + tallyAt g () 1) from by rw [tallyAt_add, tallyAt_add]]
  exact (sep_mono_right (cred_add _ _).2).trans (cred_add _ _).2

omit [FloatOps F] in
/-- What is owed at launch, as sums over the chunks. -/
theorem O₀_sums : (O₀ : Dev nD → CellTallies nD τ sig Unit) = fun c =>
    ((((∑ s : Fin 8, tR c s.val) + ((∑ s : Fin 8, tZ c s.val) + ∑ s : Fin 8, tY c s.val)) + ∑ s : Fin 8, tX c s.val)
      + tallyAt (barCell (zn c)) () 1) + tallyAt (barCell (yn c)) () 1 + tallyAt (barCell (xn c)) () 1 := by
  funext c
  unfold O₀
  rw [oX_sum, oY_sum, oR_sum]

omit [FloatOps F] in
/-- What all devices owe a device's cells is its credit. -/
theorem creds (c : Dev nD) :
    (Pipeline.launchCred O₀ c : sProp 𝕄) ⊢ iprop(cred (tallyAt (barCell c) () 3) ∗ bigSep Finset.univ fun s : Fin 8 => creditOf c s.val) := by
  rw [O₀_sums]
  simp only [Pipeline.launchCred_add, Pipeline.launchCred_sum]
  iintro ⟨⟨⟨⟨⟨HR, HZ, HY⟩, HX⟩, H3⟩, H2⟩, H1⟩
  isplitl [H1 H2 H3]
  · iapply (cred_three (F := F) (barCell c))
    isplitl [H1]; · iapply (Pipeline.launchCred_tallyAt (.reg barS) xn xn xn_xn xn_xn () 1 c); iexact H1
    isplitl [H2]; · iapply (Pipeline.launchCred_tallyAt (.reg barS) yn yn yn_yn yn_yn () 1 c); iexact H2
    iapply (Pipeline.launchCred_tallyAt (.reg barS) zn zn zn_zn zn_zn () 1 c); iexact H3
  · unfold creditOf
    simp only [bigSep_sep']
    isplitl [HX]; · iapply (show (bigSep Finset.univ fun s : Fin 8 => (Pipeline.launchCred (fun d => tX d s.val) c : sProp 𝕄)) ⊢ bigSep Finset.univ fun s : Fin 8 => cred (tallyAt (dcell c 1 s.val) () N) from
        bigSep_mono fun s _ => Pipeline.launchCred_tallyAt (.dma (dsem 1 s.val)) xn xn xn_xn xn_xn () N c); iexact HX
    isplitl [HY]; · iapply (show (bigSep Finset.univ fun s : Fin 8 => (Pipeline.launchCred (fun d => tY d s.val) c : sProp 𝕄)) ⊢ bigSep Finset.univ fun s : Fin 8 => cred (tallyAt (dcell c 3 s.val) () N) from
        bigSep_mono fun s _ => Pipeline.launchCred_tallyAt (.dma (dsem 3 s.val)) yn yn yn_yn yn_yn () N c); iexact HY
    isplitl [HZ]; · iapply (show (bigSep Finset.univ fun s : Fin 8 => (Pipeline.launchCred (fun d => tZ d s.val) c : sProp 𝕄)) ⊢ bigSep Finset.univ fun s : Fin 8 => cred (tallyAt (dcell c 5 s.val) () N) from
        bigSep_mono fun s _ => Pipeline.launchCred_tallyAt (.dma (dsem 5 s.val)) zn zn zn_zn zn_zn () N c); iexact HZ
    iapply (show (bigSep Finset.univ fun s : Fin 8 => (Pipeline.launchCred (fun d => tR d s.val) c : sProp 𝕄)) ⊢ bigSep Finset.univ fun s : Fin 8 => cred (tallyAt (dcell c 7 s.val) () N) from
        bigSep_mono fun s _ => Pipeline.launchCred_tallyAt (.dma (dsem 7 s.val)) (fun d => rl d s.val) (fun d => rl d s.val) (fun d => rl_rl d s.val) (fun d => rl_rl d s.val) () N c); iexact HR

/-! ## What the body starts from -/

omit [FloatOps F] in
/-- A family over kinds and chunks, chunk by chunk. -/
theorem by_chunk (Φ : Fin 8 × Fin 8 → sProp 𝕄) :
    bigSep Finset.univ Φ = bigSep Finset.univ fun s : Fin 8 => bigSep Finset.univ fun k : Fin 8 => Φ (k, s) := by
  rw [bigSep_univ_equiv (Equiv.prodComm (Fin 8) (Fin 8)), bigSep_univ_prod]
  rfl

omit [FloatOps F] in
/-- A device's own ghost state: that of the barrier, and that of every chunk. -/
theorem own_split (c : Dev nD) : (own c : sProp 𝕄) ⊢ iprop(atPos ER (barCell c) 0 ∅ 0 ∗ dutyTok ER (barCell (xn c)) 0 0
    ∗ dutyTok ER (barCell (yn c)) 0 1 ∗ dutyTok ER (barCell (zn c)) 0 2
    ∗ bigSep Finset.univ fun s : Fin 8 => iprop((bigSep Finset.univ fun k : Fin 8 => atPos ER (dcell c k.val s.val) 0 ∅ 0)
      ∗ bigSep Finset.univ fun k : Fin 8 => dutyTok ER (dcell (payee c (.inr (k, s))) k.val s.val) 0 0)) := by
  unfold own
  rw [over_sum, over_sum, by_chunk, by_chunk, bigSep_sep', bigSep_univ_eq_bigSepL [0, 1, 2] (by decide) (by decide) (fun d : Fin 3 => (tok (payee c (.inl d), .inl d) : sProp 𝕄))]
  iintro ⟨⟨HB, HA⟩, HT, HD⟩
  isplitl [HB]
  · iapply (Entails.of_eq (bigSep_singleton (i := ()) (Φ := fun u : Unit => (atPos ER (kcell (c, .inl u)) 0 ∅ 0 : sProp 𝕄))))
    iexact HB
  icases (show bigSepL [0, 1, 2] (fun d : Fin 3 => (tok (payee c (.inl d), .inl d) : sProp 𝕄)) ⊢
    iprop(dutyTok ER (barCell (xn c)) 0 0 ∗ dutyTok ER (barCell (yn c)) 0 1 ∗ dutyTok ER (barCell (zn c)) 0 2) from Entails.of_eq rfl) $$ HT with ⟨H0, H1, H2⟩
  isplitl [H0]; · iexact H0
  isplitl [H1]; · iexact H1
  isplitl [H2]; · iexact H2
  isplitl [HA]; · iexact HA
  iexact HD

/-- A chunk's ghost state and its part of the device's own buffers make what the device holds of it, and what it hands to its
    neighbours along the second and third axes. -/
theorem give_chunk (c : Dev nD) (s : Fin 8) (fp : (cc0_scratch1 : Ref sig .tc).ty.Contents (Elt F)) (fo : (cc0_stg2_0 : Ref sig .tc).ty.Contents (Elt F)) :
    iprop(((bigSep Finset.univ fun k : Fin 8 => atPos ER (dcell c k.val s.val) 0 ∅ 0)
        ∗ bigSep Finset.univ fun k : Fin 8 => dutyTok ER (dcell (payee c (.inr (k, s))) k.val s.val) 0 0)
      ∗ creditOf c s.val ∗ Pc c s.val fp
      ∗ (Ou c (qn c) s.val fullShare fo ∗ Ou c (qy c) s.val fullShare fo ∗ Ou c (qz c) s.val fullShare fo ∗ Ou c (qd c) s.val fullShare fo))
    ⊢ (iprop(Pre c s.val ∗ (landY (yn c) s.val ∗ par s.val (landR (yn c) s.val) iprop(emp))
        ∗ (landZ (zn c) s.val ∗ par s.val iprop(emp) (landR (zn c) s.val))) : sProp 𝕄) := by
  have hp : Pc c s.val fp ⊢ (PcE c s.val : sProp 𝕄) := by
    unfold PcE; iintro H; iexists fp; iexact H
  have ho (q : ℕ) : Ou c q s.val fullShare fo ⊢ (OuE c q s.val : sProp 𝕄) := by
    unfold OuE; iintro H; iexists fo; iexact H
  have hy : (landY (yn c) s.val : sProp 𝕄) = OuE c (qy c) s.val := by
    unfold landY; rw [yn_yn]; rfl
  have hz : (landZ (zn c) s.val : sProp 𝕄) = OuE c (qz c) s.val := by
    unfold landZ; rw [zn_zn]; rfl
  have hd : (OuE c (qd c) s.val : sProp 𝕄) ⊢ iprop(par s.val (landR (yn c) s.val) iprop(emp) ∗ par s.val iprop(emp) (landR (zn c) s.val)) := by
    unfold par landR rl rq
    by_cases h : s.val % 2 = 0
    · simp only [if_pos h, yn_yn, qz_yn]
      iintro H
      isplitl
      · iexact H
      · iempintro
    · simp only [if_neg h, zn_zn, qy_zn]
      iintro H
      isplitr
      · iempintro
      · iexact H
  unfold Pre Rv' Sd' creditOf
  rw [bigSep_8, bigSep_8, hy, hz, payee_even c 0 s (by decide), payee_odd c 1 s (by decide), payee_even c 2 s (by decide), payee_odd c 3 s (by decide),
    payee_even c 4 s (by decide), payee_odd c 5 s (by decide), payee_even c 6 s (by decide), payee_odd c 7 s (by decide)]
  iintro ⟨⟨⟨A0, A1, A2, A3, A4, A5, A6, A7⟩, T0, T1, T2, T3, T4, T5, T6, T7⟩, ⟨C1, C3, C5, C7⟩, HP, On, Oy, Oz, Od⟩
  ihave HP := hp $$ HP
  ihave On := (ho _) $$ On
  ihave Oy := (ho _) $$ Oy
  ihave Oz := (ho _) $$ Oz
  ihave Od := (ho _) $$ Od
  ihave Od := hd $$ Od
  icases Od with ⟨D1, D2⟩
  isplitl [HP On A0 A1 A2 A3 A4 A5 A6 A7 T0 T1 T2 T3 T4 T5 T6 T7 C1 C3 C5 C7]
  · isplitl [HP]; · iexact HP
    isplitl [On]; · iexact On
    isplitl [A0 T0]; · isplitl [A0]; · iexact A0
                       iexact T0
    isplitl [A1 T1 C1]; · isplitl [A1]; · iexact A1
                          isplitl [C1]; · iexact C1
                          iexact T1
    isplitl [A2 T2]; · isplitl [A2]; · iexact A2
                       iexact T2
    isplitl [A3 T3 C3]; · isplitl [A3]; · iexact A3
                          isplitl [C3]; · iexact C3
                          iexact T3
    isplitl [A4 T4]; · isplitl [A4]; · iexact A4
                       iexact T4
    isplitl [A5 T5 C5]; · isplitl [A5]; · iexact A5
                          isplitl [C5]; · iexact C5
                          iexact T5
    isplitl [A6 T6]; · isplitl [A6]; · iexact A6
                       iexact T6
    isplitl [A7]; · iexact A7
    isplitl [C7]; · iexact C7
    iexact T7
  isplitl [Oy D1]
  · isplitl [Oy]; · iexact Oy
    iexact D1
  isplitl [Oz]; · iexact Oz
  iexact D2

/-- A device's ghost state, credit and buffers make what its body starts from. -/
theorem prepare (c : Dev nD) (fp : (cc0_scratch1 : Ref sig .tc).ty.Contents (Elt F)) (fr : (cc0_scratch2 : Ref sig .tc).ty.Contents (Elt F))
    (fo : (cc0_stg2_0 : Ref sig .tc).ty.Contents (Elt F)) :
    iprop(own c ∗ (bigSep Finset.univ fun s : Fin 8 => creditOf c s.val) ∗ (pLoc c ↦{fullShare} fp) ∗ (rLoc c ↦{fullShare} fr) ∗ (oLoc c ↦{fullShare} fo))
    ⊢ (iprop((dutyTok ER (barCell (xn c)) 0 0 ∗ barPay (xn c) 0) ∗ (dutyTok ER (barCell (yn c)) 0 1 ∗ barPay (yn c) 1)
        ∗ (dutyTok ER (barCell (zn c)) 0 2 ∗ barPay (zn c) 2) ∗ atPos ER (barCell c) 0 ∅ 0 ∗ bigSep Finset.univ fun s : Fin 8 => Pre c s.val) : sProp 𝕄) := by
  have hx0 (s : ℕ) : Rx c s fr ⊢ (RxE c s : sProp 𝕄) := by
    unfold RxE; iintro H; iexists fr; iexact H
  have hx : (bigSep Finset.univ fun s : Fin 8 => Rx c s.val fr) ⊢ (barPay (xn c) 0 : sProp 𝕄) := by
    show _ ⊢ bigSep Finset.univ fun s : Fin 8 => RxE (xn (xn c)) s.val
    rw [xn_xn]
    exact bigSep_mono fun s _ => hx0 s.val
  have hy : (barPay (yn c) 1 : sProp 𝕄) = bigSep Finset.univ fun s : Fin 8 => iprop(landY (yn c) s.val ∗ par s.val (landR (yn c) s.val) iprop(emp)) := rfl
  have hz : (barPay (zn c) 2 : sProp 𝕄) = bigSep Finset.univ fun s : Fin 8 => iprop(landZ (zn c) s.val ∗ par s.val iprop(emp) (landR (zn c) s.val)) := rfl
  rw [p_pieces, r_pieces, o_pieces]
  iintro ⟨HG, HC, HP, HX, HO⟩
  ihave HG := (own_split (F := F) c) $$ HG
  icases HG with ⟨HA, H0, H1, H2, HG⟩
  ihave HX := hx $$ HX
  ihave H := (show iprop((bigSep Finset.univ fun s : Fin 8 => iprop((bigSep Finset.univ fun k : Fin 8 => atPos ER (dcell c k.val s.val) 0 ∅ 0)
          ∗ bigSep Finset.univ fun k : Fin 8 => dutyTok ER (dcell (payee c (.inr (k, s))) k.val s.val) 0 0))
        ∗ (bigSep Finset.univ fun s : Fin 8 => creditOf c s.val) ∗ (bigSep Finset.univ fun s : Fin 8 => Pc c s.val fp)
        ∗ (bigSep Finset.univ fun s : Fin 8 => iprop(Ou c (qn c) s.val fullShare fo ∗ Ou c (qy c) s.val fullShare fo ∗ Ou c (qz c) s.val fullShare fo ∗ Ou c (qd c) s.val fullShare fo)))
      ⊢ (iprop((bigSep Finset.univ fun s : Fin 8 => Pre c s.val) ∗ barPay (yn c) 1 ∗ barPay (zn c) 2) : sProp 𝕄) from by
        rw [hy, hz, ← bigSep_sep', ← bigSep_sep', ← bigSep_sep', ← bigSep_sep', ← bigSep_sep']
        exact bigSep_mono fun s _ => give_chunk c s fp fo) $$ [HG HC HP HO]
  · isplitl [HG]; · iexact HG
    isplitl [HC]; · iexact HC
    isplitl [HP]; · iexact HP
    iexact HO
  icases H with ⟨HPre, HY, HZ⟩
  isplitl [H0 HX]
  · isplitl [H0]; · iexact H0
    iexact HX
  isplitl [H1 HY]
  · isplitl [H1]; · iexact H1
    iexact HY
  isplitl [H2 HZ]
  · isplitl [H2]; · iexact H2
    iexact HZ
  isplitl [HA]; · iexact HA
  iexact HPre

end Cert.KernelIdeal.Mesh

end
-- ==== Proof.Launch.lean ====
/-
# The launch: all eight devices from memory to memory

The program is one launch of the kernel, whose single grid point stages the two inputs, runs the body and writes the output back.
-/
module

public import proofs.«01_k».proof.Proof.Deal
public import Idealize.ShloMosaic.Lib.Pipeline.CollectiveSegs
public import Idealize.ShloMosaic.Lib.Pipeline.Value

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The one grid point -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What device `c`'s body starts from besides the buffers. -/
def start (c : Dev nD) : sProp 𝕄 :=
  iprop((∃ K, records m K ∗ own c) ∗ cred (tallyAt (barCell c) () 3) ∗ bigSep Finset.univ fun s : Fin 8 => creditOf c s.val)

def Φ₀ (c : Dev nD) : sProp 𝕄 :=
  iprop(start m c ∗ (∃ f : Buf (Elt F) (tLoc c), tLoc c ↦{fullShare} f) ∗ (∃ f : Buf (Elt F) (pLoc c), pLoc c ↦{fullShare} f) ∗ (∃ f : Buf (Elt F) (rLoc c), rLoc c ↦{fullShare} f))
/-- After the point: the scratch buffers and every cell at zero. -/
def Φ₁ (c : Dev nD) : sProp 𝕄 :=
  iprop(((∃ f : Buf (Elt F) (tLoc c), tLoc c ↦{fullShare} f) ∗ (∃ f : Buf (Elt F) (pLoc c), pLoc c ↦{fullShare} f) ∗ (∃ f : Buf (Elt F) (rLoc c), rLoc c ↦{fullShare} f))
    ∗ (bigSep Finset.univ fun s : Fin 8 => bigSep Finset.univ fun k : Fin 8 => semVal (dcell c k.val s.val) 0) ∗ semVal (barCell c) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => ds m c
    | ⟨2, _⟩ => outB m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owned_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def before (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def after (c : Dev nD) : sProp 𝕄 :=
  iprop(Φ₁ c ∗ (dats m ρ 0 c).owesAt () t₀.succ ∗ stg c cc0_stg0_0 (xs m c) ∗ stg c cc0_stg1_0 (ds m c) ∗ stg c cc0_stg2_0 (outB m c))

/-- The body on device `c`, from what is staged to the output and every cell closed. -/
theorem body_whole (c : Dev nD) : before m ρ c
    ⊢ Run c (cc0_body xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10) (fun _ => after m ρ c) := by
  unfold before Φ₀ start Dat.owesAt Pipeline.owesWithin
  iintro ⟨⟨⟨⟨%K, #HR, Hown⟩, Hbar, Hcr⟩, HT, ⟨%fp, HP⟩, ⟨%fr, HX⟩⟩, ⟨%W, %hW, HO⟩, ⟨%d0, %g0, %hg0, H0⟩, ⟨%d1, %g1, %hg1, H1⟩, ⟨%d2, %g2, %hg2, H2⟩⟩
  have hx : g0 = xs m c := by rw [hg0]; unfold Dat.before; rw [if_pos (fetch0_0 t₀)]; rfl
  have hd : g1 = ds m c := by rw [hg1]; unfold Dat.before; rw [if_pos (fetch0_1 t₀)]; rfl
  subst hx hd
  rw [show (dats m ρ 0 c).owed t₀.castSucc = O₀ c from rfl]
  ihave H := (prepare c fp fr g2) $$ [Hown Hcr HP HX H2]
  · isplitl [Hown]; · iexact Hown
    isplitl [Hcr]; · iexact Hcr
    isplitl [HP]; · iexact HP
    isplitl [HX]; · iexact HX
    iexact H2
  icases H with ⟨B1, B2, B3, Hat, Hpre⟩
  iapply (wp_fupd frame (wpE (defs₀ (F := F)) 𝒱₀ (c : Thread nD τ) none) Set.univ
    (cc0_body xM (Memref.isWhole_whole _) dM (Memref.isWhole_whole _) oM (Memref.isWhole_whole _) tM (Memref.isWhole_whole _) pM (Memref.isWhole_whole _) rM (Memref.isWhole_whole _) cc0_scratch3 cc0_scratch4 cc0_scratch5 cc0_scratch6 cc0_scratch7 cc0_scratch8 cc0_scratch9 cc0_scratch10) (fun _ => after m ρ c))
  iapply (body_run m K c (Q := fun _ => iprop(|={Set.univ}=> after m ρ c))) $$ [HO B1 B2 B3 Hat Hbar H0 H1 HT Hpre]
  · isplitr; · iexact HR
    isplitl [HO]; · unfold Ow; iexists W; iexact HO
    isplitl [B1]; · iexact B1
    isplitl [B2]; · iexact B2
    isplitl [B3]; · iexact B3
    isplitl [Hat]; · iexact Hat
    isplitl [Hbar]; · iexact Hbar
    isplitl [H0]; · iexact H0
    isplitl [H1]; · iexact H1
    isplitl [HT]; · iexact HT
    iexact Hpre
  unfold Ow In
  iintro ⟨⟨%W', HO⟩, Hat, H0, ⟨H1, HT⟩, S0, S1, S2, S3, S4, S5, S6, S7⟩
  imod (close_b m K c) $$ [Hat] with Hb
  · isplitr; · iexact HR
    iexact Hat
  imod (close_chunks m K c) $$ [S0 S1 S2 S3 S4 S5 S6 S7] with ⟨Hz, HP, HX, H2⟩
  · isplitr; · iexact HR
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  imodintro
  unfold after Φ₁ Dat.owesAt Pipeline.owesWithin
  rw [show (dats m ρ 0 c).owed t₀.succ = 0 from rfl]
  isplitl [HT HP HX Hz Hb]
  · isplitl [HT HP HX]
    · isplitl [HT]; · iexists _; iexact HT
      isplitl [HP]; · iexists _; iexact HP
      iexists _; iexact HX
    isplitl [Hz]; · iexact Hz
    iexact Hb
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 4000 in
/-- The library's body obligation on device `c`. -/
theorem body_obligation (c : Dev nD) : BodyObligation (dats (F := F) m ρ 0 c) (defs₀ (F := F)) 𝒱₀ () Set.univ := fun t => by
  rw [fin_N t]
  rw [show (bigSep Finset.univ : (Fin cfg0.W → sProp 𝕄) → sProp 𝕄) = fun Φ => iprop(Φ (0 : Fin 3) ∗ Φ (1 : Fin 3) ∗ Φ (2 : Fin 3)) from funext fun Φ => bigSep_W0 Φ]
  dsimp only
  simp only [owned_whole]
  exact body_whole m ρ c

/-! ## The theorem's side conditions -/

theorem ownSemFacts : Pipeline.OwnSemFacts cfg0.spec osem := by decide +kernel

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold G' known
  iintro ⟨-, Hlev, Hcr, -, ⟨%K, ⟨HI, Hr⟩, Hown⟩⟩
  ihave Hc := (creds (F := F) c) $$ Hcr
  icases Hc with ⟨H1, HN⟩
  imodintro
  unfold start records
  isplitl
  · isplitl [HI Hr Hlev Hown]
    · iexists K
      isplitl [HI Hr Hlev]
      · isplitl [HI]; · iexact HI
        isplitl [Hr]; · iexact Hr
        iexact Hlev
      iexact Hown
    isplitl [H1]; · iexact H1
    iexact HN
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ Pipeline.ownSems0
  rw [by_chunk]
  iintro ⟨Hr, Hz, Hb⟩
  isplitl [Hb]; · iexact Hb
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_above c _ 0 (by fin_cases w <;> fin_cases s <;> exact Nat.le_of_eq rfl) _ (by
      rcases t with ⟨_ | _, ht⟩
      · exact above_O₀ c
      · exact Above.zero 0)

/-! ## The run -/

/-- A windowed array of device `c` after the launch. -/
def final (c : Dev nD) (w : Fin cfg0.W) : Buf (Elt F) ((cfg0.win w).arr.view.loc (c : Thread nD τ)) := (dats m ρ 0 c).arrAt w cfg0.N

set_option maxRecDepth 8000 in
/-- From any memory with every counter at zero, every fair execution of the program on the eight devices ends, with every device's
    arrays as the launch leaves them and every counter at zero. -/
theorem run_arrays : θ_run defs (onTc (τ := τ) (main (F := F))) (s₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelIdeal.Mesh

end
-- ==== Proof.Final.lean ====
/-
# What the launch leaves in the arrays

The inputs are unchanged and the result array of device `c` is the staged output of its body.
-/
module

public import proofs.«01_k».proof.Proof.Launch

@[expose] public section

noncomputable section

namespace Cert.KernelIdeal.Mesh

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The staged inputs are the device's whole arrays. -/
theorem xs_eq (c : Dev nD) : xs m c = m ((c : Thread nD τ).loc main_arg0) := by
  funext j
  refine congrArg (m ((c : Thread nD τ).loc main_arg0)) (funext fun a => Fin.ext ?_)
  show 0 * _ + 1 * (j a).val = (j a).val
  rw [Nat.zero_mul, Nat.zero_add, Nat.one_mul]
theorem ds_eq (c : Dev nD) : ds m c = m ((c : Thread nD τ).loc main_arg1) := by
  funext j
  refine congrArg (m ((c : Thread nD τ).loc main_arg1)) (funext fun a => Fin.ext ?_)
  show 0 * _ + 1 * (j a).val = (j a).val
  rw [Nat.zero_mul, Nat.zero_add, Nat.one_mul]

theorem final_arg0 (c : Dev nD) : final m ρ c (0 : Fin 3) = m ((c : Thread nD τ).loc main_arg0) :=
  (dats (F := F) m ρ 0 c).arrAt_in (0 : Fin 3) rfl _
theorem final_arg1 (c : Dev nD) : final m ρ c (1 : Fin 3) = m ((c : Thread nD τ).loc main_arg1) :=
  (dats (F := F) m ρ 0 c).arrAt_in (1 : Fin 3) rfl _

theorem flushed_eq (c : Dev nD) (t : Fin cfg0.N) :
    (dats m ρ 0 c).flushed (2 : Fin 3) t = ((cfg0.win (2 : Fin 3)).blk t).view.read (Elt F) (outB m c) := by
  rw [fin_N t]
  have ha : (dats m ρ 0 c).after (2 : Fin 3) t₀ = outB m c := rfl
  unfold Pipeline.Dat.flushed
  rw [ha]
  funext j
  refine congrArg (outB m c) (funext fun a => Fin.ext ?_)
  show (j a).val = 0 * _ + 1 * (j a).val
  rw [Nat.zero_mul, Nat.zero_add, Nat.one_mul]

/-- The one block written back is the whole result array. -/
theorem flushed_all (i : S512x4096.Idx) : ∃ t : Fin cfg0.N, (cfg0.win (2 : Fin 3)).flush t = true ∧ i ∈ ((cfg0.win (2 : Fin 3)).blk t).view.set := by
  refine ⟨t₀, flush0_2 _, Finset.mem_map.mpr ⟨i, Finset.mem_univ _, ?_⟩⟩
  refine funext fun a => Fin.ext ?_
  show 0 * _ + 1 * (i a).val = (i a).val
  rw [Nat.zero_mul, Nat.zero_add, Nat.one_mul]

theorem final_v1 (c : Dev nD) : final m ρ c (2 : Fin 3) = outB m c :=
  (dats m ρ 0 c).arrAt_eq_of_cover (2 : Fin 3) (outB m c) (fun t _ => flushed_eq m ρ c t) flushed_all

/-- From any memory with every counter at zero, every fair execution of the program on the eight devices ends: the inputs are
    unchanged, every device's result is `outB`, and every counter is back at zero. -/
theorem run_main : θ_run defs (onTc (τ := τ) (main (F := F))) ⟨m, fun _ => 0, ρ⟩ (fun r =>
    (∀ c : Dev nD, r.2.mem ((c : Thread nD τ).loc main_v1) = outB m c
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  (θ_run defs _ _).mono (fun r h => ⟨fun c => ⟨(h.1 c (2 : Fin 3)).trans (final_v1 m ρ c),
    (h.1 c (0 : Fin 3)).trans (final_arg0 m ρ c), (h.1 c (1 : Fin 3)).trans (final_arg1 m ρ c)⟩, h.2⟩) (run_arrays m ρ)

end Cert.KernelIdeal.Mesh

end
-- ==== Proof.Equation.lean ====
/-
# The result is the reference's

Over the extended reals a chunk of a partial product is a sum over the 1024 rows of the device. The sum of the partial products of
a device and of its neighbour along the first mesh axis is then the sum over all 2048 rows, which is the reference's entry.
-/
module

public import proofs.«01_k».proof.Proof.Final
public import proofs.«01_k».proof.Proof.Gen.ReferenceIdeal.Run
public import Idealize.ShloMosaic.Lib.MatmulPlain
public import Idealize.ShloMosaic.Lib.StackMember
public import Idealize.ShloMosaic.Lib.Pointwise
public import Idealize.ShloMosaic.Lib.Layout

@[expose] public section

noncomputable section

namespace Cert.KernelIdeal.Mesh

open Cert.KernelIdeal Cert.KernelIdeal.Gen
open Idealize.ShloMosaic
open Idealize.ShloMosaic.TcCoe

variable (m : (ℓ : Loc nD τ sig) → Buf (Elt Ideal) ℓ)

/-- The inputs of device `c`, and its partial product, as arrays of extended reals. -/
def xa (c : Dev nD) : FVec Ideal S1024x1024 .f32 := xs m c
def ya (c : Dev nD) : FVec Ideal S1024x4096 .f32 := ds m c
def pa (c : Dev nD) : FVec Ideal S1024x1024 .f32 := partB m c
/-- The result of device `c`. -/
def oa (c : Dev nD) : FVec Ideal S512x4096 .f32 := outB m c

/-- The two ways to name an index agree. -/
theorem ix2_of {n0 n1 : ℕ} [NeZero n0] [NeZero n1] {a b : ℕ} (ha : a < n0) (hb : b < n1) :
    ix n0 n1 a b = ValueIdx.ix2 ⟨a, ha⟩ ⟨b, hb⟩ :=
  ix_eq _ rfl rfl

/-- The transposed input. -/
theorem pay1_at (v : Vec Ideal S1024x1024 .f32) (r k : Fin 1024) : k0_pay1 v (ValueIdx.ix2 r k) = v (ValueIdx.ix2 k r) := by
  unfold k0_pay1
  simp only [shapeCast_self]
  refine transpose_apply _ _ _ _ _ fun b => ?_
  match b with
  | ⟨0, _⟩ => rfl
  | ⟨1, _⟩ => rfl

/-- A chunk of a product. -/
theorem pay2_at (a : FVec Ideal S1024x1024 .f32) (b : FVec Ideal S1024x128 .f32) (r : Fin 1024) (t : Fin 128) :
    k0_pay2 (F := Ideal) a b (ValueIdx.ix2 r t) = ∑ k : Fin 1024, a (ValueIdx.ix2 r k) * b (ValueIdx.ix2 k t) := by
  unfold k0_pay2
  simp only [shapeCast_self]
  refine (Ideal.matmul_plain_apply none a b (constant S1024x128 .f32 0x00000000#32) r t).trans ?_
  show Ideal.ofBits .f32 0x00000000#32 + _ = _
  rw [Ideal.ofBits_zero_f32, zero_add]

/-- The partial product of device `c` at row `r` and column `t` of its slot. -/
theorem part_at (c : Dev nD) {r t : ℕ} (hr : r < 1024) (ht : t < 1024) :
    pa m c (ix 1024 1024 r t)
      = ∑ k : Fin 1024, xa m c (ix 1024 1024 k.val r) * ya m c (ix 1024 4096 k.val (1024 * qn c + t)) := by
  have hm : t % 128 < 128 := Nat.mod_lt t (by decide)
  have h0 : pa m c (ix 1024 1024 r t) = k0_pay2 (F := Ideal) (xt m c) (dyc m c (qn c) (t / 128)) (ValueIdx.ix2 ⟨r, hr⟩ ⟨t % 128, hm⟩) := by
    unfold pa partB prodc
    rw [ix_0 hr, ix_1 ht, ix2_of hr hm]
  rw [h0]
  refine (pay2_at _ _ _ _).trans (Finset.sum_congr rfl fun k _ => ?_)
  have h1 : xt m c (ValueIdx.ix2 ⟨r, hr⟩ k) = xa m c (ix 1024 1024 k.val r) := by
    unfold xt
    rw [pay1_at, ix2_of k.isLt hr]
    rfl
  have h2 : dyc m c (qn c) (t / 128) (ValueIdx.ix2 k ⟨t % 128, hm⟩) = ya m c (ix 1024 4096 k.val (1024 * qn c + t)) := by
    show ds m c (ix 1024 4096 k.val (1024 * qn c + 128 * (t / 128) + t % 128)) = _
    rw [Nat.add_assoc, Nat.div_add_mod]
    rfl
  exact congrArg₂ (fun a b : Ideal .f32 => a * b) h1 h2

theorem at4_xb (c : Dev nD) (q : Fin 4) : xb (at4 (xb c) q.val) = xb c := by revert c q; decide
theorem at4_qn (c : Dev nD) (q : Fin 4) : qn (at4 (xb c) q.val) = q.val := by revert c q; decide

/-- The result of device `c` at row `r` and column `j`: the sum of two partial products. -/
theorem out_at (c : Dev nD) {r j : ℕ} (hr : r < 512) (hj : j < 4096) :
    oa m c (ix 512 4096 r j)
      = pa m (at4 (xb c) (j / 1024)) (ix 1024 1024 (512 * xb c + r) (j % 1024))
        + pa m (xn (at4 (xb c) (j / 1024))) (ix 1024 1024 (512 * xb c + r) (j % 1024)) := by
  have hx : xb (at4 (xb c) (j / 1024)) = xb c := at4_xb c ⟨j / 1024, by omega⟩
  have hm : j % 128 < 128 := Nat.mod_lt j (by decide)
  have hs : 128 * (j % 1024 / 128) + j % 128 = j % 1024 := by omega
  have hb : xb c < 2 := xb_lt c
  unfold oa outB sumc
  rw [ix_0 hr, ix_1 hj]
  show ownc m _ _ _ + rxc m _ _ _ = _
  unfold ownc rxc rxB pa
  rw [ix_0 hr, ix_1 hm, hs, hx, ix_0 hr, ix_1 (Nat.mod_lt j (by decide))]

/-- The mesh has the axis that the rows are cut along. -/
theorem axes_live : ∀ b : Fin 2, ∀ i ∈ (![[0], []] : Fin 2 → List ℕ) b, 0 < ([2, 2, 2] : List ℕ).getD i 0 := by decide

/-- The whole arrays are two blocks of rows. -/
theorem tiles_x : Layout.TilesN ⟨2, ![1024, 1024]⟩ ⟨2, ![2048, 1024]⟩ fun b => Layout.cutSize [2, 2, 2] ((![[0], []] : Fin 2 → List ℕ) b) := by decide
theorem tiles_y : Layout.TilesN ⟨2, ![1024, 4096]⟩ ⟨2, ![2048, 4096]⟩ fun b => Layout.cutSize [2, 2, 2] ((![[0], []] : Fin 2 → List ℕ) b) := by decide
theorem tiles_o : Layout.TilesN ⟨2, ![512, 4096]⟩ ⟨2, ![1024, 4096]⟩ fun b => Layout.cutSize [2, 2, 2] ((![[0], []] : Fin 2 → List ℕ) b) := by decide

section Blocks

variable (X : FVec Ideal ⟨2, ![2048, 1024]⟩ .f32) (Y : FVec Ideal ⟨2, ![2048, 4096]⟩ .f32)

/-- The products of the entries of row `x * 1024 + k` of the whole inputs, summed over the `k`. -/
def part (x r j : ℕ) : Ideal .f32 :=
  ∑ k : Fin 1024, X (ix 2048 1024 (x * 1024 + k.val) r) * Y (ix 2048 4096 (x * 1024 + k.val) j)

/-- The reference's product at row `r` and column `j` is the sum of the two halves. -/
theorem reference_at {r j : ℕ} (hr : r < 1024) (hj : j < 4096) :
    Host.dotGeneral Cert.ReferenceIdeal.dot_S1024x2048_S2048x4096_S1024x4096_1_0_0_1_n_n none
        (transpose Cert.ReferenceIdeal.S1024x2048 [1, 0] X Cert.ReferenceIdeal.Gen.transposes_S2048x1024_S1024x2048_1_0) Y (ix 1024 4096 r j)
      = part X Y 0 r j + part X Y 1 r j := by
  rw [ix2_of hr hj]
  refine (StackMember.dotGeneral_plain_apply none _ Y ⟨r, hr⟩ ⟨j, hj⟩).trans ?_
  rw [Fin.sum_univ_two_halves 1024 1024 rfl]
  have ht : ∀ k : Fin 2048, transpose Cert.ReferenceIdeal.S1024x2048 [1, 0] X Cert.ReferenceIdeal.Gen.transposes_S2048x1024_S1024x2048_1_0 (ValueIdx.ix2 ⟨r, hr⟩ k)
      = X (ValueIdx.ix2 k ⟨r, hr⟩) := fun k => by
    refine transpose_apply _ _ _ _ _ fun b => ?_
    match b with
    | ⟨0, _⟩ => rfl
    | ⟨1, _⟩ => rfl
  unfold part
  refine congrArg₂ (fun a b : Ideal .f32 => a + b) (Finset.sum_congr rfl fun k _ => ?_) (Finset.sum_congr rfl fun k _ => ?_)
  · have hk : 0 * 1024 + k.val < 2048 := by omega
    rw [ht, ix2_of hk hr, ix2_of hk hj]
    simp only [Nat.zero_mul, Nat.zero_add]
  · have hk : 1 * 1024 + k.val < 2048 := by omega
    rw [ht, ix2_of hk hr, ix2_of hk hj]

theorem mesh_row (c : Dev nD) : Layout.meshLin [2, 2, 2] c.val [0] = xb c := by revert c; decide

/-- Where row `a` and column `b` of device `c`'s block are in the whole array. -/
theorem block_at {n0 n1 N0 : ℕ} [NeZero n0] [NeZero n1] [NeZero N0] (v : (⟨2, ![N0, n1]⟩ : Shape).Idx → Ideal .f32) (c : Dev nD)
    (h : Layout.TilesN ⟨2, ![n0, n1]⟩ ⟨2, ![N0, n1]⟩ fun b => Layout.cutSize [2, 2, 2] ((![[0], []] : Fin 2 → List ℕ) b))
    {a b : ℕ} (ha : a < n0) (hb : b < n1) :
    Layout.blockN ⟨2, ![n0, n1]⟩ ⟨2, ![N0, n1]⟩ (Layout.meshBlock [2, 2, 2] ![[0], []] c axes_live) v h (ix n0 n1 a b)
      = v (ix N0 n1 (xb c * n0 + a) b) := by
  refine congrArg v (ix_eq _ ?_ ?_).symm
  · refine (h.idx_val _ _ _).trans ?_
    show Layout.meshLin [2, 2, 2] c.val [0] * n0 + ((ix n0 n1 a b) 0).val = _
    rw [mesh_row, ix_0 ha]
  · refine (h.idx_val _ _ _).trans ?_
    show 0 * n1 + ((ix n0 n1 a b) 1).val = _
    rw [ix_1 hb, Nat.zero_mul, Nat.zero_add]

variable (hX : ∀ c : Dev nD, m ((c : Thread nD τ).loc main_arg0)
    = Layout.blockN ⟨2, ![1024, 1024]⟩ ⟨2, ![2048, 1024]⟩ (Layout.meshBlock [2, 2, 2] ![[0], []] c axes_live) X tiles_x)
  (hY : ∀ c : Dev nD, m ((c : Thread nD τ).loc main_arg1)
    = Layout.blockN ⟨2, ![1024, 4096]⟩ ⟨2, ![2048, 4096]⟩ (Layout.meshBlock [2, 2, 2] ![[0], []] c axes_live) Y tiles_y)

include hX hY

/-- A partial product in terms of the whole inputs. -/
theorem part_whole (c : Dev nD) {r t : ℕ} (hr : r < 1024) (ht : t < 1024) :
    pa m c (ix 1024 1024 r t) = part X Y (xb c) r (1024 * qn c + t) := by
  have hq : qn c < 4 := qn_lt c
  rw [part_at m c hr ht]
  unfold part
  refine Finset.sum_congr rfl fun k _ => congrArg₂ (fun a b : Ideal .f32 => a * b) ?_ ?_
  · unfold xa
    rw [xs_eq, hX c]
    exact block_at X c _ k.isLt hr
  · unfold ya
    rw [ds_eq, hY c]
    exact block_at Y c _ k.isLt (by omega)

/-- The result of device `c` is its block of the reference's product. -/
theorem out_eq (c : Dev nD) : outB m c
    = Layout.blockN ⟨2, ![512, 4096]⟩ ⟨2, ![1024, 4096]⟩ (Layout.meshBlock [2, 2, 2] ![[0], []] c axes_live)
      (Host.dotGeneral Cert.ReferenceIdeal.dot_S1024x2048_S2048x4096_S1024x4096_1_0_0_1_n_n none
        (transpose Cert.ReferenceIdeal.S1024x2048 [1, 0] X Cert.ReferenceIdeal.Gen.transposes_S2048x1024_S1024x2048_1_0) Y) tiles_o := by
  funext i
  have hr : (i 0).val < 512 := (i 0).isLt
  have hj : (i 1).val < 4096 := (i 1).isLt
  have hb : xb c < 2 := xb_lt c
  rw [← ix_eq i rfl rfl]
  generalize (i 0).val = r at hr ⊢
  generalize (i 1).val = j at hj ⊢
  rw [block_at _ c _ hr hj, reference_at X Y (by omega) hj]
  refine (out_at m c hr hj).trans ?_
  have hx : xb (at4 (xb c) (j / 1024)) = xb c := at4_xb c ⟨j / 1024, by omega⟩
  have hq : qn (at4 (xb c) (j / 1024)) = j / 1024 := at4_qn c ⟨j / 1024, by omega⟩
  have hm : j % 1024 < 1024 := Nat.mod_lt j (by decide)
  rw [part_whole m X Y hX hY _ (by omega) hm, part_whole m X Y hX hY _ (by omega) hm, xb_xn, qn_xn, hx, hq, Nat.div_add_mod, Nat.mul_comm 512]
  rcases (by omega : xb c = 0 ∨ xb c = 1) with h | h <;> rw [h]
  exact add_comm _ _

end Blocks

end Cert.KernelIdeal.Mesh

end
-- ==== Proof.lean ====
/-
# The claims

The program runs and leaves its arguments and every counter as they were, at the machine's values and at the extended reals; so does
the reference; and over the extended reals every device's result is its block of the reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- At any float values the program ends, with its arguments unchanged and every counter at zero. -/
theorem run_frame {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run _ _ _).mono (fun _ h => ⟨fun c => (h.1 c).2, h.2⟩) (Cert.KernelIdeal.Mesh.run_main m ρ)

/-- The two readings of the program call the same bodies. -/
theorem bodies_same {F : FTy → Type} [FloatOps F] [hK : Cert.Kernel.Facts] [hI : Cert.KernelIdeal.Facts] :
    @Cert.Kernel.defs₀ F _ hK = @Cert.KernelIdeal.defs₀ F _ hI := by
  unfold Cert.Kernel.defs₀ Cert.KernelIdeal.defs₀
  refine congrArg Defs.onTc (funext fun l => funext fun a => ?_)
  match l, a with
  | 0, (t, s) => rfl
theorem tables_same {F : FTy → Type} [FloatOps F] [hK : Cert.Kernel.Facts] [hI : Cert.KernelIdeal.Facts] :
    @Cert.Kernel.defs F _ hK = @Cert.KernelIdeal.defs F _ hI :=
  congrArg (Pipeline.defs Cert.KernelIdeal.pcfgs) bodies_same

/-- The program at the machine's values: it ends, with its arguments unchanged and every counter at zero. -/
theorem frame_kernel : Cert.quiescent_Kernel := fun m ρ _ => by
  rw [tables_same]
  exact run_frame (F := Bits) m ρ

/-- The same at the extended reals. -/
theorem frame_ideal : Cert.quiescent_KernelIdeal := fun m ρ _ => run_frame (F := Ideal) m ρ

/-- The same of the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its block of the reference's. -/
theorem equal : Cert.algebraic_KernelIdeal_ReferenceIdeal := fun m ρ m' ρ' _ hm =>
  ⟨_, (θ_run Cert.KernelIdeal.defs _ _).mono
      (fun _ h c => ⟨(h.1 c).1.trans (Cert.KernelIdeal.Mesh.out_eq m _ _ (fun d => (hm d).1) (fun d => (hm d).2) c), (h.1 c).2⟩)
      (Cert.KernelIdeal.Mesh.run_main (F := Ideal) m ρ),
    (θ_run Cert.ReferenceIdeal.defs _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, equal⟩

end Cert.Proof

end
